-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPq (m : (ℓ : Loc Cert.KernelPq.nD Cert.KernelPq.τ Cert.KernelPq.sig) → Buf (Elt Bits) ℓ) : Prop :=
  True

def Pre_KernelPqIdeal (m : (ℓ : Loc Cert.KernelPqIdeal.nD Cert.KernelPqIdeal.τ Cert.KernelPqIdeal.sig) → Buf (Elt Ideal) ℓ) : Prop :=
  True

def Pre_ReferencePqIdeal (m : (ℓ : Loc Cert.ReferencePqIdeal.nD Cert.ReferencePqIdeal.τ Cert.ReferencePqIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelGated (m : (ℓ : Loc Cert.KernelGated.nD Cert.KernelGated.τ Cert.KernelGated.sig) → Buf (Elt Bits) ℓ) : Prop :=
  True

def Pre_KernelGatedIdeal (m : (ℓ : Loc Cert.KernelGatedIdeal.nD Cert.KernelGatedIdeal.τ Cert.KernelGatedIdeal.sig) → Buf (Elt Ideal) ℓ) : Prop :=
  True

def Pre_ReferenceGatedIdeal (m : (ℓ : Loc Cert.ReferenceGatedIdeal.nD Cert.ReferenceGatedIdeal.τ Cert.ReferenceGatedIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_KernelSsdIdeal_finite_dt [hPre_finite_dt : Cert.Pre_finite_dt.Facts] (m : (ℓ : Loc Cert.KernelSsdIdeal.nD Cert.KernelSsdIdeal.τ Cert.KernelSsdIdeal.sig) → Buf (Elt Ideal) ℓ) : Prop :=
  ∀ c : Dev Cert.KernelSsdIdeal.nD,
    (Cert.Pre_finite_dt.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).1 = (fun _ => 1#1)
    ∧ (Cert.Pre_finite_dt.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).2.1 = (fun _ => 1#1)
    ∧ (Cert.Pre_finite_dt.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).2.2 = (fun _ => 1#1)

def Pre_ReferenceSsdIdeal (m : (ℓ : Loc Cert.ReferenceSsdIdeal.nD Cert.ReferenceSsdIdeal.τ Cert.ReferenceSsdIdeal.sig) → Buf (Elt Ideal) ℓ) : Prop :=
  True

def Pre_ReferenceSsdIdeal_finite_dt [hPre_finite_dt : Cert.Pre_finite_dt.Facts] (m : (ℓ : Loc Cert.ReferenceSsdIdeal.nD Cert.ReferenceSsdIdeal.τ Cert.ReferenceSsdIdeal.sig) → Buf (Elt Ideal) ℓ) : Prop :=
  ∀ c : Dev Cert.ReferenceSsdIdeal.nD,
    (Cert.Pre_finite_dt.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).1 = (fun _ => 1#1)
    ∧ (Cert.Pre_finite_dt.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).2.1 = (fun _ => 1#1)
    ∧ (Cert.Pre_finite_dt.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).2.2 = (fun _ => 1#1)

def Pre_KernelFinalS (m : (ℓ : Loc Cert.KernelFinalS.nD Cert.KernelFinalS.τ Cert.KernelFinalS.sig) → Buf (Elt Bits) ℓ) : Prop :=
  True

def Pre_KernelFinalSIdeal (m : (ℓ : Loc Cert.KernelFinalSIdeal.nD Cert.KernelFinalSIdeal.τ Cert.KernelFinalSIdeal.sig) → Buf (Elt Ideal) ℓ) : Prop :=
  True

def Pre_ReferenceFinalSIdeal (m : (ℓ : Loc Cert.ReferenceFinalSIdeal.nD Cert.ReferenceFinalSIdeal.τ Cert.ReferenceFinalSIdeal.sig) → Buf (Elt Ideal) ℓ) : Prop :=
  True

def Pre_KernelInS (m : (ℓ : Loc Cert.KernelInS.nD Cert.KernelInS.τ Cert.KernelInS.sig) → Buf (Elt Bits) ℓ) : Prop :=
  True

def Pre_KernelInSIdeal (m : (ℓ : Loc Cert.KernelInSIdeal.nD Cert.KernelInSIdeal.τ Cert.KernelInSIdeal.sig) → Buf (Elt Ideal) ℓ) : Prop :=
  True

def Pre_ReferenceInSIdeal (m : (ℓ : Loc Cert.ReferenceInSIdeal.nD Cert.ReferenceInSIdeal.τ Cert.ReferenceInSIdeal.sig) → Buf (Elt Ideal) ℓ) : Prop :=
  True

def Pre_KernelKvS (m : (ℓ : Loc Cert.KernelKvS.nD Cert.KernelKvS.τ Cert.KernelKvS.sig) → Buf (Elt Bits) ℓ) : Prop :=
  True

def Pre_KernelKvSIdeal (m : (ℓ : Loc Cert.KernelKvSIdeal.nD Cert.KernelKvSIdeal.τ Cert.KernelKvSIdeal.sig) → Buf (Elt Ideal) ℓ) : Prop :=
  True

def Pre_ReferenceKvSIdeal (m : (ℓ : Loc Cert.ReferenceKvSIdeal.nD Cert.ReferenceKvSIdeal.τ Cert.ReferenceKvSIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelPq [hKernelPq : Cert.KernelPq.Facts] : Prop :=
  ∀ (m : (ℓ : Loc Cert.KernelPq.nD Cert.KernelPq.τ Cert.KernelPq.sig) → Buf (Elt Bits) ℓ) (g : Dev Cert.KernelPq.nD → PrngReg), Pre_KernelPq m →
    θ_run (Cert.KernelPq.defs (F := Bits)) (onTc (τ := Cert.KernelPq.τ) (Cert.KernelPq.main (F := Bits))) ⟨m, fun _ => 0, g⟩ (fun r => (∀ c : Dev Cert.KernelPq.nD,
      r.2.mem ((c.tc : Thread Cert.KernelPq.nD Cert.KernelPq.τ).loc Cert.KernelPq.main_arg0) = m ((c.tc : Thread Cert.KernelPq.nD Cert.KernelPq.τ).loc Cert.KernelPq.main_arg0)
      ∧ r.2.mem ((c.tc : Thread Cert.KernelPq.nD Cert.KernelPq.τ).loc Cert.KernelPq.main_arg1) = m ((c.tc : Thread Cert.KernelPq.nD Cert.KernelPq.τ).loc Cert.KernelPq.main_arg1)
      ∧ r.2.mem ((c.tc : Thread Cert.KernelPq.nD Cert.KernelPq.τ).loc Cert.KernelPq.main_arg2) = m ((c.tc : Thread Cert.KernelPq.nD Cert.KernelPq.τ).loc Cert.KernelPq.main_arg2))
      ∧ r.2.sem = fun _ => 0)

def quiescent_KernelPqIdeal [hKernelPqIdeal : Cert.KernelPqIdeal.Facts] : Prop :=
  ∀ (m : (ℓ : Loc Cert.KernelPqIdeal.nD Cert.KernelPqIdeal.τ Cert.KernelPqIdeal.sig) → Buf (Elt Ideal) ℓ) (g : Dev Cert.KernelPqIdeal.nD → PrngReg), Pre_KernelPqIdeal m →
    θ_run (Cert.KernelPqIdeal.defs (F := Ideal)) (onTc (τ := Cert.KernelPqIdeal.τ) (Cert.KernelPqIdeal.main (F := Ideal))) ⟨m, fun _ => 0, g⟩ (fun r => (∀ c : Dev Cert.KernelPqIdeal.nD,
      r.2.mem ((c.tc : Thread Cert.KernelPqIdeal.nD Cert.KernelPqIdeal.τ).loc Cert.KernelPqIdeal.main_arg0) = m ((c.tc : Thread Cert.KernelPqIdeal.nD Cert.KernelPqIdeal.τ).loc Cert.KernelPqIdeal.main_arg0)
      ∧ r.2.mem ((c.tc : Thread Cert.KernelPqIdeal.nD Cert.KernelPqIdeal.τ).loc Cert.KernelPqIdeal.main_arg1) = m ((c.tc : Thread Cert.KernelPqIdeal.nD Cert.KernelPqIdeal.τ).loc Cert.KernelPqIdeal.main_arg1)
      ∧ r.2.mem ((c.tc : Thread Cert.KernelPqIdeal.nD Cert.KernelPqIdeal.τ).loc Cert.KernelPqIdeal.main_arg2) = m ((c.tc : Thread Cert.KernelPqIdeal.nD Cert.KernelPqIdeal.τ).loc Cert.KernelPqIdeal.main_arg2))
      ∧ r.2.sem = fun _ => 0)

def quiescent_ReferencePqIdeal [hReferencePqIdeal : Cert.ReferencePqIdeal.Facts] : Prop :=
  ∀ (m : (ℓ : Loc Cert.ReferencePqIdeal.nD Cert.ReferencePqIdeal.τ Cert.ReferencePqIdeal.sig) → Buf (Elt Ideal) ℓ) (g : Dev Cert.ReferencePqIdeal.nD → PrngReg), Pre_ReferencePqIdeal m →
    θ_run (Cert.ReferencePqIdeal.defs (F := Ideal)) (onTc (τ := Cert.ReferencePqIdeal.τ) (Cert.ReferencePqIdeal.main (F := Ideal))) ⟨m, fun _ => 0, g⟩ (fun r => (∀ c : Dev Cert.ReferencePqIdeal.nD,
      r.2.mem ((c.tc : Thread Cert.ReferencePqIdeal.nD Cert.ReferencePqIdeal.τ).loc Cert.ReferencePqIdeal.main_arg0) = m ((c.tc : Thread Cert.ReferencePqIdeal.nD Cert.ReferencePqIdeal.τ).loc Cert.ReferencePqIdeal.main_arg0)
      ∧ r.2.mem ((c.tc : Thread Cert.ReferencePqIdeal.nD Cert.ReferencePqIdeal.τ).loc Cert.ReferencePqIdeal.main_arg1) = m ((c.tc : Thread Cert.ReferencePqIdeal.nD Cert.ReferencePqIdeal.τ).loc Cert.ReferencePqIdeal.main_arg1)
      ∧ r.2.mem ((c.tc : Thread Cert.ReferencePqIdeal.nD Cert.ReferencePqIdeal.τ).loc Cert.ReferencePqIdeal.main_arg2) = m ((c.tc : Thread Cert.ReferencePqIdeal.nD Cert.ReferencePqIdeal.τ).loc Cert.ReferencePqIdeal.main_arg2))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2)
      ∧ r.2.mem ((c.tc : Thread Cert.KernelQ.nD Cert.KernelQ.τ).loc Cert.KernelQ.main_arg3) = m ((c.tc : Thread Cert.KernelQ.nD Cert.KernelQ.τ).loc Cert.KernelQ.main_arg3))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
      ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2)
      ∧ r.2.mem ((c.tc : Thread Cert.ReferenceQIdeal.nD Cert.ReferenceQIdeal.τ).loc Cert.ReferenceQIdeal.main_arg3) = m ((c.tc : Thread Cert.ReferenceQIdeal.nD Cert.ReferenceQIdeal.τ).loc Cert.ReferenceQIdeal.main_arg3))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3))
      ∧ r.2.sem = fun _ => 0)

def quiescent_KernelGated [hKernelGated : Cert.KernelGated.Facts] : Prop :=
  ∀ (m : (ℓ : Loc Cert.KernelGated.nD Cert.KernelGated.τ Cert.KernelGated.sig) → Buf (Elt Bits) ℓ) (g : Dev Cert.KernelGated.nD → PrngReg), Pre_KernelGated m →
    θ_run (Cert.KernelGated.defs (F := Bits)) (onTc (τ := Cert.KernelGated.τ) (Cert.KernelGated.main (F := Bits))) ⟨m, fun _ => 0, g⟩ (fun r => (∀ c : Dev Cert.KernelGated.nD,
      r.2.mem ((c.tc : Thread Cert.KernelGated.nD Cert.KernelGated.τ).loc Cert.KernelGated.main_arg0) = m ((c.tc : Thread Cert.KernelGated.nD Cert.KernelGated.τ).loc Cert.KernelGated.main_arg0)
      ∧ r.2.mem ((c.tc : Thread Cert.KernelGated.nD Cert.KernelGated.τ).loc Cert.KernelGated.main_arg1) = m ((c.tc : Thread Cert.KernelGated.nD Cert.KernelGated.τ).loc Cert.KernelGated.main_arg1)
      ∧ r.2.mem ((c.tc : Thread Cert.KernelGated.nD Cert.KernelGated.τ).loc Cert.KernelGated.main_arg2) = m ((c.tc : Thread Cert.KernelGated.nD Cert.KernelGated.τ).loc Cert.KernelGated.main_arg2)
      ∧ r.2.mem ((c.tc : Thread Cert.KernelGated.nD Cert.KernelGated.τ).loc Cert.KernelGated.main_arg3) = m ((c.tc : Thread Cert.KernelGated.nD Cert.KernelGated.τ).loc Cert.KernelGated.main_arg3)
      ∧ r.2.mem ((c.tc : Thread Cert.KernelGated.nD Cert.KernelGated.τ).loc Cert.KernelGated.main_arg4) = m ((c.tc : Thread Cert.KernelGated.nD Cert.KernelGated.τ).loc Cert.KernelGated.main_arg4))
      ∧ r.2.sem = fun _ => 0)

def quiescent_KernelGatedIdeal [hKernelGatedIdeal : Cert.KernelGatedIdeal.Facts] : Prop :=
  ∀ (m : (ℓ : Loc Cert.KernelGatedIdeal.nD Cert.KernelGatedIdeal.τ Cert.KernelGatedIdeal.sig) → Buf (Elt Ideal) ℓ) (g : Dev Cert.KernelGatedIdeal.nD → PrngReg), Pre_KernelGatedIdeal m →
    θ_run (Cert.KernelGatedIdeal.defs (F := Ideal)) (onTc (τ := Cert.KernelGatedIdeal.τ) (Cert.KernelGatedIdeal.main (F := Ideal))) ⟨m, fun _ => 0, g⟩ (fun r => (∀ c : Dev Cert.KernelGatedIdeal.nD,
      r.2.mem ((c.tc : Thread Cert.KernelGatedIdeal.nD Cert.KernelGatedIdeal.τ).loc Cert.KernelGatedIdeal.main_arg0) = m ((c.tc : Thread Cert.KernelGatedIdeal.nD Cert.KernelGatedIdeal.τ).loc Cert.KernelGatedIdeal.main_arg0)
      ∧ r.2.mem ((c.tc : Thread Cert.KernelGatedIdeal.nD Cert.KernelGatedIdeal.τ).loc Cert.KernelGatedIdeal.main_arg1) = m ((c.tc : Thread Cert.KernelGatedIdeal.nD Cert.KernelGatedIdeal.τ).loc Cert.KernelGatedIdeal.main_arg1)
      ∧ r.2.mem ((c.tc : Thread Cert.KernelGatedIdeal.nD Cert.KernelGatedIdeal.τ).loc Cert.KernelGatedIdeal.main_arg2) = m ((c.tc : Thread Cert.KernelGatedIdeal.nD Cert.KernelGatedIdeal.τ).loc Cert.KernelGatedIdeal.main_arg2)
      ∧ r.2.mem ((c.tc : Thread Cert.KernelGatedIdeal.nD Cert.KernelGatedIdeal.τ).loc Cert.KernelGatedIdeal.main_arg3) = m ((c.tc : Thread Cert.KernelGatedIdeal.nD Cert.KernelGatedIdeal.τ).loc Cert.KernelGatedIdeal.main_arg3)
      ∧ r.2.mem ((c.tc : Thread Cert.KernelGatedIdeal.nD Cert.KernelGatedIdeal.τ).loc Cert.KernelGatedIdeal.main_arg4) = m ((c.tc : Thread Cert.KernelGatedIdeal.nD Cert.KernelGatedIdeal.τ).loc Cert.KernelGatedIdeal.main_arg4))
      ∧ r.2.sem = fun _ => 0)

def quiescent_ReferenceGatedIdeal [hReferenceGatedIdeal : Cert.ReferenceGatedIdeal.Facts] : Prop :=
  ∀ (m : (ℓ : Loc Cert.ReferenceGatedIdeal.nD Cert.ReferenceGatedIdeal.τ Cert.ReferenceGatedIdeal.sig) → Buf (Elt Ideal) ℓ) (g : Dev Cert.ReferenceGatedIdeal.nD → PrngReg), Pre_ReferenceGatedIdeal m →
    θ_run (Cert.ReferenceGatedIdeal.defs (F := Ideal)) (onTc (τ := Cert.ReferenceGatedIdeal.τ) (Cert.ReferenceGatedIdeal.main (F := Ideal))) ⟨m, fun _ => 0, g⟩ (fun r => (∀ c : Dev Cert.ReferenceGatedIdeal.nD,
      r.2.mem ((c.tc : Thread Cert.ReferenceGatedIdeal.nD Cert.ReferenceGatedIdeal.τ).loc Cert.ReferenceGatedIdeal.main_arg0) = m ((c.tc : Thread Cert.ReferenceGatedIdeal.nD Cert.ReferenceGatedIdeal.τ).loc Cert.ReferenceGatedIdeal.main_arg0)
      ∧ r.2.mem ((c.tc : Thread Cert.ReferenceGatedIdeal.nD Cert.ReferenceGatedIdeal.τ).loc Cert.ReferenceGatedIdeal.main_arg1) = m ((c.tc : Thread Cert.ReferenceGatedIdeal.nD Cert.ReferenceGatedIdeal.τ).loc Cert.ReferenceGatedIdeal.main_arg1)
      ∧ r.2.mem ((c.tc : Thread Cert.ReferenceGatedIdeal.nD Cert.ReferenceGatedIdeal.τ).loc Cert.ReferenceGatedIdeal.main_arg2) = m ((c.tc : Thread Cert.ReferenceGatedIdeal.nD Cert.ReferenceGatedIdeal.τ).loc Cert.ReferenceGatedIdeal.main_arg2)
      ∧ r.2.mem ((c.tc : Thread Cert.ReferenceGatedIdeal.nD Cert.ReferenceGatedIdeal.τ).loc Cert.ReferenceGatedIdeal.main_arg3) = m ((c.tc : Thread Cert.ReferenceGatedIdeal.nD Cert.ReferenceGatedIdeal.τ).loc Cert.ReferenceGatedIdeal.main_arg3)
      ∧ r.2.mem ((c.tc : Thread Cert.ReferenceGatedIdeal.nD Cert.ReferenceGatedIdeal.τ).loc Cert.ReferenceGatedIdeal.main_arg4) = m ((c.tc : Thread Cert.ReferenceGatedIdeal.nD Cert.ReferenceGatedIdeal.τ).loc Cert.ReferenceGatedIdeal.main_arg4))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5))
      ∧ r.2.sem = fun _ => 0)

def quiescent_KernelSsdIdeal_pre_finite_dt [hKernelSsdIdeal : Cert.KernelSsdIdeal.Facts] [hPre_finite_dt : Cert.Pre_finite_dt.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal_finite_dt m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5))
      ∧ r.2.sem = fun _ => 0)

def quiescent_ReferenceSsdIdeal_pre_finite_dt [hReferenceSsdIdeal : Cert.ReferenceSsdIdeal.Facts] [hPre_finite_dt : Cert.Pre_finite_dt.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal_finite_dt m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5))
      ∧ r.2.sem = fun _ => 0)

def quiescent_KernelFinalS [hKernelFinalS : Cert.KernelFinalS.Facts] : Prop :=
  ∀ (m : (ℓ : Loc Cert.KernelFinalS.nD Cert.KernelFinalS.τ Cert.KernelFinalS.sig) → Buf (Elt Bits) ℓ) (g : Dev Cert.KernelFinalS.nD → PrngReg), Pre_KernelFinalS m →
    θ_run (Cert.KernelFinalS.defs (F := Bits)) (onTc (τ := Cert.KernelFinalS.τ) (Cert.KernelFinalS.main (F := Bits))) ⟨m, fun _ => 0, g⟩ (fun r => (∀ c : Dev Cert.KernelFinalS.nD,
      r.2.mem ((c.tc : Thread Cert.KernelFinalS.nD Cert.KernelFinalS.τ).loc Cert.KernelFinalS.main_arg0) = m ((c.tc : Thread Cert.KernelFinalS.nD Cert.KernelFinalS.τ).loc Cert.KernelFinalS.main_arg0)
      ∧ r.2.mem ((c.tc : Thread Cert.KernelFinalS.nD Cert.KernelFinalS.τ).loc Cert.KernelFinalS.main_arg1) = m ((c.tc : Thread Cert.KernelFinalS.nD Cert.KernelFinalS.τ).loc Cert.KernelFinalS.main_arg1))
      ∧ r.2.sem = fun _ => 0)

def quiescent_KernelFinalSIdeal [hKernelFinalSIdeal : Cert.KernelFinalSIdeal.Facts] : Prop :=
  ∀ (m : (ℓ : Loc Cert.KernelFinalSIdeal.nD Cert.KernelFinalSIdeal.τ Cert.KernelFinalSIdeal.sig) → Buf (Elt Ideal) ℓ) (g : Dev Cert.KernelFinalSIdeal.nD → PrngReg), Pre_KernelFinalSIdeal m →
    θ_run (Cert.KernelFinalSIdeal.defs (F := Ideal)) (onTc (τ := Cert.KernelFinalSIdeal.τ) (Cert.KernelFinalSIdeal.main (F := Ideal))) ⟨m, fun _ => 0, g⟩ (fun r => (∀ c : Dev Cert.KernelFinalSIdeal.nD,
      r.2.mem ((c.tc : Thread Cert.KernelFinalSIdeal.nD Cert.KernelFinalSIdeal.τ).loc Cert.KernelFinalSIdeal.main_arg0) = m ((c.tc : Thread Cert.KernelFinalSIdeal.nD Cert.KernelFinalSIdeal.τ).loc Cert.KernelFinalSIdeal.main_arg0)
      ∧ r.2.mem ((c.tc : Thread Cert.KernelFinalSIdeal.nD Cert.KernelFinalSIdeal.τ).loc Cert.KernelFinalSIdeal.main_arg1) = m ((c.tc : Thread Cert.KernelFinalSIdeal.nD Cert.KernelFinalSIdeal.τ).loc Cert.KernelFinalSIdeal.main_arg1))
      ∧ r.2.sem = fun _ => 0)

def quiescent_ReferenceFinalSIdeal [hReferenceFinalSIdeal : Cert.ReferenceFinalSIdeal.Facts] : Prop :=
  ∀ (m : (ℓ : Loc Cert.ReferenceFinalSIdeal.nD Cert.ReferenceFinalSIdeal.τ Cert.ReferenceFinalSIdeal.sig) → Buf (Elt Ideal) ℓ) (g : Dev Cert.ReferenceFinalSIdeal.nD → PrngReg), Pre_ReferenceFinalSIdeal m →
    θ_run (Cert.ReferenceFinalSIdeal.defs (F := Ideal)) (onTc (τ := Cert.ReferenceFinalSIdeal.τ) (Cert.ReferenceFinalSIdeal.main (F := Ideal))) ⟨m, fun _ => 0, g⟩ (fun r => (∀ c : Dev Cert.ReferenceFinalSIdeal.nD,
      r.2.mem ((c.tc : Thread Cert.ReferenceFinalSIdeal.nD Cert.ReferenceFinalSIdeal.τ).loc Cert.ReferenceFinalSIdeal.main_arg0) = m ((c.tc : Thread Cert.ReferenceFinalSIdeal.nD Cert.ReferenceFinalSIdeal.τ).loc Cert.ReferenceFinalSIdeal.main_arg0)
      ∧ r.2.mem ((c.tc : Thread Cert.ReferenceFinalSIdeal.nD Cert.ReferenceFinalSIdeal.τ).loc Cert.ReferenceFinalSIdeal.main_arg1) = m ((c.tc : Thread Cert.ReferenceFinalSIdeal.nD Cert.ReferenceFinalSIdeal.τ).loc Cert.ReferenceFinalSIdeal.main_arg1))
      ∧ r.2.sem = fun _ => 0)

def quiescent_KernelInS [hKernelInS : Cert.KernelInS.Facts] : Prop :=
  ∀ (m : (ℓ : Loc Cert.KernelInS.nD Cert.KernelInS.τ Cert.KernelInS.sig) → Buf (Elt Bits) ℓ) (g : Dev Cert.KernelInS.nD → PrngReg), Pre_KernelInS m →
    θ_run (Cert.KernelInS.defs (F := Bits)) (onTc (τ := Cert.KernelInS.τ) (Cert.KernelInS.main (F := Bits))) ⟨m, fun _ => 0, g⟩ (fun r => (∀ c : Dev Cert.KernelInS.nD,
      r.2.mem ((c.tc : Thread Cert.KernelInS.nD Cert.KernelInS.τ).loc Cert.KernelInS.main_arg0) = m ((c.tc : Thread Cert.KernelInS.nD Cert.KernelInS.τ).loc Cert.KernelInS.main_arg0)
      ∧ r.2.mem ((c.tc : Thread Cert.KernelInS.nD Cert.KernelInS.τ).loc Cert.KernelInS.main_arg1) = m ((c.tc : Thread Cert.KernelInS.nD Cert.KernelInS.τ).loc Cert.KernelInS.main_arg1)
      ∧ r.2.mem ((c.tc : Thread Cert.KernelInS.nD Cert.KernelInS.τ).loc Cert.KernelInS.main_arg2) = m ((c.tc : Thread Cert.KernelInS.nD Cert.KernelInS.τ).loc Cert.KernelInS.main_arg2))
      ∧ r.2.sem = fun _ => 0)

def quiescent_KernelInSIdeal [hKernelInSIdeal : Cert.KernelInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg), Pre_KernelInSIdeal m →
    θ_run (Cert.KernelInSIdeal.defs (F := Ideal)) (onTc (τ := Cert.KernelInSIdeal.τ) (Cert.KernelInSIdeal.main (F := Ideal))) ⟨m, fun _ => 0, g⟩ (fun r => (∀ c : Dev Cert.KernelInSIdeal.nD,
      r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
      ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
      ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2))
      ∧ r.2.sem = fun _ => 0)

def quiescent_ReferenceInSIdeal [hReferenceInSIdeal : Cert.ReferenceInSIdeal.Facts] : Prop :=
  ∀ (m : (ℓ : Loc Cert.ReferenceInSIdeal.nD Cert.ReferenceInSIdeal.τ Cert.ReferenceInSIdeal.sig) → Buf (Elt Ideal) ℓ) (g : Dev Cert.ReferenceInSIdeal.nD → PrngReg), Pre_ReferenceInSIdeal m →
    θ_run (Cert.ReferenceInSIdeal.defs (F := Ideal)) (onTc (τ := Cert.ReferenceInSIdeal.τ) (Cert.ReferenceInSIdeal.main (F := Ideal))) ⟨m, fun _ => 0, g⟩ (fun r => (∀ c : Dev Cert.ReferenceInSIdeal.nD,
      r.2.mem ((c.tc : Thread Cert.ReferenceInSIdeal.nD Cert.ReferenceInSIdeal.τ).loc Cert.ReferenceInSIdeal.main_arg0) = m ((c.tc : Thread Cert.ReferenceInSIdeal.nD Cert.ReferenceInSIdeal.τ).loc Cert.ReferenceInSIdeal.main_arg0)
      ∧ r.2.mem ((c.tc : Thread Cert.ReferenceInSIdeal.nD Cert.ReferenceInSIdeal.τ).loc Cert.ReferenceInSIdeal.main_arg1) = m ((c.tc : Thread Cert.ReferenceInSIdeal.nD Cert.ReferenceInSIdeal.τ).loc Cert.ReferenceInSIdeal.main_arg1)
      ∧ r.2.mem ((c.tc : Thread Cert.ReferenceInSIdeal.nD Cert.ReferenceInSIdeal.τ).loc Cert.ReferenceInSIdeal.main_arg2) = m ((c.tc : Thread Cert.ReferenceInSIdeal.nD Cert.ReferenceInSIdeal.τ).loc Cert.ReferenceInSIdeal.main_arg2))
      ∧ r.2.sem = fun _ => 0)

def quiescent_KernelKvS [hKernelKvS : Cert.KernelKvS.Facts] : Prop :=
  ∀ (m : (ℓ : Loc Cert.KernelKvS.nD Cert.KernelKvS.τ Cert.KernelKvS.sig) → Buf (Elt Bits) ℓ) (g : Dev Cert.KernelKvS.nD → PrngReg), Pre_KernelKvS m →
    θ_run (Cert.KernelKvS.defs (F := Bits)) (onTc (τ := Cert.KernelKvS.τ) (Cert.KernelKvS.main (F := Bits))) ⟨m, fun _ => 0, g⟩ (fun r => (∀ c : Dev Cert.KernelKvS.nD,
      r.2.mem ((c.tc : Thread Cert.KernelKvS.nD Cert.KernelKvS.τ).loc Cert.KernelKvS.main_arg0) = m ((c.tc : Thread Cert.KernelKvS.nD Cert.KernelKvS.τ).loc Cert.KernelKvS.main_arg0)
      ∧ r.2.mem ((c.tc : Thread Cert.KernelKvS.nD Cert.KernelKvS.τ).loc Cert.KernelKvS.main_arg1) = m ((c.tc : Thread Cert.KernelKvS.nD Cert.KernelKvS.τ).loc Cert.KernelKvS.main_arg1)
      ∧ r.2.mem ((c.tc : Thread Cert.KernelKvS.nD Cert.KernelKvS.τ).loc Cert.KernelKvS.main_arg2) = m ((c.tc : Thread Cert.KernelKvS.nD Cert.KernelKvS.τ).loc Cert.KernelKvS.main_arg2)
      ∧ r.2.mem ((c.tc : Thread Cert.KernelKvS.nD Cert.KernelKvS.τ).loc Cert.KernelKvS.main_arg3) = m ((c.tc : Thread Cert.KernelKvS.nD Cert.KernelKvS.τ).loc Cert.KernelKvS.main_arg3)
      ∧ r.2.mem ((c.tc : Thread Cert.KernelKvS.nD Cert.KernelKvS.τ).loc Cert.KernelKvS.main_arg4) = m ((c.tc : Thread Cert.KernelKvS.nD Cert.KernelKvS.τ).loc Cert.KernelKvS.main_arg4)
      ∧ r.2.mem ((c.tc : Thread Cert.KernelKvS.nD Cert.KernelKvS.τ).loc Cert.KernelKvS.main_arg5) = m ((c.tc : Thread Cert.KernelKvS.nD Cert.KernelKvS.τ).loc Cert.KernelKvS.main_arg5))
      ∧ r.2.sem = fun _ => 0)

def quiescent_KernelKvSIdeal [hKernelKvSIdeal : Cert.KernelKvSIdeal.Facts] : Prop :=
  ∀ (m : (ℓ : Loc Cert.KernelKvSIdeal.nD Cert.KernelKvSIdeal.τ Cert.KernelKvSIdeal.sig) → Buf (Elt Ideal) ℓ) (g : Dev Cert.KernelKvSIdeal.nD → PrngReg), Pre_KernelKvSIdeal m →
    θ_run (Cert.KernelKvSIdeal.defs (F := Ideal)) (onTc (τ := Cert.KernelKvSIdeal.τ) (Cert.KernelKvSIdeal.main (F := Ideal))) ⟨m, fun _ => 0, g⟩ (fun r => (∀ c : Dev Cert.KernelKvSIdeal.nD,
      r.2.mem ((c.tc : Thread Cert.KernelKvSIdeal.nD Cert.KernelKvSIdeal.τ).loc Cert.KernelKvSIdeal.main_arg0) = m ((c.tc : Thread Cert.KernelKvSIdeal.nD Cert.KernelKvSIdeal.τ).loc Cert.KernelKvSIdeal.main_arg0)
      ∧ r.2.mem ((c.tc : Thread Cert.KernelKvSIdeal.nD Cert.KernelKvSIdeal.τ).loc Cert.KernelKvSIdeal.main_arg1) = m ((c.tc : Thread Cert.KernelKvSIdeal.nD Cert.KernelKvSIdeal.τ).loc Cert.KernelKvSIdeal.main_arg1)
      ∧ r.2.mem ((c.tc : Thread Cert.KernelKvSIdeal.nD Cert.KernelKvSIdeal.τ).loc Cert.KernelKvSIdeal.main_arg2) = m ((c.tc : Thread Cert.KernelKvSIdeal.nD Cert.KernelKvSIdeal.τ).loc Cert.KernelKvSIdeal.main_arg2)
      ∧ r.2.mem ((c.tc : Thread Cert.KernelKvSIdeal.nD Cert.KernelKvSIdeal.τ).loc Cert.KernelKvSIdeal.main_arg3) = m ((c.tc : Thread Cert.KernelKvSIdeal.nD Cert.KernelKvSIdeal.τ).loc Cert.KernelKvSIdeal.main_arg3)
      ∧ r.2.mem ((c.tc : Thread Cert.KernelKvSIdeal.nD Cert.KernelKvSIdeal.τ).loc Cert.KernelKvSIdeal.main_arg4) = m ((c.tc : Thread Cert.KernelKvSIdeal.nD Cert.KernelKvSIdeal.τ).loc Cert.KernelKvSIdeal.main_arg4)
      ∧ r.2.mem ((c.tc : Thread Cert.KernelKvSIdeal.nD Cert.KernelKvSIdeal.τ).loc Cert.KernelKvSIdeal.main_arg5) = m ((c.tc : Thread Cert.KernelKvSIdeal.nD Cert.KernelKvSIdeal.τ).loc Cert.KernelKvSIdeal.main_arg5))
      ∧ r.2.sem = fun _ => 0)

def quiescent_ReferenceKvSIdeal [hReferenceKvSIdeal : Cert.ReferenceKvSIdeal.Facts] : Prop :=
  ∀ (m : (ℓ : Loc Cert.ReferenceKvSIdeal.nD Cert.ReferenceKvSIdeal.τ Cert.ReferenceKvSIdeal.sig) → Buf (Elt Ideal) ℓ) (g : Dev Cert.ReferenceKvSIdeal.nD → PrngReg), Pre_ReferenceKvSIdeal m →
    θ_run (Cert.ReferenceKvSIdeal.defs (F := Ideal)) (onTc (τ := Cert.ReferenceKvSIdeal.τ) (Cert.ReferenceKvSIdeal.main (F := Ideal))) ⟨m, fun _ => 0, g⟩ (fun r => (∀ c : Dev Cert.ReferenceKvSIdeal.nD,
      r.2.mem ((c.tc : Thread Cert.ReferenceKvSIdeal.nD Cert.ReferenceKvSIdeal.τ).loc Cert.ReferenceKvSIdeal.main_arg0) = m ((c.tc : Thread Cert.ReferenceKvSIdeal.nD Cert.ReferenceKvSIdeal.τ).loc Cert.ReferenceKvSIdeal.main_arg0)
      ∧ r.2.mem ((c.tc : Thread Cert.ReferenceKvSIdeal.nD Cert.ReferenceKvSIdeal.τ).loc Cert.ReferenceKvSIdeal.main_arg1) = m ((c.tc : Thread Cert.ReferenceKvSIdeal.nD Cert.ReferenceKvSIdeal.τ).loc Cert.ReferenceKvSIdeal.main_arg1)
      ∧ r.2.mem ((c.tc : Thread Cert.ReferenceKvSIdeal.nD Cert.ReferenceKvSIdeal.τ).loc Cert.ReferenceKvSIdeal.main_arg2) = m ((c.tc : Thread Cert.ReferenceKvSIdeal.nD Cert.ReferenceKvSIdeal.τ).loc Cert.ReferenceKvSIdeal.main_arg2)
      ∧ r.2.mem ((c.tc : Thread Cert.ReferenceKvSIdeal.nD Cert.ReferenceKvSIdeal.τ).loc Cert.ReferenceKvSIdeal.main_arg3) = m ((c.tc : Thread Cert.ReferenceKvSIdeal.nD Cert.ReferenceKvSIdeal.τ).loc Cert.ReferenceKvSIdeal.main_arg3)
      ∧ r.2.mem ((c.tc : Thread Cert.ReferenceKvSIdeal.nD Cert.ReferenceKvSIdeal.τ).loc Cert.ReferenceKvSIdeal.main_arg4) = m ((c.tc : Thread Cert.ReferenceKvSIdeal.nD Cert.ReferenceKvSIdeal.τ).loc Cert.ReferenceKvSIdeal.main_arg4)
      ∧ r.2.mem ((c.tc : Thread Cert.ReferenceKvSIdeal.nD Cert.ReferenceKvSIdeal.τ).loc Cert.ReferenceKvSIdeal.main_arg5) = m ((c.tc : Thread Cert.ReferenceKvSIdeal.nD Cert.ReferenceKvSIdeal.τ).loc Cert.ReferenceKvSIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v5)) (v1 : (c : Dev Cert.KernelInIdeal.nD) → Buf (Elt Ideal) ((c.tc : Thread Cert.KernelInIdeal.nD Cert.KernelInIdeal.τ).loc Cert.KernelInIdeal.main_v7)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5) = v0 c
          ∧ r.2.mem ((c.tc : Thread Cert.KernelInIdeal.nD Cert.KernelInIdeal.τ).loc Cert.KernelInIdeal.main_v7) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_v17) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelPq_KernelPqIdeal : Prop :=
  True

def algebraic_KernelPqIdeal_ReferencePqIdeal [hKernelPqIdeal : Cert.KernelPqIdeal.Facts] [hReferencePqIdeal : Cert.ReferencePqIdeal.Facts] : Prop :=
  ∀ (m : (ℓ : Loc Cert.KernelPqIdeal.nD Cert.KernelPqIdeal.τ Cert.KernelPqIdeal.sig) → Buf (Elt Ideal) ℓ) (g : Dev Cert.KernelPqIdeal.nD → PrngReg)
    (m' : (ℓ : Loc Cert.ReferencePqIdeal.nD Cert.ReferencePqIdeal.τ Cert.ReferencePqIdeal.sig) → Buf (Elt Ideal) ℓ) (g' : Dev Cert.ReferencePqIdeal.nD → PrngReg), Pre_KernelPqIdeal m →
    (∀ c : Dev Cert.KernelPqIdeal.nD,
      m' ((c.tc : Thread Cert.ReferencePqIdeal.nD Cert.ReferencePqIdeal.τ).loc Cert.ReferencePqIdeal.main_arg0) = m ((c.tc : Thread Cert.KernelPqIdeal.nD Cert.KernelPqIdeal.τ).loc Cert.KernelPqIdeal.main_arg0)
      ∧ m' ((c.tc : Thread Cert.ReferencePqIdeal.nD Cert.ReferencePqIdeal.τ).loc Cert.ReferencePqIdeal.main_arg1) = m ((c.tc : Thread Cert.KernelPqIdeal.nD Cert.KernelPqIdeal.τ).loc Cert.KernelPqIdeal.main_arg1)
      ∧ m' ((c.tc : Thread Cert.ReferencePqIdeal.nD Cert.ReferencePqIdeal.τ).loc Cert.ReferencePqIdeal.main_arg2) = m ((c.tc : Thread Cert.KernelPqIdeal.nD Cert.KernelPqIdeal.τ).loc Cert.KernelPqIdeal.main_arg2)) →
    ∃ (v0 : (c : Dev Cert.KernelPqIdeal.nD) → Buf (Elt Ideal) ((c.tc : Thread Cert.KernelPqIdeal.nD Cert.KernelPqIdeal.τ).loc Cert.KernelPqIdeal.main_v4)),
      θ_run (Cert.KernelPqIdeal.defs (F := Ideal)) (onTc (τ := Cert.KernelPqIdeal.τ) (Cert.KernelPqIdeal.main (F := Ideal))) ⟨m, fun _ => 0, g⟩ (fun r => ∀ c : Dev Cert.KernelPqIdeal.nD,
          r.2.mem ((c.tc : Thread Cert.KernelPqIdeal.nD Cert.KernelPqIdeal.τ).loc Cert.KernelPqIdeal.main_v4) = v0 c
          ∧ r.2.mem ((c.tc : Thread Cert.KernelPqIdeal.nD Cert.KernelPqIdeal.τ).loc Cert.KernelPqIdeal.main_arg0) = m ((c.tc : Thread Cert.KernelPqIdeal.nD Cert.KernelPqIdeal.τ).loc Cert.KernelPqIdeal.main_arg0)
          ∧ r.2.mem ((c.tc : Thread Cert.KernelPqIdeal.nD Cert.KernelPqIdeal.τ).loc Cert.KernelPqIdeal.main_arg1) = m ((c.tc : Thread Cert.KernelPqIdeal.nD Cert.KernelPqIdeal.τ).loc Cert.KernelPqIdeal.main_arg1)
          ∧ r.2.mem ((c.tc : Thread Cert.KernelPqIdeal.nD Cert.KernelPqIdeal.τ).loc Cert.KernelPqIdeal.main_arg2) = m ((c.tc : Thread Cert.KernelPqIdeal.nD Cert.KernelPqIdeal.τ).loc Cert.KernelPqIdeal.main_arg2))
      ∧ θ_run (Cert.ReferencePqIdeal.defs (F := Ideal)) (onTc (τ := Cert.ReferencePqIdeal.τ) (Cert.ReferencePqIdeal.main (F := Ideal))) ⟨m', fun _ => 0, g'⟩ (fun r => ∀ c : Dev Cert.ReferencePqIdeal.nD,
          r.2.mem ((c.tc : Thread Cert.ReferencePqIdeal.nD Cert.ReferencePqIdeal.τ).loc Cert.ReferencePqIdeal.main_v16) = v0 c
          ∧ r.2.mem ((c.tc : Thread Cert.ReferencePqIdeal.nD Cert.ReferencePqIdeal.τ).loc Cert.ReferencePqIdeal.main_arg0) = m' ((c.tc : Thread Cert.ReferencePqIdeal.nD Cert.ReferencePqIdeal.τ).loc Cert.ReferencePqIdeal.main_arg0)
          ∧ r.2.mem ((c.tc : Thread Cert.ReferencePqIdeal.nD Cert.ReferencePqIdeal.τ).loc Cert.ReferencePqIdeal.main_arg1) = m' ((c.tc : Thread Cert.ReferencePqIdeal.nD Cert.ReferencePqIdeal.τ).loc Cert.ReferencePqIdeal.main_arg1)
          ∧ r.2.mem ((c.tc : Thread Cert.ReferencePqIdeal.nD Cert.ReferencePqIdeal.τ).loc Cert.ReferencePqIdeal.main_arg2) = m' ((c.tc : Thread Cert.ReferencePqIdeal.nD Cert.ReferencePqIdeal.τ).loc Cert.ReferencePqIdeal.main_arg2))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)
      ∧ m' ((c.tc : Thread Cert.ReferenceQIdeal.nD Cert.ReferenceQIdeal.τ).loc Cert.ReferenceQIdeal.main_arg3) = m ((c.tc : Thread Cert.KernelQIdeal.nD Cert.KernelQIdeal.τ).loc Cert.KernelQIdeal.main_arg3)) →
    ∃ (v0 : (c : Dev Cert.KernelQIdeal.nD) → Buf (Elt Ideal) ((c.tc : Thread Cert.KernelQIdeal.nD Cert.KernelQIdeal.τ).loc Cert.KernelQIdeal.main_v3)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v3) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
          ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v16) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2)
          ∧ r.2.mem ((c.tc : Thread Cert.ReferenceQIdeal.nD Cert.ReferenceQIdeal.τ).loc Cert.ReferenceQIdeal.main_arg3) = m' ((c.tc : Thread Cert.ReferenceQIdeal.nD Cert.ReferenceQIdeal.τ).loc Cert.ReferenceQIdeal.main_arg3))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)) →
    ∃ (v0 : (c : Dev Cert.KernelKvIdeal.nD) → Buf (Elt Ideal) ((c.tc : Thread Cert.KernelKvIdeal.nD Cert.KernelKvIdeal.τ).loc Cert.KernelKvIdeal.main_v3)) (v1 : (c : Dev Cert.KernelKvIdeal.nD) → Buf (Elt Ideal) ((c.tc : Thread Cert.KernelKvIdeal.nD Cert.KernelKvIdeal.τ).loc Cert.KernelKvIdeal.main_v7)) (v2 : (c : Dev Cert.KernelKvIdeal.nD) → Buf (Elt Ideal) ((c.tc : Thread Cert.KernelKvIdeal.nD Cert.KernelKvIdeal.τ).loc Cert.KernelKvIdeal.main_v8)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v3) = v0 c
          ∧ r.2.mem ((c.tc : Thread Cert.KernelKvIdeal.nD Cert.KernelKvIdeal.τ).loc Cert.KernelKvIdeal.main_v7) = v1 c
          ∧ r.2.mem ((c.tc : Thread Cert.KernelKvIdeal.nD Cert.KernelKvIdeal.τ).loc Cert.KernelKvIdeal.main_v8) = v2 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v16) = v0 c
          ∧ r.2.mem ((c.tc : Thread Cert.ReferenceKvIdeal.nD Cert.ReferenceKvIdeal.τ).loc Cert.ReferenceKvIdeal.main_v21) = v1 c
          ∧ r.2.mem ((c.tc : Thread Cert.ReferenceKvIdeal.nD Cert.ReferenceKvIdeal.τ).loc Cert.ReferenceKvIdeal.main_v22) = v2 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3))

def preserves_KernelGated_KernelGatedIdeal : Prop :=
  True

def algebraic_KernelGatedIdeal_ReferenceGatedIdeal [hKernelGatedIdeal : Cert.KernelGatedIdeal.Facts] [hReferenceGatedIdeal : Cert.ReferenceGatedIdeal.Facts] : Prop :=
  ∀ (m : (ℓ : Loc Cert.KernelGatedIdeal.nD Cert.KernelGatedIdeal.τ Cert.KernelGatedIdeal.sig) → Buf (Elt Ideal) ℓ) (g : Dev Cert.KernelGatedIdeal.nD → PrngReg)
    (m' : (ℓ : Loc Cert.ReferenceGatedIdeal.nD Cert.ReferenceGatedIdeal.τ Cert.ReferenceGatedIdeal.sig) → Buf (Elt Ideal) ℓ) (g' : Dev Cert.ReferenceGatedIdeal.nD → PrngReg), Pre_KernelGatedIdeal m →
    (∀ c : Dev Cert.KernelGatedIdeal.nD,
      m' ((c.tc : Thread Cert.ReferenceGatedIdeal.nD Cert.ReferenceGatedIdeal.τ).loc Cert.ReferenceGatedIdeal.main_arg0) = m ((c.tc : Thread Cert.KernelGatedIdeal.nD Cert.KernelGatedIdeal.τ).loc Cert.KernelGatedIdeal.main_arg0)
      ∧ m' ((c.tc : Thread Cert.ReferenceGatedIdeal.nD Cert.ReferenceGatedIdeal.τ).loc Cert.ReferenceGatedIdeal.main_arg1) = m ((c.tc : Thread Cert.KernelGatedIdeal.nD Cert.KernelGatedIdeal.τ).loc Cert.KernelGatedIdeal.main_arg1)
      ∧ m' ((c.tc : Thread Cert.ReferenceGatedIdeal.nD Cert.ReferenceGatedIdeal.τ).loc Cert.ReferenceGatedIdeal.main_arg2) = m ((c.tc : Thread Cert.KernelGatedIdeal.nD Cert.KernelGatedIdeal.τ).loc Cert.KernelGatedIdeal.main_arg2)
      ∧ m' ((c.tc : Thread Cert.ReferenceGatedIdeal.nD Cert.ReferenceGatedIdeal.τ).loc Cert.ReferenceGatedIdeal.main_arg3) = m ((c.tc : Thread Cert.KernelGatedIdeal.nD Cert.KernelGatedIdeal.τ).loc Cert.KernelGatedIdeal.main_arg3)
      ∧ m' ((c.tc : Thread Cert.ReferenceGatedIdeal.nD Cert.ReferenceGatedIdeal.τ).loc Cert.ReferenceGatedIdeal.main_arg4) = m ((c.tc : Thread Cert.KernelGatedIdeal.nD Cert.KernelGatedIdeal.τ).loc Cert.KernelGatedIdeal.main_arg4)) →
    ∃ (v0 : (c : Dev Cert.KernelGatedIdeal.nD) → Buf (Elt Ideal) ((c.tc : Thread Cert.KernelGatedIdeal.nD Cert.KernelGatedIdeal.τ).loc Cert.KernelGatedIdeal.main_v2)),
      θ_run (Cert.KernelGatedIdeal.defs (F := Ideal)) (onTc (τ := Cert.KernelGatedIdeal.τ) (Cert.KernelGatedIdeal.main (F := Ideal))) ⟨m, fun _ => 0, g⟩ (fun r => ∀ c : Dev Cert.KernelGatedIdeal.nD,
          r.2.mem ((c.tc : Thread Cert.KernelGatedIdeal.nD Cert.KernelGatedIdeal.τ).loc Cert.KernelGatedIdeal.main_v2) = v0 c
          ∧ r.2.mem ((c.tc : Thread Cert.KernelGatedIdeal.nD Cert.KernelGatedIdeal.τ).loc Cert.KernelGatedIdeal.main_arg0) = m ((c.tc : Thread Cert.KernelGatedIdeal.nD Cert.KernelGatedIdeal.τ).loc Cert.KernelGatedIdeal.main_arg0)
          ∧ r.2.mem ((c.tc : Thread Cert.KernelGatedIdeal.nD Cert.KernelGatedIdeal.τ).loc Cert.KernelGatedIdeal.main_arg1) = m ((c.tc : Thread Cert.KernelGatedIdeal.nD Cert.KernelGatedIdeal.τ).loc Cert.KernelGatedIdeal.main_arg1)
          ∧ r.2.mem ((c.tc : Thread Cert.KernelGatedIdeal.nD Cert.KernelGatedIdeal.τ).loc Cert.KernelGatedIdeal.main_arg2) = m ((c.tc : Thread Cert.KernelGatedIdeal.nD Cert.KernelGatedIdeal.τ).loc Cert.KernelGatedIdeal.main_arg2)
          ∧ r.2.mem ((c.tc : Thread Cert.KernelGatedIdeal.nD Cert.KernelGatedIdeal.τ).loc Cert.KernelGatedIdeal.main_arg3) = m ((c.tc : Thread Cert.KernelGatedIdeal.nD Cert.KernelGatedIdeal.τ).loc Cert.KernelGatedIdeal.main_arg3)
          ∧ r.2.mem ((c.tc : Thread Cert.KernelGatedIdeal.nD Cert.KernelGatedIdeal.τ).loc Cert.KernelGatedIdeal.main_arg4) = m ((c.tc : Thread Cert.KernelGatedIdeal.nD Cert.KernelGatedIdeal.τ).loc Cert.KernelGatedIdeal.main_arg4))
      ∧ θ_run (Cert.ReferenceGatedIdeal.defs (F := Ideal)) (onTc (τ := Cert.ReferenceGatedIdeal.τ) (Cert.ReferenceGatedIdeal.main (F := Ideal))) ⟨m', fun _ => 0, g'⟩ (fun r => ∀ c : Dev Cert.ReferenceGatedIdeal.nD,
          r.2.mem ((c.tc : Thread Cert.ReferenceGatedIdeal.nD Cert.ReferenceGatedIdeal.τ).loc Cert.ReferenceGatedIdeal.main_v17) = v0 c
          ∧ r.2.mem ((c.tc : Thread Cert.ReferenceGatedIdeal.nD Cert.ReferenceGatedIdeal.τ).loc Cert.ReferenceGatedIdeal.main_arg0) = m' ((c.tc : Thread Cert.ReferenceGatedIdeal.nD Cert.ReferenceGatedIdeal.τ).loc Cert.ReferenceGatedIdeal.main_arg0)
          ∧ r.2.mem ((c.tc : Thread Cert.ReferenceGatedIdeal.nD Cert.ReferenceGatedIdeal.τ).loc Cert.ReferenceGatedIdeal.main_arg1) = m' ((c.tc : Thread Cert.ReferenceGatedIdeal.nD Cert.ReferenceGatedIdeal.τ).loc Cert.ReferenceGatedIdeal.main_arg1)
          ∧ r.2.mem ((c.tc : Thread Cert.ReferenceGatedIdeal.nD Cert.ReferenceGatedIdeal.τ).loc Cert.ReferenceGatedIdeal.main_arg2) = m' ((c.tc : Thread Cert.ReferenceGatedIdeal.nD Cert.ReferenceGatedIdeal.τ).loc Cert.ReferenceGatedIdeal.main_arg2)
          ∧ r.2.mem ((c.tc : Thread Cert.ReferenceGatedIdeal.nD Cert.ReferenceGatedIdeal.τ).loc Cert.ReferenceGatedIdeal.main_arg3) = m' ((c.tc : Thread Cert.ReferenceGatedIdeal.nD Cert.ReferenceGatedIdeal.τ).loc Cert.ReferenceGatedIdeal.main_arg3)
          ∧ r.2.mem ((c.tc : Thread Cert.ReferenceGatedIdeal.nD Cert.ReferenceGatedIdeal.τ).loc Cert.ReferenceGatedIdeal.main_arg4) = m' ((c.tc : Thread Cert.ReferenceGatedIdeal.nD Cert.ReferenceGatedIdeal.τ).loc Cert.ReferenceGatedIdeal.main_arg4))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)) →
    ∃ (v0 : (c : Dev Cert.KernelOIdeal.nD) → Buf (Elt Ideal) ((c.tc : Thread Cert.KernelOIdeal.nD Cert.KernelOIdeal.τ).loc Cert.KernelOIdeal.main_v2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v2) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v4) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)) →
    ∃ (v0 : (c : Dev Cert.KernelFinalIdeal.nD) → Buf (Elt Ideal) ((c.tc : Thread Cert.KernelFinalIdeal.nD Cert.KernelFinalIdeal.τ).loc Cert.KernelFinalIdeal.main_v1)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v1) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v12) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)) →
    ∃ (v0 : (c : Dev Cert.KernelConvIdeal.nD) → Buf (Elt Ideal) ((c.tc : Thread Cert.KernelConvIdeal.nD Cert.KernelConvIdeal.τ).loc Cert.KernelConvIdeal.main_v2)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v2) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v34) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3))

def preserves_KernelSsd_KernelSsdIdeal : Prop :=
  True

def algebraic_KernelSsdIdeal_ReferenceSsdIdeal_pre_finite_dt [hKernelSsdIdeal : Cert.KernelSsdIdeal.Facts] [hReferenceSsdIdeal : Cert.ReferenceSsdIdeal.Facts] [hPre_finite_dt : Cert.Pre_finite_dt.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal_finite_dt m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)
      ∧ m' ((c.tc : Thread Cert.ReferenceSsdIdeal.nD Cert.ReferenceSsdIdeal.τ).loc Cert.ReferenceSsdIdeal.main_arg2) = m ((c.tc : Thread Cert.KernelSsdIdeal.nD Cert.KernelSsdIdeal.τ).loc Cert.KernelSsdIdeal.main_arg2)
      ∧ m' ((c.tc : Thread Cert.ReferenceSsdIdeal.nD Cert.ReferenceSsdIdeal.τ).loc Cert.ReferenceSsdIdeal.main_arg3) = m ((c.tc : Thread Cert.KernelSsdIdeal.nD Cert.KernelSsdIdeal.τ).loc Cert.KernelSsdIdeal.main_arg3)
      ∧ m' ((c.tc : Thread Cert.ReferenceSsdIdeal.nD Cert.ReferenceSsdIdeal.τ).loc Cert.ReferenceSsdIdeal.main_arg4) = m ((c.tc : Thread Cert.KernelSsdIdeal.nD Cert.KernelSsdIdeal.τ).loc Cert.KernelSsdIdeal.main_arg4)
      ∧ m' ((c.tc : Thread Cert.ReferenceSsdIdeal.nD Cert.ReferenceSsdIdeal.τ).loc Cert.ReferenceSsdIdeal.main_arg5) = m ((c.tc : Thread Cert.KernelSsdIdeal.nD Cert.KernelSsdIdeal.τ).loc Cert.KernelSsdIdeal.main_arg5)) →
    ∃ (v0 : (c : Dev Cert.KernelSsdIdeal.nD) → Buf (Elt Ideal) ((c.tc : Thread Cert.KernelSsdIdeal.nD Cert.KernelSsdIdeal.τ).loc Cert.KernelSsdIdeal.main_v31_0)) (v1 : (c : Dev Cert.KernelSsdIdeal.nD) → Buf (Elt Ideal) ((c.tc : Thread Cert.KernelSsdIdeal.nD Cert.KernelSsdIdeal.τ).loc Cert.KernelSsdIdeal.main_v31_1)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v31_0) = v0 c
          ∧ r.2.mem ((c.tc : Thread Cert.KernelSsdIdeal.nD Cert.KernelSsdIdeal.τ).loc Cert.KernelSsdIdeal.main_v31_1) = v1 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
          ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
          ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
          ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
          ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v68) = v0 c
          ∧ r.2.mem ((c.tc : Thread Cert.ReferenceSsdIdeal.nD Cert.ReferenceSsdIdeal.τ).loc Cert.ReferenceSsdIdeal.main_v69) = v1 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1)
          ∧ r.2.mem ((c.tc : Thread Cert.ReferenceSsdIdeal.nD Cert.ReferenceSsdIdeal.τ).loc Cert.ReferenceSsdIdeal.main_arg2) = m' ((c.tc : Thread Cert.ReferenceSsdIdeal.nD Cert.ReferenceSsdIdeal.τ).loc Cert.ReferenceSsdIdeal.main_arg2)
          ∧ r.2.mem ((c.tc : Thread Cert.ReferenceSsdIdeal.nD Cert.ReferenceSsdIdeal.τ).loc Cert.ReferenceSsdIdeal.main_arg3) = m' ((c.tc : Thread Cert.ReferenceSsdIdeal.nD Cert.ReferenceSsdIdeal.τ).loc Cert.ReferenceSsdIdeal.main_arg3)
          ∧ r.2.mem ((c.tc : Thread Cert.ReferenceSsdIdeal.nD Cert.ReferenceSsdIdeal.τ).loc Cert.ReferenceSsdIdeal.main_arg4) = m' ((c.tc : Thread Cert.ReferenceSsdIdeal.nD Cert.ReferenceSsdIdeal.τ).loc Cert.ReferenceSsdIdeal.main_arg4)
          ∧ r.2.mem ((c.tc : Thread Cert.ReferenceSsdIdeal.nD Cert.ReferenceSsdIdeal.τ).loc Cert.ReferenceSsdIdeal.main_arg5) = m' ((c.tc : Thread Cert.ReferenceSsdIdeal.nD Cert.ReferenceSsdIdeal.τ).loc Cert.ReferenceSsdIdeal.main_arg5))

def preserves_KernelFinalS_KernelFinalSIdeal : Prop :=
  True

def algebraic_KernelFinalSIdeal_ReferenceFinalSIdeal [hKernelFinalSIdeal : Cert.KernelFinalSIdeal.Facts] [hReferenceFinalSIdeal : Cert.ReferenceFinalSIdeal.Facts] : Prop :=
  ∀ (m : (ℓ : Loc Cert.KernelFinalSIdeal.nD Cert.KernelFinalSIdeal.τ Cert.KernelFinalSIdeal.sig) → Buf (Elt Ideal) ℓ) (g : Dev Cert.KernelFinalSIdeal.nD → PrngReg)
    (m' : (ℓ : Loc Cert.ReferenceFinalSIdeal.nD Cert.ReferenceFinalSIdeal.τ Cert.ReferenceFinalSIdeal.sig) → Buf (Elt Ideal) ℓ) (g' : Dev Cert.ReferenceFinalSIdeal.nD → PrngReg), Pre_KernelFinalSIdeal m →
    (∀ c : Dev Cert.KernelFinalSIdeal.nD,
      m' ((c.tc : Thread Cert.ReferenceFinalSIdeal.nD Cert.ReferenceFinalSIdeal.τ).loc Cert.ReferenceFinalSIdeal.main_arg0) = m ((c.tc : Thread Cert.KernelFinalSIdeal.nD Cert.KernelFinalSIdeal.τ).loc Cert.KernelFinalSIdeal.main_arg0)
      ∧ m' ((c.tc : Thread Cert.ReferenceFinalSIdeal.nD Cert.ReferenceFinalSIdeal.τ).loc Cert.ReferenceFinalSIdeal.main_arg1) = m ((c.tc : Thread Cert.KernelFinalSIdeal.nD Cert.KernelFinalSIdeal.τ).loc Cert.KernelFinalSIdeal.main_arg1)) →
    ∃ (v0 : (c : Dev Cert.KernelFinalSIdeal.nD) → Buf (Elt Ideal) ((c.tc : Thread Cert.KernelFinalSIdeal.nD Cert.KernelFinalSIdeal.τ).loc Cert.KernelFinalSIdeal.main_v1)),
      θ_run (Cert.KernelFinalSIdeal.defs (F := Ideal)) (onTc (τ := Cert.KernelFinalSIdeal.τ) (Cert.KernelFinalSIdeal.main (F := Ideal))) ⟨m, fun _ => 0, g⟩ (fun r => ∀ c : Dev Cert.KernelFinalSIdeal.nD,
          r.2.mem ((c.tc : Thread Cert.KernelFinalSIdeal.nD Cert.KernelFinalSIdeal.τ).loc Cert.KernelFinalSIdeal.main_v1) = v0 c
          ∧ r.2.mem ((c.tc : Thread Cert.KernelFinalSIdeal.nD Cert.KernelFinalSIdeal.τ).loc Cert.KernelFinalSIdeal.main_arg0) = m ((c.tc : Thread Cert.KernelFinalSIdeal.nD Cert.KernelFinalSIdeal.τ).loc Cert.KernelFinalSIdeal.main_arg0)
          ∧ r.2.mem ((c.tc : Thread Cert.KernelFinalSIdeal.nD Cert.KernelFinalSIdeal.τ).loc Cert.KernelFinalSIdeal.main_arg1) = m ((c.tc : Thread Cert.KernelFinalSIdeal.nD Cert.KernelFinalSIdeal.τ).loc Cert.KernelFinalSIdeal.main_arg1))
      ∧ θ_run (Cert.ReferenceFinalSIdeal.defs (F := Ideal)) (onTc (τ := Cert.ReferenceFinalSIdeal.τ) (Cert.ReferenceFinalSIdeal.main (F := Ideal))) ⟨m', fun _ => 0, g'⟩ (fun r => ∀ c : Dev Cert.ReferenceFinalSIdeal.nD,
          r.2.mem ((c.tc : Thread Cert.ReferenceFinalSIdeal.nD Cert.ReferenceFinalSIdeal.τ).loc Cert.ReferenceFinalSIdeal.main_v12) = v0 c
          ∧ r.2.mem ((c.tc : Thread Cert.ReferenceFinalSIdeal.nD Cert.ReferenceFinalSIdeal.τ).loc Cert.ReferenceFinalSIdeal.main_arg0) = m' ((c.tc : Thread Cert.ReferenceFinalSIdeal.nD Cert.ReferenceFinalSIdeal.τ).loc Cert.ReferenceFinalSIdeal.main_arg0)
          ∧ r.2.mem ((c.tc : Thread Cert.ReferenceFinalSIdeal.nD Cert.ReferenceFinalSIdeal.τ).loc Cert.ReferenceFinalSIdeal.main_arg1) = m' ((c.tc : Thread Cert.ReferenceFinalSIdeal.nD Cert.ReferenceFinalSIdeal.τ).loc Cert.ReferenceFinalSIdeal.main_arg1))

def preserves_KernelInS_KernelInSIdeal : Prop :=
  True

def algebraic_KernelInSIdeal_ReferenceInSIdeal [hKernelInSIdeal : Cert.KernelInSIdeal.Facts] [hReferenceInSIdeal : Cert.ReferenceInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg)
    (m' : (ℓ : Loc Cert.ReferenceInSIdeal.nD Cert.ReferenceInSIdeal.τ Cert.ReferenceInSIdeal.sig) → Buf (Elt Ideal) ℓ) (g' : Dev Cert.ReferenceInSIdeal.nD → PrngReg), Pre_KernelInSIdeal m →
    (∀ c : Dev Cert.KernelInSIdeal.nD,
      m' ((c.tc : Thread Cert.ReferenceInSIdeal.nD Cert.ReferenceInSIdeal.τ).loc Cert.ReferenceInSIdeal.main_arg0) = m ((c.tc : Thread Cert.KernelInSIdeal.nD Cert.KernelInSIdeal.τ).loc Cert.KernelInSIdeal.main_arg0)
      ∧ m' ((c.tc : Thread Cert.ReferenceInSIdeal.nD Cert.ReferenceInSIdeal.τ).loc Cert.ReferenceInSIdeal.main_arg1) = m ((c.tc : Thread Cert.KernelInSIdeal.nD Cert.KernelInSIdeal.τ).loc Cert.KernelInSIdeal.main_arg1)
      ∧ m' ((c.tc : Thread Cert.ReferenceInSIdeal.nD Cert.ReferenceInSIdeal.τ).loc Cert.ReferenceInSIdeal.main_arg2) = m ((c.tc : Thread Cert.KernelInSIdeal.nD Cert.KernelInSIdeal.τ).loc Cert.KernelInSIdeal.main_arg2)) →
    ∃ (v0 : (c : Dev Cert.KernelInSIdeal.nD) → Buf (Elt Ideal) ((c.tc : Thread Cert.KernelInSIdeal.nD Cert.KernelInSIdeal.τ).loc Cert.KernelInSIdeal.main_v5)) (v1 : (c : Dev Cert.KernelInSIdeal.nD) → Buf (Elt Ideal) ((c.tc : Thread Cert.KernelInSIdeal.nD Cert.KernelInSIdeal.τ).loc Cert.KernelInSIdeal.main_v7)),
      θ_run (Cert.KernelInSIdeal.defs (F := Ideal)) (onTc (τ := Cert.KernelInSIdeal.τ) (Cert.KernelInSIdeal.main (F := Ideal))) ⟨m, fun _ => 0, g⟩ (fun r => ∀ c : Dev Cert.KernelInSIdeal.nD,
          r.2.mem ((c.tc : Thread Cert.KernelInSIdeal.nD Cert.KernelInSIdeal.τ).loc Cert.KernelInSIdeal.main_v5) = v0 c
          ∧ r.2.mem ((c.tc : Thread Cert.KernelInSIdeal.nD Cert.KernelInSIdeal.τ).loc Cert.KernelInSIdeal.main_v7) = v1 c
          ∧ r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
          ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
          ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2))
      ∧ θ_run (Cert.ReferenceInSIdeal.defs (F := Ideal)) (onTc (τ := Cert.ReferenceInSIdeal.τ) (Cert.ReferenceInSIdeal.main (F := Ideal))) ⟨m', fun _ => 0, g'⟩ (fun r => ∀ c : Dev Cert.ReferenceInSIdeal.nD,
          r.2.mem ((c.tc : Thread Cert.ReferenceInSIdeal.nD Cert.ReferenceInSIdeal.τ).loc Cert.ReferenceInSIdeal.main_v14) = v0 c
          ∧ r.2.mem ((c.tc : Thread Cert.ReferenceInSIdeal.nD Cert.ReferenceInSIdeal.τ).loc Cert.ReferenceInSIdeal.main_v17) = v1 c
          ∧ r.2.mem ((c.tc : Thread Cert.ReferenceInSIdeal.nD Cert.ReferenceInSIdeal.τ).loc Cert.ReferenceInSIdeal.main_arg0) = m' ((c.tc : Thread Cert.ReferenceInSIdeal.nD Cert.ReferenceInSIdeal.τ).loc Cert.ReferenceInSIdeal.main_arg0)
          ∧ r.2.mem ((c.tc : Thread Cert.ReferenceInSIdeal.nD Cert.ReferenceInSIdeal.τ).loc Cert.ReferenceInSIdeal.main_arg1) = m' ((c.tc : Thread Cert.ReferenceInSIdeal.nD Cert.ReferenceInSIdeal.τ).loc Cert.ReferenceInSIdeal.main_arg1)
          ∧ r.2.mem ((c.tc : Thread Cert.ReferenceInSIdeal.nD Cert.ReferenceInSIdeal.τ).loc Cert.ReferenceInSIdeal.main_arg2) = m' ((c.tc : Thread Cert.ReferenceInSIdeal.nD Cert.ReferenceInSIdeal.τ).loc Cert.ReferenceInSIdeal.main_arg2))

def preserves_KernelKvS_KernelKvSIdeal : Prop :=
  True

def algebraic_KernelKvSIdeal_ReferenceKvSIdeal [hKernelKvSIdeal : Cert.KernelKvSIdeal.Facts] [hReferenceKvSIdeal : Cert.ReferenceKvSIdeal.Facts] : Prop :=
  ∀ (m : (ℓ : Loc Cert.KernelKvSIdeal.nD Cert.KernelKvSIdeal.τ Cert.KernelKvSIdeal.sig) → Buf (Elt Ideal) ℓ) (g : Dev Cert.KernelKvSIdeal.nD → PrngReg)
    (m' : (ℓ : Loc Cert.ReferenceKvSIdeal.nD Cert.ReferenceKvSIdeal.τ Cert.ReferenceKvSIdeal.sig) → Buf (Elt Ideal) ℓ) (g' : Dev Cert.ReferenceKvSIdeal.nD → PrngReg), Pre_KernelKvSIdeal m →
    (∀ c : Dev Cert.KernelKvSIdeal.nD,
      m' ((c.tc : Thread Cert.ReferenceKvSIdeal.nD Cert.ReferenceKvSIdeal.τ).loc Cert.ReferenceKvSIdeal.main_arg0) = m ((c.tc : Thread Cert.KernelKvSIdeal.nD Cert.KernelKvSIdeal.τ).loc Cert.KernelKvSIdeal.main_arg0)
      ∧ m' ((c.tc : Thread Cert.ReferenceKvSIdeal.nD Cert.ReferenceKvSIdeal.τ).loc Cert.ReferenceKvSIdeal.main_arg1) = m ((c.tc : Thread Cert.KernelKvSIdeal.nD Cert.KernelKvSIdeal.τ).loc Cert.KernelKvSIdeal.main_arg1)
      ∧ m' ((c.tc : Thread Cert.ReferenceKvSIdeal.nD Cert.ReferenceKvSIdeal.τ).loc Cert.ReferenceKvSIdeal.main_arg2) = m ((c.tc : Thread Cert.KernelKvSIdeal.nD Cert.KernelKvSIdeal.τ).loc Cert.KernelKvSIdeal.main_arg2)
      ∧ m' ((c.tc : Thread Cert.ReferenceKvSIdeal.nD Cert.ReferenceKvSIdeal.τ).loc Cert.ReferenceKvSIdeal.main_arg3) = m ((c.tc : Thread Cert.KernelKvSIdeal.nD Cert.KernelKvSIdeal.τ).loc Cert.KernelKvSIdeal.main_arg3)
      ∧ m' ((c.tc : Thread Cert.ReferenceKvSIdeal.nD Cert.ReferenceKvSIdeal.τ).loc Cert.ReferenceKvSIdeal.main_arg4) = m ((c.tc : Thread Cert.KernelKvSIdeal.nD Cert.KernelKvSIdeal.τ).loc Cert.KernelKvSIdeal.main_arg4)
      ∧ m' ((c.tc : Thread Cert.ReferenceKvSIdeal.nD Cert.ReferenceKvSIdeal.τ).loc Cert.ReferenceKvSIdeal.main_arg5) = m ((c.tc : Thread Cert.KernelKvSIdeal.nD Cert.KernelKvSIdeal.τ).loc Cert.KernelKvSIdeal.main_arg5)) →
    ∃ (v0 : (c : Dev Cert.KernelKvSIdeal.nD) → Buf (Elt Ideal) ((c.tc : Thread Cert.KernelKvSIdeal.nD Cert.KernelKvSIdeal.τ).loc Cert.KernelKvSIdeal.main_v12)) (v1 : (c : Dev Cert.KernelKvSIdeal.nD) → Buf (Elt Ideal) ((c.tc : Thread Cert.KernelKvSIdeal.nD Cert.KernelKvSIdeal.τ).loc Cert.KernelKvSIdeal.main_v14)),
      θ_run (Cert.KernelKvSIdeal.defs (F := Ideal)) (onTc (τ := Cert.KernelKvSIdeal.τ) (Cert.KernelKvSIdeal.main (F := Ideal))) ⟨m, fun _ => 0, g⟩ (fun r => ∀ c : Dev Cert.KernelKvSIdeal.nD,
          r.2.mem ((c.tc : Thread Cert.KernelKvSIdeal.nD Cert.KernelKvSIdeal.τ).loc Cert.KernelKvSIdeal.main_v12) = v0 c
          ∧ r.2.mem ((c.tc : Thread Cert.KernelKvSIdeal.nD Cert.KernelKvSIdeal.τ).loc Cert.KernelKvSIdeal.main_v14) = v1 c
          ∧ r.2.mem ((c.tc : Thread Cert.KernelKvSIdeal.nD Cert.KernelKvSIdeal.τ).loc Cert.KernelKvSIdeal.main_arg0) = m ((c.tc : Thread Cert.KernelKvSIdeal.nD Cert.KernelKvSIdeal.τ).loc Cert.KernelKvSIdeal.main_arg0)
          ∧ r.2.mem ((c.tc : Thread Cert.KernelKvSIdeal.nD Cert.KernelKvSIdeal.τ).loc Cert.KernelKvSIdeal.main_arg1) = m ((c.tc : Thread Cert.KernelKvSIdeal.nD Cert.KernelKvSIdeal.τ).loc Cert.KernelKvSIdeal.main_arg1)
          ∧ r.2.mem ((c.tc : Thread Cert.KernelKvSIdeal.nD Cert.KernelKvSIdeal.τ).loc Cert.KernelKvSIdeal.main_arg2) = m ((c.tc : Thread Cert.KernelKvSIdeal.nD Cert.KernelKvSIdeal.τ).loc Cert.KernelKvSIdeal.main_arg2)
          ∧ r.2.mem ((c.tc : Thread Cert.KernelKvSIdeal.nD Cert.KernelKvSIdeal.τ).loc Cert.KernelKvSIdeal.main_arg3) = m ((c.tc : Thread Cert.KernelKvSIdeal.nD Cert.KernelKvSIdeal.τ).loc Cert.KernelKvSIdeal.main_arg3)
          ∧ r.2.mem ((c.tc : Thread Cert.KernelKvSIdeal.nD Cert.KernelKvSIdeal.τ).loc Cert.KernelKvSIdeal.main_arg4) = m ((c.tc : Thread Cert.KernelKvSIdeal.nD Cert.KernelKvSIdeal.τ).loc Cert.KernelKvSIdeal.main_arg4)
          ∧ r.2.mem ((c.tc : Thread Cert.KernelKvSIdeal.nD Cert.KernelKvSIdeal.τ).loc Cert.KernelKvSIdeal.main_arg5) = m ((c.tc : Thread Cert.KernelKvSIdeal.nD Cert.KernelKvSIdeal.τ).loc Cert.KernelKvSIdeal.main_arg5))
      ∧ θ_run (Cert.ReferenceKvSIdeal.defs (F := Ideal)) (onTc (τ := Cert.ReferenceKvSIdeal.τ) (Cert.ReferenceKvSIdeal.main (F := Ideal))) ⟨m', fun _ => 0, g'⟩ (fun r => ∀ c : Dev Cert.ReferenceKvSIdeal.nD,
          r.2.mem ((c.tc : Thread Cert.ReferenceKvSIdeal.nD Cert.ReferenceKvSIdeal.τ).loc Cert.ReferenceKvSIdeal.main_v22) = v0 c
          ∧ r.2.mem ((c.tc : Thread Cert.ReferenceKvSIdeal.nD Cert.ReferenceKvSIdeal.τ).loc Cert.ReferenceKvSIdeal.main_v24) = v1 c
          ∧ r.2.mem ((c.tc : Thread Cert.ReferenceKvSIdeal.nD Cert.ReferenceKvSIdeal.τ).loc Cert.ReferenceKvSIdeal.main_arg0) = m' ((c.tc : Thread Cert.ReferenceKvSIdeal.nD Cert.ReferenceKvSIdeal.τ).loc Cert.ReferenceKvSIdeal.main_arg0)
          ∧ r.2.mem ((c.tc : Thread Cert.ReferenceKvSIdeal.nD Cert.ReferenceKvSIdeal.τ).loc Cert.ReferenceKvSIdeal.main_arg1) = m' ((c.tc : Thread Cert.ReferenceKvSIdeal.nD Cert.ReferenceKvSIdeal.τ).loc Cert.ReferenceKvSIdeal.main_arg1)
          ∧ r.2.mem ((c.tc : Thread Cert.ReferenceKvSIdeal.nD Cert.ReferenceKvSIdeal.τ).loc Cert.ReferenceKvSIdeal.main_arg2) = m' ((c.tc : Thread Cert.ReferenceKvSIdeal.nD Cert.ReferenceKvSIdeal.τ).loc Cert.ReferenceKvSIdeal.main_arg2)
          ∧ r.2.mem ((c.tc : Thread Cert.ReferenceKvSIdeal.nD Cert.ReferenceKvSIdeal.τ).loc Cert.ReferenceKvSIdeal.main_arg3) = m' ((c.tc : Thread Cert.ReferenceKvSIdeal.nD Cert.ReferenceKvSIdeal.τ).loc Cert.ReferenceKvSIdeal.main_arg3)
          ∧ r.2.mem ((c.tc : Thread Cert.ReferenceKvSIdeal.nD Cert.ReferenceKvSIdeal.τ).loc Cert.ReferenceKvSIdeal.main_arg4) = m' ((c.tc : Thread Cert.ReferenceKvSIdeal.nD Cert.ReferenceKvSIdeal.τ).loc Cert.ReferenceKvSIdeal.main_arg4)
          ∧ r.2.mem ((c.tc : Thread Cert.ReferenceKvSIdeal.nD Cert.ReferenceKvSIdeal.τ).loc Cert.ReferenceKvSIdeal.main_arg5) = m' ((c.tc : Thread Cert.ReferenceKvSIdeal.nD Cert.ReferenceKvSIdeal.τ).loc Cert.ReferenceKvSIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelPq : Cert.KernelPq.Facts) (hKernelPqIdeal : Cert.KernelPqIdeal.Facts) (hReferencePqIdeal : Cert.ReferencePqIdeal.Facts) (hKernelQ : Cert.KernelQ.Facts) (hKernelQIdeal : Cert.KernelQIdeal.Facts) (hReferenceQIdeal : Cert.ReferenceQIdeal.Facts) (hKernelKv : Cert.KernelKv.Facts) (hKernelKvIdeal : Cert.KernelKvIdeal.Facts) (hReferenceKvIdeal : Cert.ReferenceKvIdeal.Facts) (hKernelGated : Cert.KernelGated.Facts) (hKernelGatedIdeal : Cert.KernelGatedIdeal.Facts) (hReferenceGatedIdeal : Cert.ReferenceGatedIdeal.Facts) (hKernelO : Cert.KernelO.Facts) (hKernelOIdeal : Cert.KernelOIdeal.Facts) (hReferenceOIdeal : Cert.ReferenceOIdeal.Facts) (hKernelFinal : Cert.KernelFinal.Facts) (hKernelFinalIdeal : Cert.KernelFinalIdeal.Facts) (hReferenceFinalIdeal : Cert.ReferenceFinalIdeal.Facts) (hKernelConv : Cert.KernelConv.Facts) (hKernelConvIdeal : Cert.KernelConvIdeal.Facts) (hReferenceConvIdeal : Cert.ReferenceConvIdeal.Facts) (hKernelSsd : Cert.KernelSsd.Facts) (hKernelSsdIdeal : Cert.KernelSsdIdeal.Facts) (hReferenceSsdIdeal : Cert.ReferenceSsdIdeal.Facts) (hKernelFinalS : Cert.KernelFinalS.Facts) (hKernelFinalSIdeal : Cert.KernelFinalSIdeal.Facts) (hReferenceFinalSIdeal : Cert.ReferenceFinalSIdeal.Facts) (hKernelInS : Cert.KernelInS.Facts) (hKernelInSIdeal : Cert.KernelInSIdeal.Facts) (hReferenceInSIdeal : Cert.ReferenceInSIdeal.Facts) (hKernelKvS : Cert.KernelKvS.Facts) (hKernelKvSIdeal : Cert.KernelKvSIdeal.Facts) (hReferenceKvSIdeal : Cert.ReferenceKvSIdeal.Facts) (hPre_finite : Cert.Pre_finite.Facts) (hPre_finite_dt : Cert.Pre_finite_dt.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPq (hKernelPq := hKernelPq)
    ∧ quiescent_KernelPqIdeal (hKernelPqIdeal := hKernelPqIdeal)
    ∧ quiescent_ReferencePqIdeal (hReferencePqIdeal := hReferencePqIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelGated (hKernelGated := hKernelGated)
    ∧ quiescent_KernelGatedIdeal (hKernelGatedIdeal := hKernelGatedIdeal)
    ∧ quiescent_ReferenceGatedIdeal (hReferenceGatedIdeal := hReferenceGatedIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelSsd (hKernelSsd := hKernelSsd)
    ∧ quiescent_KernelSsdIdeal (hKernelSsdIdeal := hKernelSsdIdeal)
    ∧ quiescent_KernelSsdIdeal_pre_finite_dt (hKernelSsdIdeal := hKernelSsdIdeal) (hPre_finite_dt := hPre_finite_dt)
    ∧ quiescent_ReferenceSsdIdeal (hReferenceSsdIdeal := hReferenceSsdIdeal)
    ∧ quiescent_ReferenceSsdIdeal_pre_finite_dt (hReferenceSsdIdeal := hReferenceSsdIdeal) (hPre_finite_dt := hPre_finite_dt)
    ∧ quiescent_KernelFinalS (hKernelFinalS := hKernelFinalS)
    ∧ quiescent_KernelFinalSIdeal (hKernelFinalSIdeal := hKernelFinalSIdeal)
    ∧ quiescent_ReferenceFinalSIdeal (hReferenceFinalSIdeal := hReferenceFinalSIdeal)
    ∧ quiescent_KernelInS (hKernelInS := hKernelInS)
    ∧ quiescent_KernelInSIdeal (hKernelInSIdeal := hKernelInSIdeal)
    ∧ quiescent_ReferenceInSIdeal (hReferenceInSIdeal := hReferenceInSIdeal)
    ∧ quiescent_KernelKvS (hKernelKvS := hKernelKvS)
    ∧ quiescent_KernelKvSIdeal (hKernelKvSIdeal := hKernelKvSIdeal)
    ∧ quiescent_ReferenceKvSIdeal (hReferenceKvSIdeal := hReferenceKvSIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelPq_KernelPqIdeal
    ∧ algebraic_KernelPqIdeal_ReferencePqIdeal (hKernelPqIdeal := hKernelPqIdeal) (hReferencePqIdeal := hReferencePqIdeal)
    ∧ preserves_KernelQ_KernelQIdeal
    ∧ algebraic_KernelQIdeal_ReferenceQIdeal (hKernelQIdeal := hKernelQIdeal) (hReferenceQIdeal := hReferenceQIdeal)
    ∧ preserves_KernelKv_KernelKvIdeal
    ∧ algebraic_KernelKvIdeal_ReferenceKvIdeal (hKernelKvIdeal := hKernelKvIdeal) (hReferenceKvIdeal := hReferenceKvIdeal)
    ∧ preserves_KernelGated_KernelGatedIdeal
    ∧ algebraic_KernelGatedIdeal_ReferenceGatedIdeal (hKernelGatedIdeal := hKernelGatedIdeal) (hReferenceGatedIdeal := hReferenceGatedIdeal)
    ∧ preserves_KernelO_KernelOIdeal
    ∧ algebraic_KernelOIdeal_ReferenceOIdeal (hKernelOIdeal := hKernelOIdeal) (hReferenceOIdeal := hReferenceOIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelConv_KernelConvIdeal
    ∧ algebraic_KernelConvIdeal_ReferenceConvIdeal (hKernelConvIdeal := hKernelConvIdeal) (hReferenceConvIdeal := hReferenceConvIdeal)
    ∧ preserves_KernelSsd_KernelSsdIdeal
    ∧ algebraic_KernelSsdIdeal_ReferenceSsdIdeal_pre_finite_dt (hKernelSsdIdeal := hKernelSsdIdeal) (hReferenceSsdIdeal := hReferenceSsdIdeal) (hPre_finite_dt := hPre_finite_dt)
    ∧ preserves_KernelFinalS_KernelFinalSIdeal
    ∧ algebraic_KernelFinalSIdeal_ReferenceFinalSIdeal (hKernelFinalSIdeal := hKernelFinalSIdeal) (hReferenceFinalSIdeal := hReferenceFinalSIdeal)
    ∧ preserves_KernelInS_KernelInSIdeal
    ∧ algebraic_KernelInSIdeal_ReferenceInSIdeal (hKernelInSIdeal := hKernelInSIdeal) (hReferenceInSIdeal := hReferenceInSIdeal)
    ∧ preserves_KernelKvS_KernelKvSIdeal
    ∧ algebraic_KernelKvSIdeal_ReferenceKvSIdeal (hKernelKvSIdeal := hKernelKvSIdeal) (hReferenceKvSIdeal := hReferenceKvSIdeal)
-- ==== Pre_finite.lean ====
abbrev S16384x1024 : Shape := ⟨2, ![16384, 1024]⟩
abbrev S16384x512 : Shape := ⟨2, ![16384, 512]⟩
abbrev S16 : Shape := ⟨1, ![16]⟩
abbrev S_ : Shape := ⟨0, ![]⟩
abbrev S16384x256 : Shape := ⟨2, ![16384, 256]⟩

class Facts : Prop where
  bcast_S_S16384x1024 : S_.BroadcastsInDim S16384x1024 (![] : Fin 0 → Fin S16384x1024.rank)
  slices_S16384x512_S16384x256_0_0 : S16384x512.Slices ![0, 0] S16384x256
  bcast_S_S16384x256 : S_.BroadcastsInDim S16384x256 (![] : Fin 0 → Fin S16384x256.rank)
  bcast_S_S16 : S_.BroadcastsInDim S16 (![] : Fin 0 → Fin S16.rank)

variable [Facts]

def fn {F : FTy → Type} [FloatOps F] (main_arg0 : FVec F S16384x1024 .f32) (main_arg1 : FVec F S16384x512 .f32) (main_arg2 : FVec F S16 .f32) : IVec S16384x1024 1 × IVec S16384x256 1 × IVec S16 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x256 .f32 := (extractStridedSlice S16384x256 ![0, 0] · slices_S16384x512_S16384x256_0_0) main_arg1
  let main_v4 : FVec F S16384x256 .f32 := Host.absf main_v3
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_v7 : FVec F S16 .f32 := Host.absf main_arg2
  let main_cst_1 : FVec F S_ .f32 := constant S_ .f32 0x7F800000#32
  let main_v8 : FVec F S16 .f32 := broadcastInDim S16 ![] bcast_S_S16 main_cst_1
  let main_v9 : IVec S16 1 := cmpf .olt main_v7 main_v8
  (main_v2, main_v6, main_v9)
-- ==== Pre_finite_dt.lean ====
abbrev S512x4096 : Shape := ⟨2, ![512, 4096]⟩
abbrev S512x6272 : Shape := ⟨2, ![512, 6272]⟩
abbrev S32 : Shape := ⟨1, ![32]⟩
abbrev S32x2048x128 : Shape := ⟨3, ![32, 2048, 128]⟩
abbrev S512x32 : Shape := ⟨2, ![512, 32]⟩
abbrev S_ : Shape := ⟨0, ![]⟩

class Facts : Prop where
  slices_S512x6272_S512x32_0_6144 : S512x6272.Slices ![0, 6144] S512x32
  bcast_S_S512x32 : S_.BroadcastsInDim S512x32 (![] : Fin 0 → Fin S512x32.rank)
  bcast_S_S32 : S_.BroadcastsInDim S32 (![] : Fin 0 → Fin S32.rank)

variable [Facts]

def fn {F : FTy → Type} [FloatOps F] (main_arg0 : FVec F S512x4096 .f32) (main_arg1 : FVec F S512x6272 .f32) (main_arg2 : FVec F S32 .f32) (main_arg3 : FVec F S32 .f32) (main_arg4 : FVec F S32 .f32) (main_arg5 : FVec F S32x2048x128 .f32) : IVec S512x32 1 × IVec S32 1 × IVec S32 1 :=
  let main_v0 : FVec F S512x32 .f32 := (extractStridedSlice S512x32 ![0, 6144] · slices_S512x6272_S512x32_0_6144) main_arg1
  let main_v1 : FVec F S512x32 .f32 := Host.absf main_v0
  let main_cst : FVec F S_ .f32 := constant S_ .f32 0x7F800000#32
  let main_v2 : FVec F S512x32 .f32 := broadcastInDim S512x32 ![] bcast_S_S512x32 main_cst
  let main_v3 : IVec S512x32 1 := cmpf .olt main_v1 main_v2
  let main_v4 : FVec F S32 .f32 := Host.absf main_arg2
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_v7 : FVec F S32 .f32 := Host.absf main_arg3
  let main_cst_1 : FVec F S_ .f32 := constant S_ .f32 0x7F800000#32
  let main_v8 : FVec F S32 .f32 := broadcastInDim S32 ![] bcast_S_S32 main_cst_1
  let main_v9 : IVec S32 1 := cmpf .olt main_v7 main_v8
  (main_v3, main_v6, main_v9)
-- ==== Kernel.lean ====
abbrev S16384x1024 : Shape := ⟨2, ![16384, 1024]⟩
abbrev S16384x512 : Shape := ⟨2, ![16384, 512]⟩
abbrev S16 : Shape := ⟨1, ![16]⟩
abbrev S_ : Shape := ⟨0, ![]⟩
abbrev S128 : Shape := ⟨1, ![128]⟩
abbrev S1x128 : Shape := ⟨2, ![1, 128]⟩
abbrev S256x1024 : Shape := ⟨2, ![256, 1024]⟩
abbrev S128x256 : Shape := ⟨2, ![128, 256]⟩
abbrev S256x256 : Shape := ⟨2, ![256, 256]⟩
abbrev S384x256 : Shape := ⟨2, ![384, 256]⟩
abbrev S384x1024 : Shape := ⟨2, ![384, 1024]⟩
abbrev S128x128 : Shape := ⟨2, ![128, 128]⟩
abbrev S256x128 : Shape := ⟨2, ![256, 128]⟩
abbrev S384x128 : Shape := ⟨2, ![384, 128]⟩
abbrev S128x384 : Shape := ⟨2, ![128, 384]⟩
abbrev S384x64 : Shape := ⟨2, ![384, 64]⟩
abbrev S64x384 : Shape := ⟨2, ![64, 384]⟩
abbrev S256x64 : Shape := ⟨2, ![256, 64]⟩
abbrev S1024x64 : Shape := ⟨2, ![1024, 64]⟩
abbrev S1x1 : Shape := ⟨2, ![1, 1]⟩
abbrev S1x256 : Shape := ⟨2, ![1, 256]⟩
abbrev S1x1024 : Shape := ⟨2, ![1, 1024]⟩
abbrev S1024 : Shape := ⟨1, ![1024]⟩
abbrev S64x1024 : Shape := ⟨2, ![64, 1024]⟩
abbrev S64x256 : Shape := ⟨2, ![64, 256]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x128, .f32⟩
  | .local _ .vmem, ⟨3, _⟩ => ⟨S128x256, .f32⟩
  | .local _ .vmem, ⟨4, _⟩ => ⟨S128x256, .f32⟩
  | .local _ .vmem, ⟨5, _⟩ => ⟨S256x256, .f32⟩
  | .local _ .vmem, ⟨6, _⟩ => ⟨S256x256, .f32⟩
  | .local _ .vmem, ⟨7, _⟩ => ⟨S128x256, .f32⟩
  | .local _ .vmem, ⟨8, _⟩ => ⟨S128x256, .f32⟩
  | .local _ .vmem, ⟨9, _⟩ => ⟨S256x256, .f32⟩
  | .local _ .vmem, ⟨10, _⟩ => ⟨S256x256, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let c1_i32 : BitVec 32 := 1#32
  let v3 : BitVec 32 := Scalar.minsi arg1 c1_i32
  let v4 : BitVec 32 := Scalar.subi v2 v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let c1_i32 : BitVec 32 := 1#32
  let v3 : BitVec 32 := Scalar.minsi arg1 c1_i32
  let v4 : BitVec 32 := Scalar.subi v2 v3
  let c1_i32_0 : BitVec 32 := 1#32
  let c0_i32 : BitVec 32 := 0#32
  ![v4.toNat, c1_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x1024 : Shape := ⟨2, ![16384, 1024]⟩
abbrev S16384x512 : Shape := ⟨2, ![16384, 512]⟩
abbrev S16 : Shape := ⟨1, ![16]⟩
abbrev S16384x256 : Shape := ⟨2, ![16384, 256]⟩
abbrev S8x2048x4x64 : Shape := ⟨4, ![8, 2048, 4, 64]⟩
abbrev S8x32x64x4x4x64 : Shape := ⟨6, ![8, 32, 64, 4, 4, 64]⟩
abbrev S_ : Shape := ⟨0, ![]⟩
abbrev S8x2176x4x64 : Shape := ⟨4, ![8, 2176, 4, 64]⟩
abbrev S8x34x64x4x64 : Shape := ⟨5, ![8, 34, 64, 4, 64]⟩
abbrev S8x32x64x4x64 : Shape := ⟨5, ![8, 32, 64, 4, 64]⟩
abbrev S8x32x192x4x64 : Shape := ⟨5, ![8, 32, 192, 4, 64]⟩
abbrev S8x32x4x192x64x4 : Shape := ⟨6, ![8, 32, 4, 192, 64, 4]⟩
abbrev S8x32x4x4x64x192 : Shape := ⟨6, ![8, 32, 4, 4, 64, 192]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S1x32x1x1x1x192 : Shape := ⟨6, ![1, 32, 1, 1, 1, 192]⟩
abbrev S4x4x1x1 : Shape := ⟨4, ![4, 4, 1, 1]⟩
abbrev S8x32x4x4x64x1 : Shape := ⟨6, ![8, 32, 4, 4, 64, 1]⟩
abbrev S8x32x4x4x64x193 : Shape := ⟨6, ![8, 32, 4, 4, 64, 193]⟩
abbrev S8x32x4x4x64 : Shape := ⟨5, ![8, 32, 4, 4, 64]⟩
abbrev S8x32x4x64x4x64 : Shape := ⟨6, ![8, 32, 4, 64, 4, 64]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16, .f32⟩
  | .hbm, ⟨3, _⟩ => ⟨S16384x256, .f32⟩
  | .hbm, ⟨4, _⟩ => ⟨S8x2048x4x64, .f32⟩
  | .hbm, ⟨5, _⟩ => ⟨S16384x256, .f32⟩
  | .hbm, ⟨6, _⟩ => ⟨S8x2048x4x64, .f32⟩
  | .hbm, ⟨7, _⟩ => ⟨S8x32x64x4x4x64, .f32⟩
  | .hbm, ⟨8, _⟩ => ⟨S_, .i32⟩
  | .hbm, ⟨9, _⟩ => ⟨S_, .f32⟩
  | .hbm, ⟨10, _⟩ => ⟨S8x2176x4x64, .f32⟩
  | .hbm, ⟨11, _⟩ => ⟨S8x34x64x4x64, .f32⟩
  | .hbm, ⟨12, _⟩ => ⟨S_, .i32⟩
  | .hbm, ⟨13, _⟩ => ⟨S_, .f32⟩
  | .hbm, ⟨14, _⟩ => ⟨S8x2176x4x64, .f32⟩
  | .hbm, ⟨15, _⟩ => ⟨S8x34x64x4x64, .f32⟩
  | .hbm, ⟨16, _⟩ => ⟨S8x32x64x4x64, .f32⟩
  | .hbm, ⟨17, _⟩ => ⟨S8x32x64x4x64, .f32⟩
  | .hbm, ⟨18, _⟩ => ⟨S8x32x64x4x64, .f32⟩
  | .hbm, ⟨19, _⟩ => ⟨S8x32x192x4x64, .f32⟩
  | .hbm, ⟨20, _⟩ => ⟨S8x32x64x4x64, .f32⟩
  | .hbm, ⟨21, _⟩ => ⟨S8x32x64x4x64, .f32⟩
  | .hbm, ⟨22, _⟩ => ⟨S8x32x64x4x64, .f32⟩
  | .hbm, ⟨23, _⟩ => ⟨S8x32x192x4x64, .f32⟩
  | .hbm, ⟨24, _⟩ => ⟨S8x32x4x192x64x4, .f32⟩
  | .hbm, ⟨25, _⟩ => ⟨S8x32x4x4x64x192, .f32⟩
  | .hbm, ⟨26, _⟩ => ⟨S_, .f32⟩
  | .hbm, ⟨27, _⟩ => ⟨S8x32x4x4x64x192, .f32⟩
  | .hbm, ⟨28, _⟩ => ⟨S8x32x4x4x64x192, .f32⟩
  | .hbm, ⟨29, _⟩ => ⟨S32, .i32⟩
  | .hbm, ⟨30, _⟩ => ⟨S32x1, .i32⟩
  | .hbm, ⟨31, _⟩ => ⟨S_, .i32⟩
  | .hbm, ⟨32, _⟩ => ⟨S32x1, .i32⟩
  | .hbm, ⟨33, _⟩ => ⟨S32x1, .i32⟩
  | .hbm, ⟨34, _⟩ => ⟨S192, .i32⟩
  | .hbm, ⟨35, _⟩ => ⟨S_, .i32⟩
  | .hbm, ⟨36, _⟩ => ⟨S192, .i32⟩
  | .hbm, ⟨37, _⟩ => ⟨S192, .i32⟩
  | .hbm, ⟨38, _⟩ => ⟨S1x192, .i32⟩
  | .hbm, ⟨39, _⟩ => ⟨S32x192, .i32⟩
  | .hbm, ⟨40, _⟩ => ⟨S32x192, .i32⟩
  | .hbm, ⟨41, _⟩ => ⟨S32x192, .i32⟩
  | .hbm, ⟨42, _⟩ => ⟨S_, .i32⟩
  | .hbm, ⟨43, _⟩ => ⟨S32x192, .i32⟩
  | .hbm, ⟨44, _⟩ => ⟨S32x192, .i1⟩
  | .hbm, ⟨45, _⟩ => ⟨S1x32x1x1x1x192, .i1⟩
  | .hbm, ⟨46, _⟩ => ⟨S_, .f32⟩
  | .hbm, ⟨47, _⟩ => ⟨S_, .f32⟩
  | .hbm, ⟨48, _⟩ => ⟨S8x32x4x4x64x192, .i1⟩
  | .hbm, ⟨49, _⟩ => ⟨S8x32x4x4x64x192, .f32⟩
  | .hbm, ⟨50, _⟩ => ⟨S8x32x4x4x64x192, .f32⟩
  | .hbm, ⟨51, _⟩ => ⟨S4x4x1x1, .f32⟩
  | .hbm, ⟨52, _⟩ => ⟨S8x32x4x4x64x1, .f32⟩
  | .hbm, ⟨53, _⟩ => ⟨S8x32x4x4x64x193, .f32⟩
  | .hbm, ⟨54, _⟩ => ⟨S_, .f32⟩
  | .hbm, ⟨55, _⟩ => ⟨S8x32x4x4x64, .f32⟩
  | .hbm, ⟨56, _⟩ => ⟨S_, .f32⟩
  | .hbm, ⟨57, _⟩ => ⟨S8x32x4x4x64, .f32⟩
  | .hbm, ⟨58, _⟩ => ⟨S8x32x4x4x64, .f32⟩
  | .hbm, ⟨59, _⟩ => ⟨S8x32x4x4x64x1, .f32⟩
  | .hbm, ⟨60, _⟩ => ⟨S8x32x4x4x64x193, .f32⟩
  | .hbm, ⟨61, _⟩ => ⟨S8x32x4x4x64x193, .f32⟩
  | .hbm, ⟨62, _⟩ => ⟨S8x32x4x4x64x193, .f32⟩
  | .hbm, ⟨63, _⟩ => ⟨S_, .f32⟩
  | .hbm, ⟨64, _⟩ => ⟨S8x32x4x4x64, .f32⟩
  | .hbm, ⟨65, _⟩ => ⟨S8x32x4x4x64x1, .f32⟩
  | .hbm, ⟨66, _⟩ => ⟨S8x32x4x4x64x193, .f32⟩
  | .hbm, ⟨67, _⟩ => ⟨S8x32x4x4x64x193, .f32⟩
  | .hbm, ⟨68, _⟩ => ⟨S8x32x4x4x64x192, .f32⟩
  | .hbm, ⟨69, _⟩ => ⟨S8x32x4x64x4x64, .f32⟩
  | .hbm, ⟨70, _⟩ => ⟨S8x32x64x4x4x64, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== KernelIn.lean ====
abbrev S16384x1024 : Shape := ⟨2, ![16384, 1024]⟩
abbrev S1024 : Shape := ⟨1, ![1024]⟩
abbrev S1024x6176 : Shape := ⟨2, ![1024, 6176]⟩
abbrev S_ : Shape := ⟨0, ![]⟩
abbrev S1024x6272 : Shape := ⟨2, ![1024, 6272]⟩
abbrev S6272 : Shape := ⟨1, ![6272]⟩
abbrev S1x1024 : Shape := ⟨2, ![1, 1024]⟩
abbrev S1x6272 : Shape := ⟨2, ![1, 6272]⟩
abbrev S16384x6272 : Shape := ⟨2, ![16384, 6272]⟩
abbrev S1024x1024 : Shape := ⟨2, ![1024, 1024]⟩
abbrev S1024x896 : Shape := ⟨2, ![1024, 896]⟩
abbrev S1x896 : Shape := ⟨2, ![1, 896]⟩
abbrev S1024x1 : Shape := ⟨2, ![1024, 1]⟩
abbrev S8x2048x6272 : Shape := ⟨3, ![8, 2048, 6272]⟩
abbrev S8x3x4096 : Shape := ⟨3, ![8, 3, 4096]⟩

abbrev nBuf : Space → Nat
  | .hbm => 14
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6176, .f32⟩
  | .hbm, ⟨3, _⟩ => ⟨S_, .i32⟩
  | .hbm, ⟨4, _⟩ => ⟨S_, .f32⟩
  | .hbm, ⟨5, _⟩ => ⟨S1024x6272, .f32⟩
  | .hbm, ⟨6, _⟩ => ⟨S1024x6272, .bf16⟩
  | .hbm, ⟨7, _⟩ => ⟨S_, .f32⟩
  | .hbm, ⟨8, _⟩ => ⟨S6272, .f32⟩
  | .hbm, ⟨9, _⟩ => ⟨S1x1024, .f32⟩
  | .hbm, ⟨10, _⟩ => ⟨S1x6272, .f32⟩
  | .hbm, ⟨11, _⟩ => ⟨S16384x6272, .f32⟩
  | .hbm, ⟨12, _⟩ => ⟨S8x2048x6272, .f32⟩
  | .hbm, ⟨13, _⟩ => ⟨S8x3x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1x896, .f32⟩
  | .local _ .vmem, ⟨6, _⟩ => ⟨S1x896, .f32⟩
  | .local _ .vmem, ⟨7, _⟩ => ⟨S1024x896, .f32⟩
  | .local _ .vmem, ⟨8, _⟩ => ⟨S1024x896, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInIdeal.lean ====
abbrev S16384x1024 : Shape := ⟨2, ![16384, 1024]⟩
abbrev S1024 : Shape := ⟨1, ![1024]⟩
abbrev S1024x6176 : Shape := ⟨2, ![1024, 6176]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6176 : Shape := ⟨2, ![16384, 6176]⟩
abbrev S16384x6272 : Shape := ⟨2, ![16384, 6272]⟩
abbrev S16384x4096 : Shape := ⟨2, ![16384, 4096]⟩
abbrev S8x2048x4096 : Shape := ⟨3, ![8, 2048, 4096]⟩
abbrev S8x3x4096 : Shape := ⟨3, ![8, 3, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6176, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6176, .f32⟩
  | .hbm, ⟨20, _⟩ => ⟨S_, .i32⟩
  | .hbm, ⟨21, _⟩ => ⟨S_, .f32⟩
  | .hbm, ⟨22, _⟩ => ⟨S16384x6272, .f32⟩
  | .hbm, ⟨23, _⟩ => ⟨S16384x4096, .f32⟩
  | .hbm, ⟨24, _⟩ => ⟨S8x2048x4096, .f32⟩
  | .hbm, ⟨25, _⟩ => ⟨S8x3x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelPq.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S1x1024 : Shape := ⟨2, ![1, 1024]⟩
abbrev S1x2048 : Shape := ⟨2, ![1, 2048]⟩
abbrev S8x16384x256 : Shape := ⟨3, ![8, 16384, 256]⟩
abbrev S1024x1024 : Shape := ⟨2, ![1024, 1024]⟩
abbrev S8x1024x256 : Shape := ⟨3, ![8, 1024, 256]⟩
abbrev S1024x1 : Shape := ⟨2, ![1024, 1]⟩
abbrev S1024x256 : Shape := ⟨2, ![1024, 256]⟩
abbrev S1x1024x256 : Shape := ⟨3, ![1, 1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S_, .f32⟩
  | .hbm, ⟨5, _⟩ => ⟨S2048, .f32⟩
  | .hbm, ⟨6, _⟩ => ⟨S1x1024, .f32⟩
  | .hbm, ⟨7, _⟩ => ⟨S1x2048, .f32⟩
  | .hbm, ⟨8, _⟩ => ⟨S8x16384x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S8x1024x256, .bf16⟩
  | .local _ .vmem, ⟨6, _⟩ => ⟨S8x1024x256, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferencePqIdeal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x8x256 : Shape := ⟨3, ![16384, 8, 256]⟩
abbrev S8x16384x256 : Shape := ⟨3, ![8, 16384, 256]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S16384x8x256, .f32⟩
  | .hbm, ⟨21, _⟩ => ⟨S8x16384x256, .f32⟩
  | .hbm, ⟨22, _⟩ => ⟨S8x16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelQ.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelKv.lean ====
abbrev S16384x1024 : Shape := ⟨2, ![16384, 1024]⟩
abbrev S1024 : Shape := ⟨1, ![1024]⟩
abbrev S1024x512 : Shape := ⟨2, ![1024, 512]⟩
abbrev S512 : Shape := ⟨1, ![512]⟩
abbrev S1x1024 : Shape := ⟨2, ![1, 1024]⟩
abbrev S1x512 : Shape := ⟨2, ![1, 512]⟩
abbrev S16384x512 : Shape := ⟨2, ![16384, 512]⟩
abbrev S1024x1024 : Shape := ⟨2, ![1024, 1024]⟩
abbrev S1024x1 : Shape := ⟨2, ![1024, 1]⟩
abbrev S8x2048x512 : Shape := ⟨3, ![8, 2048, 512]⟩
abbrev S8x128x256 : Shape := ⟨3, ![8, 128, 256]⟩
abbrev S8x128x4x64 : Shape := ⟨4, ![8, 128, 4, 64]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S1024x512, .bf16⟩
  | .hbm, ⟨5, _⟩ => ⟨S1x1024, .f32⟩
  | .hbm, ⟨6, _⟩ => ⟨S1x512, .f32⟩
  | .hbm, ⟨7, _⟩ => ⟨S16384x512, .f32⟩
  | .hbm, ⟨8, _⟩ => ⟨S8x2048x512, .f32⟩
  | .hbm, ⟨9, _⟩ => ⟨S8x128x256, .f32⟩
  | .hbm, ⟨10, _⟩ => ⟨S8x128x256, .f32⟩
  | .hbm, ⟨11, _⟩ => ⟨S8x128x4x64, .f32⟩
  | .hbm, ⟨12, _⟩ => ⟨S8x128x4x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceKvIdeal.lean ====
abbrev S16384x1024 : Shape := ⟨2, ![16384, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩
abbrev S1x512 : Shape := ⟨2, ![1, 512]⟩
abbrev S16384x256 : Shape := ⟨2, ![16384, 256]⟩
abbrev S8x2048x4x64 : Shape := ⟨4, ![8, 2048, 4, 64]⟩
abbrev S8x128x4x64 : Shape := ⟨4, ![8, 128, 4, 64]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x512, .f32⟩
  | .hbm, ⟨21, _⟩ => ⟨S1x512, .f32⟩
  | .hbm, ⟨22, _⟩ => ⟨S16384x512, .f32⟩
  | .hbm, ⟨23, _⟩ => ⟨S16384x512, .f32⟩
  | .hbm, ⟨24, _⟩ => ⟨S16384x256, .f32⟩
  | .hbm, ⟨25, _⟩ => ⟨S8x2048x4x64, .f32⟩
  | .hbm, ⟨26, _⟩ => ⟨S16384x256, .f32⟩
  | .hbm, ⟨27, _⟩ => ⟨S8x2048x4x64, .f32⟩
  | .hbm, ⟨28, _⟩ => ⟨S8x128x4x64, .f32⟩
  | .hbm, ⟨29, _⟩ => ⟨S8x128x4x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== KernelGated.lean ====
abbrev S16384x2048 : Shape := ⟨2, ![16384, 2048]⟩
abbrev S16384x6272 : Shape := ⟨2, ![16384, 6272]⟩
abbrev S2048 : Shape := ⟨1, ![2048]⟩
abbrev S2048x1024 : Shape := ⟨2, ![2048, 1024]⟩
abbrev S16384x1024 : Shape := ⟨2, ![16384, 1024]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x6272, .f32⟩
  | .hbm, ⟨2, _⟩ => ⟨S2048, .f32⟩
  | .hbm, ⟨3, _⟩ => ⟨S2048x1024, .f32⟩
  | .hbm, ⟨4, _⟩ => ⟨S16384x1024, .f32⟩
  | .hbm, ⟨5, _⟩ => ⟨S2048x1024, .bf16⟩
  | .hbm, ⟨6, _⟩ => ⟨S1x2048, .f32⟩
  | .hbm, ⟨7, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceGatedIdeal.lean ====
abbrev S16384x2048 : Shape := ⟨2, ![16384, 2048]⟩
abbrev S16384x6272 : Shape := ⟨2, ![16384, 6272]⟩
abbrev S2048 : Shape := ⟨1, ![2048]⟩
abbrev S2048x1024 : Shape := ⟨2, ![2048, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x6272, .f32⟩
  | .hbm, ⟨2, _⟩ => ⟨S2048, .f32⟩
  | .hbm, ⟨3, _⟩ => ⟨S2048x1024, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x1024, .f32⟩
  | .hbm, ⟨33, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== KernelO.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelFinal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelFinalIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFinalIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelConv.lean ====
abbrev S512x6272 : Shape := ⟨2, ![512, 6272]⟩
abbrev S32x3x4096 : Shape := ⟨3, ![32, 3, 4096]⟩
abbrev S4x4096 : Shape := ⟨2, ![4, 4096]⟩
abbrev S4096 : Shape := ⟨1, ![4096]⟩
abbrev S_ : Shape := ⟨0, ![]⟩
abbrev S32x8x4096 : Shape := ⟨3, ![32, 8, 4096]⟩
abbrev S1x4096 : Shape := ⟨2, ![1, 4096]⟩
abbrev S512x4096 : Shape := ⟨2, ![512, 4096]⟩
abbrev S16x1024 : Shape := ⟨2, ![16, 1024]⟩
abbrev S8x1024 : Shape := ⟨2, ![8, 1024]⟩
abbrev S1x8x1024 : Shape := ⟨3, ![1, 8, 1024]⟩
abbrev S4x1024 : Shape := ⟨2, ![4, 1024]⟩
abbrev S1x1024 : Shape := ⟨2, ![1, 1024]⟩
abbrev S24x1024 : Shape := ⟨2, ![24, 1024]⟩

abbrev nBuf : Space → Nat
  | .hbm => 9
  | .vmem => 12
  | .smem => 0
  | _ => 0

abbrev bufTy : (tb : Table) → Fin (tcTables nBuf tb) → BufTy
  | .hbm, ⟨0, _⟩ => ⟨S512x6272, .f32⟩
  | .hbm, ⟨1, _⟩ => ⟨S32x3x4096, .f32⟩
  | .hbm, ⟨2, _⟩ => ⟨S4x4096, .f32⟩
  | .hbm, ⟨3, _⟩ => ⟨S4096, .f32⟩
  | .hbm, ⟨4, _⟩ => ⟨S_, .i32⟩
  | .hbm, ⟨5, _⟩ => ⟨S_, .f32⟩
  | .hbm, ⟨6, _⟩ => ⟨S32x8x4096, .f32⟩
  | .hbm, ⟨7, _⟩ => ⟨S1x4096, .f32⟩
  | .hbm, ⟨8, _⟩ => ⟨S512x4096, .f32⟩
  | .local _ .vmem, ⟨0, _⟩ => ⟨S16x1024, .f32⟩
  | .local _ .vmem, ⟨1, _⟩ => ⟨S16x1024, .f32⟩
  | .local _ .vmem, ⟨2, _⟩ => ⟨S8x1024, .f32⟩
  | .local _ .vmem, ⟨3, _⟩ => ⟨S8x1024, .f32⟩
  | .local _ .vmem, ⟨4, _⟩ => ⟨S1x8x1024, .f32⟩
  | .local _ .vmem, ⟨5, _⟩ => ⟨S1x8x1024, .f32⟩
  | .local _ .vmem, ⟨6, _⟩ => ⟨S4x1024, .f32⟩
  | .local _ .vmem, ⟨7, _⟩ => ⟨S4x1024, .f32⟩
  | .local _ .vmem, ⟨8, _⟩ => ⟨S1x1024, .f32⟩
  | .local _ .vmem, ⟨9, _⟩ => ⟨S1x1024, .f32⟩
  | .local _ .vmem, ⟨10, _⟩ => ⟨S16x1024, .f32⟩
  | .local _ .vmem, ⟨11, _⟩ => ⟨S16x1024, .f32⟩
  | _, _ => ⟨S512x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c2_i32 : BitVec 32 := 2#32
  let v2 : BitVec 32 := Scalar.addi c2_i32 arg2
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c2_i32 : BitVec 32 := 2#32
  let v2 : BitVec 32 := Scalar.muli v1 c2_i32
  let c1_i32_0 : BitVec 32 := 1#32
  let v3 : BitVec 32 := Scalar.subi v2 c1_i32_0
  let c0_i32 : BitVec 32 := 0#32
  let v4 : BitVec 32 := Scalar.maxsi v3 c0_i32
  let c2_i32_1 : BitVec 32 := 2#32
  let v5 : BitVec 32 := Scalar.addi c2_i32_1 arg2
  let c0_i32_2 : BitVec 32 := 0#32
  ![v4.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceConvIdeal.lean ====
abbrev S512x6272 : Shape := ⟨2, ![512, 6272]⟩
abbrev S32x3x4096 : Shape := ⟨3, ![32, 3, 4096]⟩
abbrev S4x4096 : Shape := ⟨2, ![4, 4096]⟩
abbrev S4096 : Shape := ⟨1, ![4096]⟩
abbrev S32x16x6272 : Shape := ⟨3, ![32, 16, 6272]⟩
abbrev S32x16x4096 : Shape := ⟨3, ![32, 16, 4096]⟩
abbrev S32x19x4096 : Shape := ⟨3, ![32, 19, 4096]⟩
abbrev S1x4096 : Shape := ⟨2, ![1, 4096]⟩
abbrev S1x1x4096 : Shape := ⟨3, ![1, 1, 4096]⟩
abbrev S_ : Shape := ⟨0, ![]⟩
abbrev S512x4096 : Shape := ⟨2, ![512, 4096]⟩

abbrev nBuf : Space → Nat
  | .hbm => 47
  | .vmem => 0
  | .smem => 0
  | _ => 0

abbrev bufTy : (tb : Table) → Fin (tcTables nBuf tb) → BufTy
  | .hbm, ⟨0, _⟩ => ⟨S512x6272, .f32⟩
  | .hbm, ⟨1, _⟩ => ⟨S32x3x4096, .f32⟩
  | .hbm, ⟨2, _⟩ => ⟨S4x4096, .f32⟩
  | .hbm, ⟨3, _⟩ => ⟨S4096, .f32⟩
  | .hbm, ⟨4, _⟩ => ⟨S32x16x6272, .f32⟩
  | .hbm, ⟨5, _⟩ => ⟨S32x16x4096, .f32⟩
  | .hbm, ⟨6, _⟩ => ⟨S32x19x4096, .f32⟩
  | .hbm, ⟨7, _⟩ => ⟨S32x16x4096, .f32⟩
  | .hbm, ⟨8, _⟩ => ⟨S1x4096, .f32⟩
  | .hbm, ⟨9, _⟩ => ⟨S4096, .f32⟩
  | .hbm, ⟨10, _⟩ => ⟨S1x1x4096, .f32⟩
  | .hbm, ⟨11, _⟩ => ⟨S32x16x4096, .f32⟩
  | .hbm, ⟨12, _⟩ => ⟨S32x16x4096, .f32⟩
  | .hbm, ⟨13, _⟩ => ⟨S1x1x4096, .f32⟩
  | .hbm, ⟨14, _⟩ => ⟨S32x16x4096, .f32⟩
  | .hbm, ⟨15, _⟩ => ⟨S32x16x4096, .f32⟩
  | .hbm, ⟨16, _⟩ => ⟨S32x16x4096, .f32⟩
  | .hbm, ⟨17, _⟩ => ⟨S1x4096, .f32⟩
  | .hbm, ⟨18, _⟩ => ⟨S4096, .f32⟩
  | .hbm, ⟨19, _⟩ => ⟨S1x1x4096, .f32⟩
  | .hbm, ⟨20, _⟩ => ⟨S32x16x4096, .f32⟩
  | .hbm, ⟨21, _⟩ => ⟨S32x16x4096, .f32⟩
  | .hbm, ⟨22, _⟩ => ⟨S32x16x4096, .f32⟩
  | .hbm, ⟨23, _⟩ => ⟨S32x16x4096, .f32⟩
  | .hbm, ⟨24, _⟩ => ⟨S1x4096, .f32⟩
  | .hbm, ⟨25, _⟩ => ⟨S4096, .f32⟩
  | .hbm, ⟨26, _⟩ => ⟨S1x1x4096, .f32⟩
  | .hbm, ⟨27, _⟩ => ⟨S32x16x4096, .f32⟩
  | .hbm, ⟨28, _⟩ => ⟨S32x16x4096, .f32⟩
  | .hbm, ⟨29, _⟩ => ⟨S32x16x4096, .f32⟩
  | .hbm, ⟨30, _⟩ => ⟨S32x16x4096, .f32⟩
  | .hbm, ⟨31, _⟩ => ⟨S1x4096, .f32⟩
  | .hbm, ⟨32, _⟩ => ⟨S4096, .f32⟩
  | .hbm, ⟨33, _⟩ => ⟨S1x1x4096, .f32⟩
  | .hbm, ⟨34, _⟩ => ⟨S32x16x4096, .f32⟩
  | .hbm, ⟨35, _⟩ => ⟨S32x16x4096, .f32⟩
  | .hbm, ⟨36, _⟩ => ⟨S32x16x4096, .f32⟩
  | .hbm, ⟨37, _⟩ => ⟨S32x16x4096, .f32⟩
  | .hbm, ⟨38, _⟩ => ⟨S32x16x4096, .f32⟩
  | .hbm, ⟨39, _⟩ => ⟨S_, .f32⟩
  | .hbm, ⟨40, _⟩ => ⟨S32x16x4096, .f32⟩
  | .hbm, ⟨41, _⟩ => ⟨S32x16x4096, .f32⟩
  | .hbm, ⟨42, _⟩ => ⟨S_, .f32⟩
  | .hbm, ⟨43, _⟩ => ⟨S32x16x4096, .f32⟩
  | .hbm, ⟨44, _⟩ => ⟨S32x16x4096, .f32⟩
  | .hbm, ⟨45, _⟩ => ⟨S32x16x4096, .f32⟩
  | .hbm, ⟨46, _⟩ => ⟨S512x4096, .f32⟩
  | _, _ => ⟨S512x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelSsd.lean ====
abbrev S512x4096 : Shape := ⟨2, ![512, 4096]⟩
abbrev S512x6272 : Shape := ⟨2, ![512, 6272]⟩
abbrev S32 : Shape := ⟨1, ![32]⟩
abbrev S32x2048x128 : Shape := ⟨3, ![32, 2048, 128]⟩
abbrev S2048 : Shape := ⟨1, ![2048]⟩
abbrev S_ : Shape := ⟨0, ![]⟩
abbrev S1x2048 : Shape := ⟨2, ![1, 2048]⟩
abbrev S128 : Shape := ⟨1, ![128]⟩
abbrev S128x1 : Shape := ⟨2, ![128, 1]⟩
abbrev S128x2048 : Shape := ⟨2, ![128, 2048]⟩
abbrev S1x128x1x2048 : Shape := ⟨4, ![1, 128, 1, 2048]⟩
abbrev S2x128x1x2048 : Shape := ⟨4, ![2, 128, 1, 2048]⟩
abbrev S256x2048 : Shape := ⟨2, ![256, 2048]⟩
abbrev S4096 : Shape := ⟨1, ![4096]⟩
abbrev S1x4096 : Shape := ⟨2, ![1, 4096]⟩
abbrev S128x4096 : Shape := ⟨2, ![128, 4096]⟩
abbrev S1x128x1x4096 : Shape := ⟨4, ![1, 128, 1, 4096]⟩
abbrev S3x128x1x4096 : Shape := ⟨4, ![3, 128, 1, 4096]⟩
abbrev S384x4096 : Shape := ⟨2, ![384, 4096]⟩
abbrev S1x128 : Shape := ⟨2, ![1, 128]⟩
abbrev S32x64 : Shape := ⟨2, ![32, 64]⟩
abbrev S512x2048 : Shape := ⟨2, ![512, 2048]⟩
abbrev S16x2048 : Shape := ⟨2, ![16, 2048]⟩
abbrev S16x1024 : Shape := ⟨2, ![16, 1024]⟩
abbrev S16x128 : Shape := ⟨2, ![16, 128]⟩
abbrev S1x2048x128 : Shape := ⟨3, ![1, 2048, 128]⟩
abbrev S8x128x256 : Shape := ⟨3, ![8, 128, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S112x128 : Shape := ⟨2, ![112, 128]⟩
abbrev S128x128 : Shape := ⟨2, ![128, 128]⟩
abbrev S384x256 : Shape := ⟨2, ![384, 256]⟩
abbrev S384x2048 : Shape := ⟨2, ![384, 2048]⟩
abbrev S128x384 : Shape := ⟨2, ![128, 384]⟩
abbrev S112x2048 : Shape := ⟨2, ![112, 2048]⟩
abbrev S112x1024 : Shape := ⟨2, ![112, 1024]⟩
abbrev S128x1024 : Shape := ⟨2, ![128, 1024]⟩
abbrev S1x256 : Shape := ⟨2, ![1, 256]⟩
abbrev S128x64 : Shape := ⟨2, ![128, 64]⟩
abbrev S16x256 : Shape := ⟨2, ![16, 256]⟩

abbrev nBuf : Space → Nat
  | .hbm => 77
  | .vmem => 20
  | .smem => 0
  | _ => 0

abbrev bufTy : (tb : Table) → Fin (tcTables nBuf tb) → BufTy
  | .hbm, ⟨0, _⟩ => ⟨S512x4096, .f32⟩
  | .hbm, ⟨1, _⟩ => ⟨S512x6272, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x2048x128, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S1x2048, .i32⟩
  | .hbm, ⟨26, _⟩ => ⟨S128, .i32⟩
  | .hbm, ⟨27, _⟩ => ⟨S128x1, .i32⟩
  | .hbm, ⟨28, _⟩ => ⟨S128x2048, .i32⟩
  | .hbm, ⟨29, _⟩ => ⟨S128x2048, .i32⟩
  | .hbm, ⟨30, _⟩ => ⟨S128x2048, .i1⟩
  | .hbm, ⟨31, _⟩ => ⟨S128x2048, .bf16⟩
  | .hbm, ⟨32, _⟩ => ⟨S1x128x1x2048, .bf16⟩
  | .hbm, ⟨33, _⟩ => ⟨S2x128x1x2048, .bf16⟩
  | .hbm, ⟨34, _⟩ => ⟨S256x2048, .bf16⟩
  | .hbm, ⟨35, _⟩ => ⟨S4096, .i32⟩
  | .hbm, ⟨36, _⟩ => ⟨S_, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S1x4096, .i32⟩
  | .hbm, ⟨55, _⟩ => ⟨S128, .i32⟩
  | .hbm, ⟨56, _⟩ => ⟨S128x1, .i32⟩
  | .hbm, ⟨57, _⟩ => ⟨S128x4096, .i32⟩
  | .hbm, ⟨58, _⟩ => ⟨S128x4096, .i32⟩
  | .hbm, ⟨59, _⟩ => ⟨S128x4096, .i1⟩
  | .hbm, ⟨60, _⟩ => ⟨S128x4096, .bf16⟩
  | .hbm, ⟨61, _⟩ => ⟨S1x128x1x4096, .bf16⟩
  | .hbm, ⟨62, _⟩ => ⟨S3x128x1x4096, .bf16⟩
  | .hbm, ⟨63, _⟩ => ⟨S384x4096, .bf16⟩
  | .hbm, ⟨64, _⟩ => ⟨S_, .i32⟩
  | .hbm, ⟨65, _⟩ => ⟨S_, .f32⟩
  | .hbm, ⟨66, _⟩ => ⟨S128, .f32⟩
  | .hbm, ⟨67, _⟩ => ⟨S1x128, .f32⟩
  | .hbm, ⟨68, _⟩ => ⟨S_, .i32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S32x64, .f32⟩
  | .hbm, ⟨73, _⟩ => ⟨S2048, .f32⟩
  | .hbm, ⟨74, _⟩ => ⟨S1x2048, .f32⟩
  | .hbm, ⟨75, _⟩ => ⟨S512x2048, .f32⟩
  | .hbm, ⟨76, _⟩ => ⟨S32x2048x128, .f32⟩
  | .local _ .vmem, ⟨0, _⟩ => ⟨S16x2048, .f32⟩
  | .local _ .vmem, ⟨1, _⟩ => ⟨S16x2048, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x128, .f32⟩
  | .local _ .vmem, ⟨7, _⟩ => ⟨S16x128, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S256x2048, .bf16⟩
  | .local _ .vmem, ⟨12, _⟩ => ⟨S384x4096, .bf16⟩
  | .local _ .vmem, ⟨13, _⟩ => ⟨S1x2048x128, .f32⟩
  | .local _ .vmem, ⟨14, _⟩ => ⟨S1x2048x128, .f32⟩
  | .local _ .vmem, ⟨15, _⟩ => ⟨S16x2048, .f32⟩
  | .local _ .vmem, ⟨16, _⟩ => ⟨S16x2048, .f32⟩
  | .local _ .vmem, ⟨17, _⟩ => ⟨S1x2048x128, .f32⟩
  | .local _ .vmem, ⟨18, _⟩ => ⟨S1x2048x128, .f32⟩
  | .local _ .vmem, ⟨19, _⟩ => ⟨S8x128x256, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_c_1 : Ref sig .tc := ⟨.hbm, 64, rfl⟩
abbrev main_call2_v0 : Ref sig .tc := ⟨.hbm, 65, rfl⟩
abbrev main_v24 : Ref sig .tc := ⟨.hbm, 66, rfl⟩
abbrev main_v25 : Ref sig .tc := ⟨.hbm, 67, rfl⟩
abbrev main_c_2 : Ref sig .tc := ⟨.hbm, 68, rfl⟩
abbrev main_call3_v0 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31_0 : Ref sig .tc := ⟨.hbm, 75, rfl⟩
abbrev main_v31_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_184 : BitVec 32 := 0#32
  let v743 : BitVec 1 := Scalar.cmpi .eq arg1 c0_i32_184
  let v744 : BitVec 32 := Scalar.extui v743
  let c0_i32_185 : BitVec 32 := 0#32
  let v745 : BitVec 1 := Scalar.cmpi .ne v744 c0_i32_185
  v745

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c48_i32 : BitVec 32 := 48#32
  let c0_i32 : BitVec 32 := 0#32
  ![v1.toNat, c48_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceSsdIdeal.lean ====
abbrev S512x4096 : Shape := ⟨2, ![512, 4096]⟩
abbrev S512x6272 : Shape := ⟨2, ![512, 6272]⟩
abbrev S32 : Shape := ⟨1, ![32]⟩
abbrev S32x2048x128 : Shape := ⟨3, ![32, 2048, 128]⟩
abbrev S512x2048 : Shape := ⟨2, ![512, 2048]⟩
abbrev S32x16x32x64 : Shape := ⟨4, ![32, 16, 32, 64]⟩
abbrev S512x1024 : Shape := ⟨2, ![512, 1024]⟩
abbrev S32x16x8x128 : Shape := ⟨4, ![32, 16, 8, 128]⟩
abbrev S32x16x8x4x128 : Shape := ⟨5, ![32, 16, 8, 4, 128]⟩
abbrev S32x16x32x128 : Shape := ⟨4, ![32, 16, 32, 128]⟩
abbrev S32x32x64x128 : Shape := ⟨4, ![32, 32, 64, 128]⟩
abbrev S512x32 : Shape := ⟨2, ![512, 32]⟩
abbrev S32x16x32 : Shape := ⟨3, ![32, 16, 32]⟩
abbrev S1x1x32 : Shape := ⟨3, ![1, 1, 32]⟩
abbrev S_ : Shape := ⟨0, ![]⟩
abbrev S32x16x1x32 : Shape := ⟨4, ![32, 16, 1, 32]⟩
abbrev S32x1x16x32 : Shape := ⟨4, ![32, 1, 16, 32]⟩
abbrev S32x16x16x32 : Shape := ⟨4, ![32, 16, 16, 32]⟩
abbrev S16x16 : Shape := ⟨2, ![16, 16]⟩
abbrev S16x16x1 : Shape := ⟨3, ![16, 16, 1]⟩
abbrev S32x16x32x1 : Shape := ⟨4, ![32, 16, 32, 1]⟩
abbrev S32x32x16x16 : Shape := ⟨4, ![32, 32, 16, 16]⟩
abbrev S32x32x64x16 : Shape := ⟨4, ![32, 32, 64, 16]⟩
abbrev S32x1x32 : Shape := ⟨3, ![32, 1, 32]⟩
abbrev S32x32 : Shape := ⟨2, ![32, 32]⟩
abbrev S32x32x1x1 : Shape := ⟨4, ![32, 32, 1, 1]⟩
abbrev S32x1 : Shape := ⟨2, ![32, 1]⟩
abbrev S1x1x32x1 : Shape := ⟨4, ![1, 1, 32, 1]⟩

abbrev nBuf : Space → Nat
  | .hbm => 104
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x6272, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x2048x128, .f32⟩
  | .hbm, ⟨6, _⟩ => ⟨S512x2048, .f32⟩
  | .hbm, ⟨7, _⟩ => ⟨S32x16x32x64, .f32⟩
  | .hbm, ⟨8, _⟩ => ⟨S512x1024, .f32⟩
  | .hbm, ⟨9, _⟩ => ⟨S32x16x8x128, .f32⟩
  | .hbm, ⟨10, _⟩ => ⟨S32x16x8x4x128, .f32⟩
  | .hbm, ⟨11, _⟩ => ⟨S32x16x32x128, .f32⟩
  | .hbm, ⟨12, _⟩ => ⟨S512x1024, .f32⟩
  | .hbm, ⟨13, _⟩ => ⟨S32x16x8x128, .f32⟩
  | .hbm, ⟨14, _⟩ => ⟨S32x16x8x4x128, .f32⟩
  | .hbm, ⟨15, _⟩ => ⟨S32x16x32x128, .f32⟩
  | .hbm, ⟨16, _⟩ => ⟨S32x32x64x128, .f32⟩
  | .hbm, ⟨17, _⟩ => ⟨S512x32, .f32⟩
  | .hbm, ⟨18, _⟩ => ⟨S32x16x32, .f32⟩
  | .hbm, ⟨19, _⟩ => ⟨S1x1x32, .f32⟩
  | .hbm, ⟨20, _⟩ => ⟨S32x16x32, .f32⟩
  | .hbm, ⟨21, _⟩ => ⟨S32x16x32, .f32⟩
  | .hbm, ⟨22, _⟩ => ⟨S_, .f32⟩
  | .hbm, ⟨23, _⟩ => ⟨S32x16x32, .f32⟩
  | .hbm, ⟨24, _⟩ => ⟨S32x16x32, .f32⟩
  | .hbm, ⟨25, _⟩ => ⟨S32x16x32, .f32⟩
  | .hbm, ⟨26, _⟩ => ⟨S32x16x32, .f32⟩
  | .hbm, ⟨27, _⟩ => ⟨S32x16x32, .i1⟩
  | .hbm, ⟨28, _⟩ => ⟨S32x16x32, .f32⟩
  | .hbm, ⟨29, _⟩ => ⟨S32x16x32, .f32⟩
  | .hbm, ⟨30, _⟩ => ⟨S32x16x32, .f32⟩
  | .hbm, ⟨31, _⟩ => ⟨S32x16x32, .f32⟩
  | .hbm, ⟨32, _⟩ => ⟨S32x16x32, .f32⟩
  | .hbm, ⟨33, _⟩ => ⟨S32x16x32, .f32⟩
  | .hbm, ⟨34, _⟩ => ⟨S32x16x32, .f32⟩
  | .hbm, ⟨35, _⟩ => ⟨S32x16x32, .f32⟩
  | .hbm, ⟨36, _⟩ => ⟨S32, .f32⟩
  | .hbm, ⟨37, _⟩ => ⟨S32, .f32⟩
  | .hbm, ⟨38, _⟩ => ⟨S1x1x32, .f32⟩
  | .hbm, ⟨39, _⟩ => ⟨S32x16x32, .f32⟩
  | .hbm, ⟨40, _⟩ => ⟨S32x16x32, .f32⟩
  | .hbm, ⟨41, _⟩ => ⟨S_, .f32⟩
  | .hbm, ⟨42, _⟩ => ⟨S_, .f32⟩
  | .hbm, ⟨43, _⟩ => ⟨S32x16x32, .f32⟩
  | .hbm, ⟨44, _⟩ => ⟨S32x16x1x32, .f32⟩
  | .hbm, ⟨45, _⟩ => ⟨S32x1x16x32, .f32⟩
  | .hbm, ⟨46, _⟩ => ⟨S32x16x16x32, .f32⟩
  | .hbm, ⟨47, _⟩ => ⟨S32x16x16x32, .f32⟩
  | .hbm, ⟨48, _⟩ => ⟨S32x16x16x32, .f32⟩
  | .hbm, ⟨49, _⟩ => ⟨S_, .i1⟩
  | .hbm, ⟨50, _⟩ => ⟨S16x16, .i1⟩
  | .hbm, ⟨51, _⟩ => ⟨S16x16, .i32⟩
  | .hbm, ⟨52, _⟩ => ⟨S_, .i32⟩
  | .hbm, ⟨53, _⟩ => ⟨S16x16, .i32⟩
  | .hbm, ⟨54, _⟩ => ⟨S16x16, .i32⟩
  | .hbm, ⟨55, _⟩ => ⟨S16x16, .i32⟩
  | .hbm, ⟨56, _⟩ => ⟨S16x16, .i1⟩
  | .hbm, ⟨57, _⟩ => ⟨S_, .i1⟩
  | .hbm, ⟨58, _⟩ => ⟨S16x16, .i1⟩
  | .hbm, ⟨59, _⟩ => ⟨S16x16, .i1⟩
  | .hbm, ⟨60, _⟩ => ⟨S16x16x1, .i1⟩
  | .hbm, ⟨61, _⟩ => ⟨S_, .f32⟩
  | .hbm, ⟨62, _⟩ => ⟨S_, .f32⟩
  | .hbm, ⟨63, _⟩ => ⟨S32x16x16x32, .i1⟩
  | .hbm, ⟨64, _⟩ => ⟨S32x16x16x32, .f32⟩
  | .hbm, ⟨65, _⟩ => ⟨S32x16x16x32, .f32⟩
  | .hbm, ⟨66, _⟩ => ⟨S32x16x16x32, .f32⟩
  | .hbm, ⟨67, _⟩ => ⟨S32x16x32x1, .f32⟩
  | .hbm, ⟨68, _⟩ => ⟨S32x16x32x64, .f32⟩
  | .hbm, ⟨69, _⟩ => ⟨S32x16x32x64, .f32⟩
  | .hbm, ⟨70, _⟩ => ⟨S32x32x16x16, .f32⟩
  | .hbm, ⟨71, _⟩ => ⟨S32x16x16x32, .f32⟩
  | .hbm, ⟨72, _⟩ => ⟨S32x16x16x32, .f32⟩
  | .hbm, ⟨73, _⟩ => ⟨S32x32x64x16, .f32⟩
  | .hbm, ⟨74, _⟩ => ⟨S32x16x32x64, .f32⟩
  | .hbm, ⟨75, _⟩ => ⟨S32x1x32, .f32⟩
  | .hbm, ⟨76, _⟩ => ⟨S32x16x32, .f32⟩
  | .hbm, ⟨77, _⟩ => ⟨S32x16x32, .f32⟩
  | .hbm, ⟨78, _⟩ => ⟨S32x16x32, .f32⟩
  | .hbm, ⟨79, _⟩ => ⟨S32x16x32x1, .f32⟩
  | .hbm, ⟨80, _⟩ => ⟨S32x16x32x64, .f32⟩
  | .hbm, ⟨81, _⟩ => ⟨S32x16x32x64, .f32⟩
  | .hbm, ⟨82, _⟩ => ⟨S32x32x64x128, .f32⟩
  | .hbm, ⟨83, _⟩ => ⟨S32x1x32, .f32⟩
  | .hbm, ⟨84, _⟩ => ⟨S32x32, .f32⟩
  | .hbm, ⟨85, _⟩ => ⟨S32x32, .f32⟩
  | .hbm, ⟨86, _⟩ => ⟨S32x32x1x1, .f32⟩
  | .hbm, ⟨87, _⟩ => ⟨S32x32x64x128, .f32⟩
  | .hbm, ⟨88, _⟩ => ⟨S32x32x64x128, .f32⟩
  | .hbm, ⟨89, _⟩ => ⟨S32x32x64x128, .f32⟩
  | .hbm, ⟨90, _⟩ => ⟨S32x32x64x16, .f32⟩
  | .hbm, ⟨91, _⟩ => ⟨S32x16x32x64, .f32⟩
  | .hbm, ⟨92, _⟩ => ⟨S32x16x32, .f32⟩
  | .hbm, ⟨93, _⟩ => ⟨S32x16x32x1, .f32⟩
  | .hbm, ⟨94, _⟩ => ⟨S32x16x32x64, .f32⟩
  | .hbm, ⟨95, _⟩ => ⟨S32x16x32x64, .f32⟩
  | .hbm, ⟨96, _⟩ => ⟨S32x16x32x64, .f32⟩
  | .hbm, ⟨97, _⟩ => ⟨S32x1, .f32⟩
  | .hbm, ⟨98, _⟩ => ⟨S1x1x32x1, .f32⟩
  | .hbm, ⟨99, _⟩ => ⟨S32x16x32x64, .f32⟩
  | .hbm, ⟨100, _⟩ => ⟨S32x16x32x64, .f32⟩
  | .hbm, ⟨101, _⟩ => ⟨S32x16x32x64, .f32⟩
  | .hbm, ⟨102, _⟩ => ⟨S512x2048, .f32⟩
  | .hbm, ⟨103, _⟩ => ⟨S32x2048x128, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_call0_cst : Ref sig .tc := ⟨.hbm, 41, rfl⟩
abbrev main_call1_call0_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_0 : Ref sig .tc := ⟨.hbm, 57, rfl⟩
abbrev main_call2_v5 : Ref sig .tc := ⟨.hbm, 58, rfl⟩
abbrev main_v29 : Ref sig .tc := ⟨.hbm, 59, rfl⟩
abbrev main_v30 : Ref sig .tc := ⟨.hbm, 60, rfl⟩
abbrev main_cst : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== KernelFinalS.lean ====
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1x1024, .f32⟩
  | .hbm, ⟨3, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceFinalSIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S1x1024, .f32⟩
  | .hbm, ⟨16, _⟩ => ⟨S512x1024, .f32⟩
  | .hbm, ⟨17, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelInS.lean ====
abbrev S512x1024 : Shape := ⟨2, ![512, 1024]⟩
abbrev S1024 : Shape := ⟨1, ![1024]⟩
abbrev S1024x6176 : Shape := ⟨2, ![1024, 6176]⟩
abbrev S_ : Shape := ⟨0, ![]⟩
abbrev S1024x6272 : Shape := ⟨2, ![1024, 6272]⟩
abbrev S6272 : Shape := ⟨1, ![6272]⟩
abbrev S1x1024 : Shape := ⟨2, ![1, 1024]⟩
abbrev S1x6272 : Shape := ⟨2, ![1, 6272]⟩
abbrev S512x6272 : Shape := ⟨2, ![512, 6272]⟩
abbrev S1024x896 : Shape := ⟨2, ![1024, 896]⟩
abbrev S1x896 : Shape := ⟨2, ![1, 896]⟩
abbrev S512x896 : Shape := ⟨2, ![512, 896]⟩
abbrev S512 : Shape := ⟨1, ![512]⟩
abbrev S512x1 : Shape := ⟨2, ![512, 1]⟩
abbrev S32x16x6272 : Shape := ⟨3, ![32, 16, 6272]⟩
abbrev S32x3x4096 : Shape := ⟨3, ![32, 3, 4096]⟩

abbrev nBuf : Space → Nat
  | .hbm => 14
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x6176, .f32⟩
  | .hbm, ⟨3, _⟩ => ⟨S_, .i32⟩
  | .hbm, ⟨4, _⟩ => ⟨S_, .f32⟩
  | .hbm, ⟨5, _⟩ => ⟨S1024x6272, .f32⟩
  | .hbm, ⟨6, _⟩ => ⟨S1024x6272, .bf16⟩
  | .hbm, ⟨7, _⟩ => ⟨S_, .f32⟩
  | .hbm, ⟨8, _⟩ => ⟨S6272, .f32⟩
  | .hbm, ⟨9, _⟩ => ⟨S1x1024, .f32⟩
  | .hbm, ⟨10, _⟩ => ⟨S1x6272, .f32⟩
  | .hbm, ⟨11, _⟩ => ⟨S512x6272, .f32⟩
  | .hbm, ⟨12, _⟩ => ⟨S32x16x6272, .f32⟩
  | .hbm, ⟨13, _⟩ => ⟨S32x3x4096, .f32⟩
  | .local _ .vmem, ⟨0, _⟩ => ⟨S512x1024, .f32⟩
  | .local _ .vmem, ⟨1, _⟩ => ⟨S1x1024, .f32⟩
  | .local _ .vmem, ⟨2, _⟩ => ⟨S1024x896, .bf16⟩
  | .local _ .vmem, ⟨3, _⟩ => ⟨S1024x896, .bf16⟩
  | .local _ .vmem, ⟨4, _⟩ => ⟨S1x896, .f32⟩
  | .local _ .vmem, ⟨5, _⟩ => ⟨S1x896, .f32⟩
  | .local _ .vmem, ⟨6, _⟩ => ⟨S512x896, .f32⟩
  | .local _ .vmem, ⟨7, _⟩ => ⟨S512x896, .f32⟩
  | .local _ .vmem, ⟨8, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInSIdeal.lean ====
abbrev S512x1024 : Shape := ⟨2, ![512, 1024]⟩
abbrev S1024 : Shape := ⟨1, ![1024]⟩
abbrev S1024x6176 : Shape := ⟨2, ![1024, 6176]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x6176 : Shape := ⟨2, ![512, 6176]⟩
abbrev S512x6272 : Shape := ⟨2, ![512, 6272]⟩
abbrev S512x4096 : Shape := ⟨2, ![512, 4096]⟩
abbrev S32x16x4096 : Shape := ⟨3, ![32, 16, 4096]⟩
abbrev S32x3x4096 : Shape := ⟨3, ![32, 3, 4096]⟩

abbrev nBuf : Space → Nat
  | .hbm => 26
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x6176, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x6176, .f32⟩
  | .hbm, ⟨20, _⟩ => ⟨S_, .i32⟩
  | .hbm, ⟨21, _⟩ => ⟨S_, .f32⟩
  | .hbm, ⟨22, _⟩ => ⟨S512x6272, .f32⟩
  | .hbm, ⟨23, _⟩ => ⟨S512x4096, .f32⟩
  | .hbm, ⟨24, _⟩ => ⟨S32x16x4096, .f32⟩
  | .hbm, ⟨25, _⟩ => ⟨S32x3x4096, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelKvS.lean ====
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S32x128x4x64 : Shape := ⟨4, ![32, 128, 4, 64]⟩
abbrev S1x1024 : Shape := ⟨2, ![1, 1024]⟩
abbrev S1x512 : Shape := ⟨2, ![1, 512]⟩
abbrev S512x512 : Shape := ⟨2, ![512, 512]⟩
abbrev S512x1 : Shape := ⟨2, ![512, 1]⟩
abbrev S32x16x512 : Shape := ⟨3, ![32, 16, 512]⟩
abbrev S32x128x256 : Shape := ⟨3, ![32, 128, 256]⟩
abbrev S32x16x256 : Shape := ⟨3, ![32, 16, 256]⟩
abbrev S32x144x256 : Shape := ⟨3, ![32, 144, 256]⟩

abbrev nBuf : Space → Nat
  | .hbm => 21
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S32x128x4x64, .f32⟩
  | .hbm, ⟨5, _⟩ => ⟨S32x128x4x64, .f32⟩
  | .hbm, ⟨6, _⟩ => ⟨S1024x512, .bf16⟩
  | .hbm, ⟨7, _⟩ => ⟨S1x1024, .f32⟩
  | .hbm, ⟨8, _⟩ => ⟨S1x512, .f32⟩
  | .hbm, ⟨9, _⟩ => ⟨S512x512, .f32⟩
  | .hbm, ⟨10, _⟩ => ⟨S32x16x512, .f32⟩
  | .hbm, ⟨11, _⟩ => ⟨S32x128x256, .f32⟩
  | .hbm, ⟨12, _⟩ => ⟨S32x16x256, .f32⟩
  | .hbm, ⟨13, _⟩ => ⟨S32x144x256, .f32⟩
  | .hbm, ⟨14, _⟩ => ⟨S32x128x256, .f32⟩
  | .hbm, ⟨15, _⟩ => ⟨S32x16x256, .f32⟩
  | .hbm, ⟨16, _⟩ => ⟨S32x144x256, .f32⟩
  | .hbm, ⟨17, _⟩ => ⟨S32x128x256, .f32⟩
  | .hbm, ⟨18, _⟩ => ⟨S32x128x4x64, .f32⟩
  | .hbm, ⟨19, _⟩ => ⟨S32x128x256, .f32⟩
  | .hbm, ⟨20, _⟩ => ⟨S32x128x4x64, .f32⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S1x512, .f32⟩
  | .local _ .vmem, ⟨4, _⟩ => ⟨S512x512, .f32⟩
  | .local _ .vmem, ⟨5, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== ReferenceKvSIdeal.lean ====
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S32x128x4x64 : Shape := ⟨4, ![32, 128, 4, 64]⟩
abbrev S_ : Shape := ⟨0, ![]⟩
abbrev S512x1 : Shape := ⟨2, ![512, 1]⟩
abbrev S1x1024 : Shape := ⟨2, ![1, 1024]⟩
abbrev S512x512 : Shape := ⟨2, ![512, 512]⟩
abbrev S1x512 : Shape := ⟨2, ![1, 512]⟩
abbrev S512x256 : Shape := ⟨2, ![512, 256]⟩
abbrev S32x16x4x64 : Shape := ⟨4, ![32, 16, 4, 64]⟩
abbrev S32x144x4x64 : Shape := ⟨4, ![32, 144, 4, 64]⟩

abbrev nBuf : Space → Nat
  | .hbm => 34
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S32x128x4x64, .f32⟩
  | .hbm, ⟨5, _⟩ => ⟨S32x128x4x64, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S512x512, .f32⟩
  | .hbm, ⟨23, _⟩ => ⟨S1x512, .f32⟩
  | .hbm, ⟨24, _⟩ => ⟨S512x512, .f32⟩
  | .hbm, ⟨25, _⟩ => ⟨S512x512, .f32⟩
  | .hbm, ⟨26, _⟩ => ⟨S512x256, .f32⟩
  | .hbm, ⟨27, _⟩ => ⟨S32x16x4x64, .f32⟩
  | .hbm, ⟨28, _⟩ => ⟨S512x256, .f32⟩
  | .hbm, ⟨29, _⟩ => ⟨S32x16x4x64, .f32⟩
  | .hbm, ⟨30, _⟩ => ⟨S32x144x4x64, .f32⟩
  | .hbm, ⟨31, _⟩ => ⟨S32x128x4x64, .f32⟩
  | .hbm, ⟨32, _⟩ => ⟨S32x144x4x64, .f32⟩
  | .hbm, ⟨33, _⟩ => ⟨S32x128x4x64, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.AttnMath.lean ====
/- The softmax with a sink over extended reals: normalizing by a reciprocal or by a quotient, and leaving out keys whose
   score is minus infinity. -/
module

public import Idealize.ShloMosaic.Lib.Pointwise

@[expose] public section

noncomputable section
open Idealize.ShloMosaic

namespace Cert.Attn

/-- The maximum of the scores and the sink's logit. -/
def top {n : ℕ} (S : Fin n → EReal) (σ : EReal) : EReal := max (Finset.univ.fold max ⊥ S) σ

/-- The sum of the weights, the sink's among them. -/
def den {n : ℕ} (S : Fin n → EReal) (σ : EReal) : EReal := ∑ j, Ideal.exp (S j - top S σ) + Ideal.exp (σ - top S σ)

/-- One output element: the keys' scores `S`, one coordinate `v` of their values, the sink's logit `σ`. -/
def att {n : ℕ} (S v : Fin n → EReal) (σ : EReal) : EReal :=
  ∑ k, v k * (Ideal.exp (S k - top S σ) * Ideal.div 1 (den S σ))

/-- The same, each weight divided. -/
def attDiv {n : ℕ} (S v : Fin n → EReal) (σ : EReal) : EReal :=
  ∑ k, v k * Ideal.div (Ideal.exp (S k - top S σ)) (den S σ)

theorem exp_nonneg (x : EReal) : 0 ≤ Ideal.exp x := by
  induction x using EReal.rec with
  | bot => exact le_refl _
  | coe r => exact EReal.coe_nonneg.mpr (Real.exp_pos r).le
  | top => exact le_top

theorem exp_pos {x : EReal} (h : x ≠ ⊥) : 0 < Ideal.exp x := by
  induction x using EReal.rec with
  | bot => exact absurd rfl h
  | coe r => exact EReal.coe_pos.mpr (Real.exp_pos r)
  | top => exact EReal.coe_lt_top 0

theorem top_lt {n : ℕ} {S : Fin n → EReal} {σ : EReal} (hS : ∀ k, S k < ⊤) (hσ : σ < ⊤) : top S σ < ⊤ := by
  refine max_lt ?_ hσ
  rw [Finset.fold_max_lt]
  exact ⟨bot_lt_top, fun k _ => hS k⟩

theorem den_pos {n : ℕ} {S : Fin n → EReal} {σ : EReal} (hS : ∀ k, S k < ⊤) (hσ : σ < ⊤) (hb : σ ≠ ⊥) : 0 < den S σ := by
  have h : σ - top S σ ≠ ⊥ := by
    intro e
    rw [sub_eq_add_neg, EReal.add_eq_bot_iff, EReal.neg_eq_bot_iff] at e
    exact e.elim hb (top_lt hS hσ).ne
  exact lt_of_lt_of_le (exp_pos h) (le_add_of_nonneg_left (Finset.sum_nonneg fun j _ => exp_nonneg _))

theorem att_eq_attDiv {n : ℕ} {S v : Fin n → EReal} {σ : EReal} (hS : ∀ k, S k < ⊤) (hσ : σ < ⊤) (hb : σ ≠ ⊥) :
    att S v σ = attDiv S v σ := by
  refine Finset.sum_congr rfl fun k _ => ?_
  have h := (den_pos hS hσ hb).ne'
  unfold Ideal.div
  rw [if_neg h, if_neg h, one_mul]

theorem top_window {n k o : ℕ} (h : o + k ≤ n) (S : Fin n → EReal) (σ : EReal)
    (hS : ∀ j : Fin n, (j.val < o ∨ o + k ≤ j.val) → S j = ⊥) :
    top S σ = top (fun s : Fin k => S ⟨o + s.val, by omega⟩) σ := by
  unfold top
  congr 1
  apply le_antisymm
  · rw [Finset.fold_max_le]
    refine ⟨bot_le, fun j _ => ?_⟩
    by_cases hj : j.val < o ∨ o + k ≤ j.val
    · rw [hS j hj]; exact bot_le
    · rw [Finset.le_fold_max]
      refine Or.inr ⟨⟨j.val - o, by omega⟩, Finset.mem_univ _, le_of_eq (congrArg S (Fin.ext ?_))⟩
      show j.val = o + (j.val - o)
      omega
  · rw [Finset.fold_max_le]
    refine ⟨bot_le, fun s _ => ?_⟩
    rw [Finset.le_fold_max]
    exact Or.inr ⟨_, Finset.mem_univ _, le_refl _⟩

/-- A sum whose terms outside a window are zero. -/
theorem sum_window {n k o : ℕ} (h : o + k ≤ n) (f : Fin n → EReal) (hf : ∀ j : Fin n, (j.val < o ∨ o + k ≤ j.val) → f j = 0) :
    ∑ j, f j = ∑ s : Fin k, f ⟨o + s.val, by omega⟩ := by
  let e : Fin k ↪ Fin n := ⟨fun s => ⟨o + s.val, by omega⟩, fun a b hab => Fin.ext (by have := congrArg Fin.val hab; simp only at this; omega)⟩
  have : ∑ s : Fin k, f ⟨o + s.val, by omega⟩ = ∑ j ∈ Finset.univ.map e, f j := (Finset.sum_map _ e f).symm
  rw [this]
  refine (Finset.sum_subset (Finset.subset_univ _) fun j _ hj => hf j ?_).symm
  by_contra hc
  refine hj (Finset.mem_map.mpr ⟨⟨j.val - o, by omega⟩, Finset.mem_univ _, Fin.ext ?_⟩)
  show o + (j.val - o) = j.val
  omega

theorem exp_bot_sub (x : EReal) : Ideal.exp (⊥ - x) = 0 := by
  rw [sub_eq_add_neg, EReal.bot_add]; rfl

/-- Keys outside the window have no weight; inside, a key without weight may have any value. -/
theorem att_window {n k o : ℕ} (h : o + k ≤ n) (S v : Fin n → EReal) (S' v' : Fin k → EReal) (σ : EReal)
    (hS : ∀ j : Fin n, (j.val < o ∨ o + k ≤ j.val) → S j = ⊥)
    (hS' : ∀ s : Fin k, S ⟨o + s.val, by omega⟩ = S' s)
    (hv : ∀ s : Fin k, S' s = ⊥ ∨ v ⟨o + s.val, by omega⟩ = v' s) :
    att S v σ = att S' v' σ := by
  have e : (fun s : Fin k => S ⟨o + s.val, by omega⟩) = S' := funext hS'
  have ht : top S σ = top S' σ := (top_window h S σ hS).trans (by rw [e])
  have hd : den S σ = den S' σ := by
    unfold den
    rw [ht, sum_window h _ fun j hj => by rw [hS j hj, exp_bot_sub]]
    simp only [hS']
  unfold att
  rw [hd, ht, sum_window h _ fun j hj => by rw [hS j hj, exp_bot_sub, zero_mul, mul_zero]]
  refine Finset.sum_congr rfl fun s _ => ?_
  rw [hS']
  rcases hv s with hb | hb
  · rw [hb, exp_bot_sub, zero_mul, mul_zero, mul_zero]
  · rw [hb]

/-- The softmax over the scores with the sink's logit as one more. -/
theorem attDiv_append {n : ℕ} (S v : Fin n → EReal) (σ : EReal) (L : Fin (n + 1) → EReal) (hL : ∀ k : Fin n, L k.castSucc = S k)
    (hσ : L (Fin.last n) = σ) :
    ∑ k : Fin n, v k * Ideal.div (Ideal.exp (L k.castSucc - max ⊥ (Finset.univ.fold max ⊥ L))) (∑ j, Ideal.exp (L j - max ⊥ (Finset.univ.fold max ⊥ L)))
      = attDiv S v σ := by
  have ht : max ⊥ (Finset.univ.fold max ⊥ L) = top S σ := by
    rw [max_eq_right bot_le]
    apply le_antisymm
    · rw [Finset.fold_max_le]
      refine ⟨bot_le, fun j _ => ?_⟩
      refine Fin.lastCases ?_ (fun i => ?_) j
      · rw [hσ]; exact le_max_right _ _
      · rw [hL]; refine le_trans ?_ (le_max_left _ _)
        rw [Finset.le_fold_max]; exact Or.inr ⟨i, Finset.mem_univ _, le_refl _⟩
    · refine max_le ?_ ?_
      · rw [Finset.fold_max_le]
        refine ⟨bot_le, fun j _ => ?_⟩
        rw [Finset.le_fold_max, ← hL]; exact Or.inr ⟨_, Finset.mem_univ _, le_refl _⟩
      · rw [Finset.le_fold_max, ← hσ]; exact Or.inr ⟨_, Finset.mem_univ _, le_refl _⟩
  rw [ht, Fin.sum_univ_castSucc]
  simp only [hL, hσ]
  rfl

theorem negInf : Ideal.ofBits .f32 0xFF800000#32 = ⊥ := by
  simp [Ideal.ofBits, Ideal.ieee]

theorem eighth : Ideal.ofBits .f32 0x3E000000#32 = ((0.125 : ℝ) : EReal) := by
  simp [Ideal.ofBits, Ideal.ieee]
  rw [← EReal.coe_mul]
  norm_num

/-- Where an absolute value is less than infinity, the number is real. -/
theorem finite_of_abs {x : EReal} (h : Ideal.cmp .olt (max x (-x)) ⊤ = 1#1) : ∃ r : ℝ, x = r := by
  induction x using EReal.rec with
  | bot => exact absurd h (by simp [Ideal.cmp])
  | coe r => exact ⟨r, rfl⟩
  | top => exact absurd h (by simp [Ideal.cmp])

/-- A scaled product sum of reals is real. -/
theorem dot_lt {n : ℕ} (a b : Fin n → EReal) (c : ℝ) (ha : ∀ d, ∃ r : ℝ, a d = r) (hb : ∀ d, ∃ r : ℝ, b d = r) :
    (∑ d, a d * b d) * (c : EReal) < ⊤ := by
  have : ∃ r : ℝ, ∑ d, a d * b d = r := by
    refine Finset.sum_induction _ (fun x : EReal => ∃ r : ℝ, x = r) ?_ ⟨0, rfl⟩ ?_
    · rintro _ _ ⟨r, rfl⟩ ⟨s, rfl⟩; exact ⟨r + s, (EReal.coe_add r s).symm⟩
    · intro d _
      obtain ⟨r, hr⟩ := ha d
      obtain ⟨s, hs⟩ := hb d
      exact ⟨r * s, by rw [hr, hs, EReal.coe_mul]⟩
  obtain ⟨r, hr⟩ := this
  rw [hr, ← EReal.coe_mul]
  exact EReal.coe_lt_top _

end Cert.Attn
-- ==== Proof.AttnCore.lean ====
/- The attention's body on one core: each group of four heads' 64 x 1024 product is one function of its values, scores
   and sinks; that function at a coordinate. -/
module

public import proofs.«01_k».proof.Proof.Gen.KernelIdeal.Frame
public import Idealize.ShloMosaic.Lib.Pipeline.ValueKit
public import Idealize.ShloMosaic.Lib.Pointwise
public import proofs.«01_k».proof.Proof.AttnMath

@[expose] public section

set_option maxRecDepth 16384
noncomputable section
open Idealize.ShloMosaic Idealize.ShloMosaic.TcCoe Idealize.SL.Sem

namespace Cert.KernelIdeal.Val
open Cert.KernelIdeal Cert.KernelIdeal.Gen Cert.Attn

/-- Two elements at the same place. -/
theorem at2 {p q : ℕ} {α : Type} (f : Shape.Idx ⟨2, ![p, q]⟩ → α) {a a' : Fin p} {b b' : Fin q} (h : a.val = a'.val) (h' : b.val = b'.val) :
    f (ix2 a b) = f (ix2 a' b') := by rw [Fin.ext h, Fin.ext h']

/-- The softmax over the keys with its sink, and the product with the values. -/
def core (vt : FVec Ideal S64x384 .bf16) (S : FVec Ideal S384x1024 .f32) (sk : FVec Ideal S1x1024 .f32) : FVec Ideal S64x1024 .f32 :=
  k0_pay23 (F := Ideal) vt S sk (maximumf (shapeCast S1x1024 (multiReduction .maximumf [0] S1024 S 0xFF800000#32 reduces_S384x1024_S1024 (.inl rfl) rfl) shapeCasts_S1024_S1x1024) sk)

theorem core_at (vt : FVec Ideal S64x384 .bf16) (S : FVec Ideal S384x1024 .f32) (sk : FVec Ideal S1x1024 .f32) (d : Fin 64) (k : Fin 1024) :
    core vt S sk (ix2 d k) = att (fun n => S (ix2 n k)) (fun n => vt (ix2 d n)) (sk (ix2 0 k)) := by
  unfold core
  pointwise [k0_pay23, att, den, top]
  rw [negInf]

/-- The scores of one group: keys by queries, scaled, and the mask's bias. -/
def scores (k : FVec Ideal S384x64 .bf16) (q : FVec Ideal S1024x64 .bf16) (b : FVec Ideal S384x1024 .f32) : FVec Ideal S384x1024 .f32 :=
  addf (mulf (matmul dot_S384x64_S1024x64_S384x1024_1_1_0_0_n_n none k q (constant S384x1024 .f32 0x00000000#32)) (broadcast S384x1024 (Scalar.ofBits .f32 0x3E000000#32))) b

theorem scores_at (k : FVec Ideal S384x64 .bf16) (q : FVec Ideal S1024x64 .bf16) (b : FVec Ideal S384x1024 .f32) (n : Fin 384) (r : Fin 1024) :
    scores k q b (ix2 n r) = (∑ d, k (ix2 n d) * q (ix2 r d)) * Ideal.ofBits .f32 0x3E000000#32 + b (ix2 n r) := by
  unfold scores
  pointwise

theorem pay15_eq (v63 : FVec Ideal S384x1024 .f32) (v72 : FVec Ideal S384x64 .bf16) (v74 : FVec Ideal S64x384 .bf16) (v80 : FVec Ideal S1024x64 .bf16) (a b c d : Vec Ideal S1x1 .f32) :
    k0_pay15 (F := Ideal) v63 v72 v74 v80 (constant S384x1024 .f32 0x00000000#32) a b c d = core v74 (scores v72 v80 v63) (k0_pay21 a b c d) := rfl

theorem pay30_eq (v63 : FVec Ideal S384x1024 .f32) (v72 : FVec Ideal S384x64 .bf16) (v74 : FVec Ideal S64x384 .bf16) (q0 q1 q2 q3 : Vec Ideal S256x64 .f32) (a b c d : Vec Ideal S1x1 .f32) :
    k0_pay30 (F := Ideal) v63 v72 v74 q0 q1 q2 q3 a b c d = core v74 (scores v72 (k0_pay14 q0 q1 q2 q3) v63) (k0_pay21 a b c d) := rfl

theorem pay1_eq (v255 : FVec Ideal S64x384 .bf16) (v265 : FVec Ideal S384x1024 .f32) (a b c d : Vec Ideal S1x1 .f32) :
    k0_pay1 (F := Ideal) v255 v265 (k0_pay37 a) (k0_pay38 b) (k0_pay39 c) (k0_pay40 d) = core v255 v265 (k0_pay21 a b c d) := rfl

/-- The keys' columns of the second head of a pair. -/
def half (x : FVec Ideal S384x128 .f32) : FVec Ideal S384x64 .bf16 :=
  truncf .bf16 (extractStridedSlice S384x64 ![0, 64] x slices_S384x128_o0_64_S384x64) bitsLt_bf16_f32

theorem pay20_eq (v63 : FVec Ideal S384x1024 .f32) (v66 : FVec Ideal S384x128 .f32) (q0 q1 q2 q3 : Vec Ideal S256x64 .f32) :
    k0_pay20 (F := Ideal) v63 v66 q0 q1 q2 q3 = scores (half v66) (k0_pay14 q0 q1 q2 q3) v63 := rfl

theorem pay36_eq (v63 : FVec Ideal S384x1024 .f32) (v66 : FVec Ideal S384x128 .f32) (q0 q1 q2 q3 : Vec Ideal S256x64 .f32) :
    k0_pay36 (F := Ideal) v63 v66 q0 q1 q2 q3 = scores (half v66) (k0_pay14 q0 q1 q2 q3) v63 := rfl

theorem pay23_eq (v132 : FVec Ideal S64x384 .bf16) (v63 : FVec Ideal S384x1024 .f32) (v66 : FVec Ideal S384x128 .f32) (q0 q1 q2 q3 : Vec Ideal S256x64 .f32) (a b c d : Vec Ideal S1x1 .f32) :
    k0_pay23 (F := Ideal) v132 (k0_pay20 v63 v66 q0 q1 q2 q3) (k0_pay21 a b c d) (k0_pay22 v63 v66 q0 q1 q2 q3 a b c d)
      = core v132 (scores (half v66) (k0_pay14 q0 q1 q2 q3) v63) (k0_pay21 a b c d) := rfl

/-- The queries of one group stacked: row `256 g + r` is head `g`'s row `r`. -/
theorem pay14_at (q0 q1 q2 q3 : Vec Ideal S256x64 .f32) (g : Fin 4) (r : Fin 256) (d : Fin 64) (h : 256 * g.val + r.val < 1024) :
    k0_pay14 (F := Ideal) q0 q1 q2 q3 (ix2 ⟨256 * g.val + r.val, h⟩ d) = (![q0, q1, q2, q3] g) (ix2 r d) := by
  pointwise [k0_pay14]
  fin_cases g
  all_goals simp only [Fin.zero_eta, Fin.mk_one, Fin.reduceFinMk, Matrix.cons_val]
  · rw [dif_pos (by omega)]; exact at2 q0 (by dsimp only; omega) rfl
  · rw [dif_neg (by omega), dif_pos (by omega)]; exact at2 q1 (by dsimp only; omega) rfl
  · rw [dif_neg (by omega), dif_neg (by omega), dif_pos (by omega)]; exact at2 q2 (by dsimp only; omega) rfl
  · rw [dif_neg (by omega), dif_neg (by omega), dif_neg (by omega)]; exact at2 q3 (by dsimp only; omega) rfl

theorem pay21_at (a b c e : Vec Ideal S1x1 .f32) (g : Fin 4) (r : Fin 256) (h : 256 * g.val + r.val < 1024) :
    k0_pay21 (F := Ideal) a b c e (ix2 0 ⟨256 * g.val + r.val, h⟩) = (![a, b, c, e] g) (ix2 0 0) := by
  pointwise [k0_pay21]
  fin_cases g
  all_goals simp only [Fin.zero_eta, Fin.mk_one, Fin.reduceFinMk, Matrix.cons_val]
  · rw [dif_pos (by omega)]
  · rw [dif_neg (by omega), dif_pos (by omega)]
  · rw [dif_neg (by omega), dif_neg (by omega), dif_pos (by omega)]
  · rw [dif_neg (by omega), dif_neg (by omega), dif_neg (by omega)]

/-- A group's product: its keys, its values transposed, its four heads' queries, the bias and the four sinks. -/
def grp (ks : FVec Ideal S384x64 .bf16) (vt : FVec Ideal S64x384 .bf16) (q0 q1 q2 q3 : Vec Ideal S256x64 .f32) (b : FVec Ideal S384x1024 .f32)
    (a0 a1 a2 a3 : Vec Ideal S1x1 .f32) : FVec Ideal S64x1024 .f32 :=
  core vt (scores ks (k0_pay14 q0 q1 q2 q3) b) (k0_pay21 a0 a1 a2 a3)

theorem grp_at (ks : FVec Ideal S384x64 .bf16) (vt : FVec Ideal S64x384 .bf16) (q0 q1 q2 q3 : Vec Ideal S256x64 .f32) (b : FVec Ideal S384x1024 .f32)
    (a0 a1 a2 a3 : Vec Ideal S1x1 .f32) (d : Fin 64) (g : Fin 4) (r : Fin 256) :
    grp ks vt q0 q1 q2 q3 b a0 a1 a2 a3 (ix2 d ⟨256 * g.val + r.val, by omega⟩)
      = att (fun n => (∑ e : Fin 64, ks (ix2 n e) * (![q0, q1, q2, q3] g) (ix2 r e)) * Ideal.ofBits .f32 0x3E000000#32 + b (ix2 n ⟨256 * g.val + r.val, by omega⟩))
          (fun n => vt (ix2 d n)) ((![a0, a1, a2, a3] g) (ix2 0 0)) := by
  unfold grp
  rw [core_at, pay21_at]
  congr 1
  funext n
  rw [scores_at]
  congr 2
  refine Finset.sum_congr rfl fun e _ => ?_
  rw [pay14_at]

/-- The first two heads' rows side by side, and the last two's. -/
def lo (v : FVec Ideal S64x1024 .f32) : FVec Ideal S256x128 .f32 :=
  transpose S256x128 [1, 0] (concatenate S128x256 0 [⟨S64x256, extractStridedSlice S64x256 ![0, 0] v slices_S64x1024_o0_0_S64x256⟩, ⟨S64x256, extractStridedSlice S64x256 ![0, 256] v slices_S64x1024_o0_256_S64x256⟩] concatenates_S64x256_S64x256_S128x256_d0) transposes_S128x256_p1_0_S256x128

def hi (v : FVec Ideal S64x1024 .f32) : FVec Ideal S256x128 .f32 :=
  transpose S256x128 [1, 0] (concatenate S128x256 0 [⟨S64x256, extractStridedSlice S64x256 ![0, 512] v slices_S64x1024_o0_512_S64x256⟩, ⟨S64x256, extractStridedSlice S64x256 ![0, 768] v slices_S64x1024_o0_768_S64x256⟩] concatenates_S64x256_S64x256_S128x256_d0) transposes_S128x256_p1_0_S256x128

theorem lo_at (v : FVec Ideal S64x1024 .f32) (r : Fin 256) (j : Fin 128) :
    lo v (ix2 r j) = v (ix2 ⟨j.val % 64, by omega⟩ ⟨256 * (j.val / 64) + r.val, by omega⟩) := by
  unfold lo
  pointwise
  by_cases hj : j.val < 64
  · rw [dif_pos hj]; exact at2 v (by dsimp only; omega) (by dsimp only; omega)
  · rw [dif_neg hj]; exact at2 v (by dsimp only; omega) (by dsimp only; omega)

theorem hi_at (v : FVec Ideal S64x1024 .f32) (r : Fin 256) (j : Fin 128) :
    hi v (ix2 r j) = v (ix2 ⟨j.val % 64, by omega⟩ ⟨256 * (2 + j.val / 64) + r.val, by omega⟩) := by
  unfold hi
  pointwise
  by_cases hj : j.val < 64
  · rw [dif_pos hj]; exact at2 v (by dsimp only; omega) (by dsimp only; omega)
  · rw [dif_neg hj]; exact at2 v (by dsimp only; omega) (by dsimp only; omega)

/-- The block of keys (or values) before and the own blocks, one below the other. -/
def rows (p : Vec Ideal S128x256 .f32) (o : Vec Ideal S256x256 .f32) (n : Fin 384) (c : Fin 256) : EReal :=
  if h : n.val < 128 then p (ix2 ⟨n.val, h⟩ c) else o (ix2 ⟨n.val - 128, by omega⟩ c)

/-- The bias of the mask. -/
def bias (i : grid0.Coords) : FVec Ideal S384x1024 .f32 :=
  k0_pay9 (F := Ideal) (BitVec.ofNat 32 (i 1).val) k0_pay4 k0_pay5 k0_pay6 k0_pay7 k0_pay8

/-- The key's chunk. -/
theorem kc_at : ∀ (n : Fin 384), k0_pay4 (ix2 n 0) = BitVec.ofNat 32 (n.val / 64) := by decide +kernel

/-- The query's chunk. -/
def qc (r : Fin 256) (n : Fin 384) : BitVec 32 :=
  Scalar.select (IntOp.andi (k0_pay6 (ix2 n r)) (IntOp.cmpi CmpIPredicate.ne (k0_pay7 (ix2 n r)) (k0_pay8 (ix2 n r))))
    (IntOp.subi (k0_pay5 (ix2 n r)) 1#32) (k0_pay5 (ix2 n r))

theorem qc_at : ∀ r : Fin 256, qc r 0 = BitVec.ofNat 32 (r.val / 64) := by decide +kernel

/-- The mask's bit, of the key's and the query's chunk and the grid's second coordinate. -/
def bit (k q i : BitVec 32) : BitVec 1 :=
  IntOp.andi (IntOp.andi (IntOp.cmpi CmpIPredicate.sge k q) (IntOp.cmpi CmpIPredicate.sle k (IntOp.addi q 2#32)))
    (IntOp.cmpi CmpIPredicate.sge k (Scalar.select (Scalar.cmpi CmpIPredicate.eq i 0#32) 2#32 0#32))

theorem bit_at : ∀ (a : Fin 6) (b : Fin 4) (i : Fin 8), bit (BitVec.ofNat 32 a.val) (BitVec.ofNat 32 b.val) (BitVec.ofNat 32 i.val)
    = if b.val ≤ a.val ∧ a.val ≤ b.val + 2 ∧ (i.val = 0 → 2 ≤ a.val) then 1#1 else 0#1 := by decide +kernel

theorem bias_bit (i : grid0.Coords) (n : Fin 384) (k : Fin 1024) :
    bias i (ix2 n k) = Scalar.select (bit (k0_pay4 (ix2 n ⟨k.val % 256, by omega⟩)) (qc ⟨k.val % 256, by omega⟩ n) (BitVec.ofNat 32 (i 1).val))
      0 (Ideal.ofBits .f32 0xFF800000#32) := by
  have e (a : ℕ) (h : a < 256) (h' : a = k.val % 256) : (⟨a, h⟩ : Fin 256) = ⟨k.val % 256, by omega⟩ := Fin.ext h'
  unfold bias
  pointwise [k0_pay9]
  by_cases h1 : k.val < 256
  · rw [dif_pos h1, e _ _ (by omega)]; rfl
  rw [dif_neg h1]
  by_cases h2 : k.val - 256 < 256
  · rw [dif_pos h2, e _ _ (by omega)]; rfl
  rw [dif_neg h2]
  by_cases h3 : k.val - 256 - 256 < 256
  · rw [dif_pos h3, e _ _ (by omega)]; rfl
  · rw [dif_neg h3, e _ _ (by omega)]; rfl

theorem bias_at (i : grid0.Coords) (n : Fin 384) (k : Fin 1024) :
    bias i (ix2 n k) = if (k.val % 256) / 64 ≤ n.val / 64 ∧ n.val / 64 ≤ (k.val % 256) / 64 + 2 ∧ ((i 1).val = 0 → 2 ≤ n.val / 64)
      then 0 else ⊥ := by
  rw [bias_bit, show k0_pay4 (ix2 n ⟨k.val % 256, by omega⟩) = k0_pay4 (ix2 n 0) from rfl, kc_at,
    show qc ⟨k.val % 256, by omega⟩ n = qc ⟨k.val % 256, by omega⟩ 0 from rfl, qc_at, negInf,
    bit_at ⟨n.val / 64, by omega⟩ ⟨(k.val % 256) / 64, by omega⟩ (i 1)]
  split_ifs
  · rfl
  · rfl

theorem out_eq (i : grid0.Coords) (x0 : Vec Ideal S256x1024 .f32) (x1 : Vec Ideal S1x128 .f32) (x2 : Vec Ideal S128x256 .f32) (x3 : Vec Ideal S256x256 .f32) (x4 : Vec Ideal S128x256 .f32) (x5 : Vec Ideal S256x256 .f32) :
    out0_6 (F := Ideal) i x0 x1 x2 x3 x4 x5 = View.canon [
      ⟨r0_43, hi (grp (half (k0_pay26 (View.ld x2 r0_22) (View.ld x3 r0_23))) (k0_pay35 (k0_pay27 (View.ld x4 r0_22) (View.ld x5 r0_23))) (View.ld x0 r0_34) (View.ld x0 r0_35) (View.ld x0 r0_36) (View.ld x0 r0_37) (bias i) (View.ld x1 r0_38) (View.ld x1 r0_39) (View.ld x1 r0_40) (View.ld x1 r0_41))⟩,
      ⟨r0_42, lo (grp (half (k0_pay26 (View.ld x2 r0_22) (View.ld x3 r0_23))) (k0_pay35 (k0_pay27 (View.ld x4 r0_22) (View.ld x5 r0_23))) (View.ld x0 r0_34) (View.ld x0 r0_35) (View.ld x0 r0_36) (View.ld x0 r0_37) (bias i) (View.ld x1 r0_38) (View.ld x1 r0_39) (View.ld x1 r0_40) (View.ld x1 r0_41))⟩,
      ⟨r0_33, hi (grp (k0_pay28 (View.ld x2 r0_22) (View.ld x3 r0_23)) (k0_pay29 (View.ld x4 r0_22) (View.ld x5 r0_23)) (View.ld x0 r0_24) (View.ld x0 r0_25) (View.ld x0 r0_26) (View.ld x0 r0_27) (bias i) (View.ld x1 r0_28) (View.ld x1 r0_29) (View.ld x1 r0_30) (View.ld x1 r0_31))⟩,
      ⟨r0_32, lo (grp (k0_pay28 (View.ld x2 r0_22) (View.ld x3 r0_23)) (k0_pay29 (View.ld x4 r0_22) (View.ld x5 r0_23)) (View.ld x0 r0_24) (View.ld x0 r0_25) (View.ld x0 r0_26) (View.ld x0 r0_27) (bias i) (View.ld x1 r0_28) (View.ld x1 r0_29) (View.ld x1 r0_30) (View.ld x1 r0_31))⟩,
      ⟨r0_21, hi (grp (half (k0_pay10 (View.ld x2 r0_0) (View.ld x3 r0_1))) (k0_pay19 (k0_pay11 (View.ld x4 r0_0) (View.ld x5 r0_1))) (View.ld x0 r0_12) (View.ld x0 r0_13) (View.ld x0 r0_14) (View.ld x0 r0_15) (bias i) (View.ld x1 r0_16) (View.ld x1 r0_17) (View.ld x1 r0_18) (View.ld x1 r0_19))⟩,
      ⟨r0_20, lo (grp (half (k0_pay10 (View.ld x2 r0_0) (View.ld x3 r0_1))) (k0_pay19 (k0_pay11 (View.ld x4 r0_0) (View.ld x5 r0_1))) (View.ld x0 r0_12) (View.ld x0 r0_13) (View.ld x0 r0_14) (View.ld x0 r0_15) (bias i) (View.ld x1 r0_16) (View.ld x1 r0_17) (View.ld x1 r0_18) (View.ld x1 r0_19))⟩,
      ⟨r0_11, hi (grp (k0_pay12 (View.ld x2 r0_0) (View.ld x3 r0_1)) (k0_pay13 (View.ld x4 r0_0) (View.ld x5 r0_1)) (View.ld x0 r0_2) (View.ld x0 r0_3) (View.ld x0 r0_4) (View.ld x0 r0_5) (bias i) (View.ld x1 r0_6) (View.ld x1 r0_7) (View.ld x1 r0_8) (View.ld x1 r0_9))⟩,
      ⟨r0_10, lo (grp (k0_pay12 (View.ld x2 r0_0) (View.ld x3 r0_1)) (k0_pay13 (View.ld x4 r0_0) (View.ld x5 r0_1)) (View.ld x0 r0_2) (View.ld x0 r0_3) (View.ld x0 r0_4) (View.ld x0 r0_5) (bias i) (View.ld x1 r0_6) (View.ld x1 r0_7) (View.ld x1 r0_8) (View.ld x1 r0_9))⟩] := by
  unfold_out out0_6
  rfl

end Cert.KernelIdeal.Val
-- ==== Proof.AttnBody.lean ====
/- The attention's body on one block of rows: every element of the block is one softmax over 384 keys. -/
module

public import proofs.«01_k».proof.Proof.AttnCore

@[expose] public section

set_option maxRecDepth 16384
noncomputable section
open Idealize.ShloMosaic Idealize.ShloMosaic.TcCoe Idealize.SL.Sem

namespace Cert.KernelIdeal.Val
open Cert.KernelIdeal Cert.KernelIdeal.Gen Cert.Attn

/-- The block's element at row `r` and column `c`: query head `c / 64`, key and value head `c / 256`. -/
def val (i : grid0.Coords) (x0 : Vec Ideal S256x1024 .f32) (x1 : Vec Ideal S1x128 .f32) (x2 : Vec Ideal S128x256 .f32) (x3 : Vec Ideal S256x256 .f32) (x4 : Vec Ideal S128x256 .f32) (x5 : Vec Ideal S256x256 .f32)
    (r : Fin 256) (c : Fin 1024) : EReal :=
  att (fun n : Fin 384 => (∑ e : Fin 64, rows x2 x3 n ⟨64 * (c.val / 256) + e.val, by omega⟩ * x0 (ix2 r ⟨64 * (c.val / 64) + e.val, by omega⟩)) * Ideal.ofBits .f32 0x3E000000#32
      + if r.val / 64 ≤ n.val / 64 ∧ n.val / 64 ≤ r.val / 64 + 2 ∧ ((i 1).val = 0 → 2 ≤ n.val / 64) then 0 else ⊥)
    (fun n => rows x4 x5 n ⟨64 * (c.val / 256) + c.val % 64, by omega⟩) (x1 (ix2 0 ⟨c.val / 64, by omega⟩))

section pieces
variable (i : grid0.Coords) (x0 : Vec Ideal S256x1024 .f32) (x1 : Vec Ideal S1x128 .f32) (x2 : Vec Ideal S128x256 .f32) (x3 : Vec Ideal S256x256 .f32) (x4 : Vec Ideal S128x256 .f32) (x5 : Vec Ideal S256x256 .f32)
  {ks : FVec Ideal S384x64 .bf16} {vt : FVec Ideal S64x384 .bf16} {q0 q1 q2 q3 : Vec Ideal S256x64 .f32} {a0 a1 a2 a3 : Vec Ideal S1x1 .f32}

theorem grp_val (h g : Fin 4) (r : Fin 256) (d : Fin 64) (c : Fin 1024) (hc : c.val = 256 * h.val + 64 * g.val + d.val)
    (hk : ∀ n (e : Fin 64), ks (ix2 n e) = rows x2 x3 n ⟨64 * h.val + e.val, by omega⟩)
    (hv : ∀ n (e : Fin 64), vt (ix2 e n) = rows x4 x5 n ⟨64 * h.val + e.val, by omega⟩)
    (hq : ∀ (g : Fin 4) r (e : Fin 64), (![q0, q1, q2, q3] g) (ix2 r e) = x0 (ix2 r ⟨256 * h.val + 64 * g.val + e.val, by omega⟩))
    (hs : ∀ (g : Fin 4), (![a0, a1, a2, a3] g) (ix2 0 0) = x1 (ix2 0 ⟨4 * h.val + g.val, by omega⟩)) :
    grp ks vt q0 q1 q2 q3 (bias i) a0 a1 a2 a3 (ix2 d ⟨256 * g.val + r.val, by omega⟩) = val i x0 x1 x2 x3 x4 x5 r c := by
  rw [grp_at, val, hs]
  have e1 : c.val / 256 = h.val := by omega
  have e2 : c.val / 64 = 4 * h.val + g.val := by omega
  have e3 : c.val % 64 = d.val := by omega
  congr 1
  · funext n
    rw [bias_at]
    have e4 : (256 * g.val + r.val) % 256 = r.val := by omega
    simp only [e4]
    congr 2
    refine Finset.sum_congr rfl fun e _ => ?_
    rw [hk, hq]
    congr 1
    · congr 1; apply Fin.ext; show _ = _; simp only [e1]
    · exact at2 x0 rfl (by simp only [e2]; omega)
  · funext n
    rw [hv]
    congr 1; apply Fin.ext; show _ = _; simp only [e1, e3]
  · exact at2 x1 rfl (by simp only [e2])

theorem lo_val (h : Fin 4) (x : S256x128.Idx) (y : S256x1024.Idx) (h0 : (y 0).val = (x 0).val) (h1 : (y 1).val = 256 * h.val + (x 1).val)
    (hk : ∀ n (e : Fin 64), ks (ix2 n e) = rows x2 x3 n ⟨64 * h.val + e.val, by omega⟩)
    (hv : ∀ n (e : Fin 64), vt (ix2 e n) = rows x4 x5 n ⟨64 * h.val + e.val, by omega⟩)
    (hq : ∀ (g : Fin 4) r (e : Fin 64), (![q0, q1, q2, q3] g) (ix2 r e) = x0 (ix2 r ⟨256 * h.val + 64 * g.val + e.val, by omega⟩))
    (hs : ∀ (g : Fin 4), (![a0, a1, a2, a3] g) (ix2 0 0) = x1 (ix2 0 ⟨4 * h.val + g.val, by omega⟩)) :
    lo (grp ks vt q0 q1 q2 q3 (bias i) a0 a1 a2 a3) x = val i x0 x1 x2 x3 x4 x5 (y 0) (y 1) := by
  have hx : (x 1).val < 128 := (x 1).isLt
  rw [Fin.ext h0]
  refine (congrArg _ (ix2_eta x).symm).trans ((lo_at _ (x 0) (x 1)).trans ?_)
  exact grp_val i x0 x1 x2 x3 x4 x5 h ⟨(x 1).val / 64, by omega⟩ (x 0) ⟨(x 1).val % 64, by omega⟩ (y 1) (by dsimp only; omega) hk hv hq hs

theorem hi_val (h : Fin 4) (x : S256x128.Idx) (y : S256x1024.Idx) (h0 : (y 0).val = (x 0).val) (h1 : (y 1).val = 256 * h.val + 128 + (x 1).val)
    (hk : ∀ n (e : Fin 64), ks (ix2 n e) = rows x2 x3 n ⟨64 * h.val + e.val, by omega⟩)
    (hv : ∀ n (e : Fin 64), vt (ix2 e n) = rows x4 x5 n ⟨64 * h.val + e.val, by omega⟩)
    (hq : ∀ (g : Fin 4) r (e : Fin 64), (![q0, q1, q2, q3] g) (ix2 r e) = x0 (ix2 r ⟨256 * h.val + 64 * g.val + e.val, by omega⟩))
    (hs : ∀ (g : Fin 4), (![a0, a1, a2, a3] g) (ix2 0 0) = x1 (ix2 0 ⟨4 * h.val + g.val, by omega⟩)) :
    hi (grp ks vt q0 q1 q2 q3 (bias i) a0 a1 a2 a3) x = val i x0 x1 x2 x3 x4 x5 (y 0) (y 1) := by
  have hx : (x 1).val < 128 := (x 1).isLt
  rw [Fin.ext h0]
  refine (congrArg _ (ix2_eta x).symm).trans ((hi_at _ (x 0) (x 1)).trans ?_)
  exact grp_val i x0 x1 x2 x3 x4 x5 h ⟨2 + (x 1).val / 64, by omega⟩ (x 0) ⟨(x 1).val % 64, by omega⟩ (y 1) (by dsimp only; omega) hk hv hq hs

end pieces

section loads
variable (x0 : Vec Ideal S256x1024 .f32) (x1 : Vec Ideal S1x128 .f32) (p : Vec Ideal S128x256 .f32) (o : Vec Ideal S256x256 .f32)

theorem k0_at (n : Fin 384) (e : Fin 64) : k0_pay12 (F := Ideal) (View.ld p r0_0) (View.ld o r0_1) (ix2 n e) = rows p o n ⟨64 * (0 : Fin 4).val + e.val, by omega⟩ := by
  pointwise [k0_pay12, k0_pay10]
  unfold rows
  by_cases hn : n.val < 128
  · rw [dif_pos hn]; try rw [dif_pos hn]
    all_goals first | rfl | exact congrArg p (by blk_ext) | exact at2 p (by dsimp only; omega) (by dsimp only [Fin.val_ofNat, Fin.val_zero, Fin.val_one, Fin.val_two]; omega)
  · rw [dif_neg hn]; try rw [dif_neg hn]
    all_goals first | rfl | exact congrArg o (by blk_ext) | exact at2 o (by dsimp only; omega) (by dsimp only [Fin.val_ofNat, Fin.val_zero, Fin.val_one, Fin.val_two]; omega)
theorem v0_at (n : Fin 384) (e : Fin 64) : k0_pay13 (F := Ideal) (View.ld p r0_0) (View.ld o r0_1) (ix2 e n) = rows p o n ⟨64 * (0 : Fin 4).val + e.val, by omega⟩ := by
  pointwise [k0_pay13, k0_pay11]
  unfold rows
  by_cases hn : n.val < 128
  · rw [dif_pos hn]; try rw [dif_pos hn]
    all_goals first | rfl | exact congrArg p (by blk_ext) | exact at2 p (by dsimp only; omega) (by dsimp only [Fin.val_ofNat, Fin.val_zero, Fin.val_one, Fin.val_two]; omega)
  · rw [dif_neg hn]; try rw [dif_neg hn]
    all_goals first | rfl | exact congrArg o (by blk_ext) | exact at2 o (by dsimp only; omega) (by dsimp only [Fin.val_ofNat, Fin.val_zero, Fin.val_one, Fin.val_two]; omega)
theorem q0_at (g : Fin 4) (r : Fin 256) (e : Fin 64) : (![View.ld x0 r0_2, View.ld x0 r0_3, View.ld x0 r0_4, View.ld x0 r0_5] g) (ix2 r e) = x0 (ix2 r ⟨256 * (0 : Fin 4).val + 64 * g.val + e.val, by omega⟩) := by
  fin_cases g
  all_goals simp only [Fin.zero_eta, Fin.mk_one, Fin.reduceFinMk, Matrix.cons_val]
  all_goals pointwise
  all_goals first | done | rfl
theorem s0_at (g : Fin 4) : (![View.ld x1 r0_6, View.ld x1 r0_7, View.ld x1 r0_8, View.ld x1 r0_9] g) (ix2 0 0) = x1 (ix2 0 ⟨4 * (0 : Fin 4).val + g.val, by omega⟩) := by
  fin_cases g
  all_goals simp only [Fin.zero_eta, Fin.mk_one, Fin.reduceFinMk, Matrix.cons_val]
  all_goals pointwise
  all_goals first | done | rfl
theorem k1_at (n : Fin 384) (e : Fin 64) : half (k0_pay10 (F := Ideal) (View.ld p r0_0) (View.ld o r0_1)) (ix2 n e) = rows p o n ⟨64 * (1 : Fin 4).val + e.val, by omega⟩ := by
  pointwise [half, k0_pay10]
  unfold rows
  by_cases hn : n.val < 128
  · rw [dif_pos hn]; try rw [dif_pos hn]
    all_goals first | rfl | exact congrArg p (by blk_ext) | exact at2 p (by dsimp only; omega) (by dsimp only [Fin.val_ofNat, Fin.val_zero, Fin.val_one, Fin.val_two]; omega)
  · rw [dif_neg hn]; try rw [dif_neg hn]
    all_goals first | rfl | exact congrArg o (by blk_ext) | exact at2 o (by dsimp only; omega) (by dsimp only [Fin.val_ofNat, Fin.val_zero, Fin.val_one, Fin.val_two]; omega)
theorem v1_at (n : Fin 384) (e : Fin 64) : k0_pay19 (F := Ideal) (k0_pay11 (View.ld p r0_0) (View.ld o r0_1)) (ix2 e n) = rows p o n ⟨64 * (1 : Fin 4).val + e.val, by omega⟩ := by
  pointwise [k0_pay19, k0_pay11]
  unfold rows
  by_cases hn : n.val < 128
  · rw [dif_pos hn]; try rw [dif_pos hn]
    all_goals first | rfl | exact congrArg p (by blk_ext) | exact at2 p (by dsimp only; omega) (by dsimp only [Fin.val_ofNat, Fin.val_zero, Fin.val_one, Fin.val_two]; omega)
  · rw [dif_neg hn]; try rw [dif_neg hn]
    all_goals first | rfl | exact congrArg o (by blk_ext) | exact at2 o (by dsimp only; omega) (by dsimp only [Fin.val_ofNat, Fin.val_zero, Fin.val_one, Fin.val_two]; omega)
theorem q1_at (g : Fin 4) (r : Fin 256) (e : Fin 64) : (![View.ld x0 r0_12, View.ld x0 r0_13, View.ld x0 r0_14, View.ld x0 r0_15] g) (ix2 r e) = x0 (ix2 r ⟨256 * (1 : Fin 4).val + 64 * g.val + e.val, by omega⟩) := by
  fin_cases g
  all_goals simp only [Fin.zero_eta, Fin.mk_one, Fin.reduceFinMk, Matrix.cons_val]
  all_goals pointwise
  all_goals first | done | rfl
theorem s1_at (g : Fin 4) : (![View.ld x1 r0_16, View.ld x1 r0_17, View.ld x1 r0_18, View.ld x1 r0_19] g) (ix2 0 0) = x1 (ix2 0 ⟨4 * (1 : Fin 4).val + g.val, by omega⟩) := by
  fin_cases g
  all_goals simp only [Fin.zero_eta, Fin.mk_one, Fin.reduceFinMk, Matrix.cons_val]
  all_goals pointwise
  all_goals first | done | rfl
theorem k2_at (n : Fin 384) (e : Fin 64) : k0_pay28 (F := Ideal) (View.ld p r0_22) (View.ld o r0_23) (ix2 n e) = rows p o n ⟨64 * (2 : Fin 4).val + e.val, by omega⟩ := by
  pointwise [k0_pay28, k0_pay26]
  unfold rows
  by_cases hn : n.val < 128
  · rw [dif_pos hn]; try rw [dif_pos hn]
    all_goals first | rfl | exact congrArg p (by blk_ext) | exact at2 p (by dsimp only; omega) (by dsimp only [Fin.val_ofNat, Fin.val_zero, Fin.val_one, Fin.val_two]; omega)
  · rw [dif_neg hn]; try rw [dif_neg hn]
    all_goals first | rfl | exact congrArg o (by blk_ext) | exact at2 o (by dsimp only; omega) (by dsimp only [Fin.val_ofNat, Fin.val_zero, Fin.val_one, Fin.val_two]; omega)
theorem v2_at (n : Fin 384) (e : Fin 64) : k0_pay29 (F := Ideal) (View.ld p r0_22) (View.ld o r0_23) (ix2 e n) = rows p o n ⟨64 * (2 : Fin 4).val + e.val, by omega⟩ := by
  pointwise [k0_pay29, k0_pay27]
  unfold rows
  by_cases hn : n.val < 128
  · rw [dif_pos hn]; try rw [dif_pos hn]
    all_goals first | rfl | exact congrArg p (by blk_ext) | exact at2 p (by dsimp only; omega) (by dsimp only [Fin.val_ofNat, Fin.val_zero, Fin.val_one, Fin.val_two]; omega)
  · rw [dif_neg hn]; try rw [dif_neg hn]
    all_goals first | rfl | exact congrArg o (by blk_ext) | exact at2 o (by dsimp only; omega) (by dsimp only [Fin.val_ofNat, Fin.val_zero, Fin.val_one, Fin.val_two]; omega)
theorem q2_at (g : Fin 4) (r : Fin 256) (e : Fin 64) : (![View.ld x0 r0_24, View.ld x0 r0_25, View.ld x0 r0_26, View.ld x0 r0_27] g) (ix2 r e) = x0 (ix2 r ⟨256 * (2 : Fin 4).val + 64 * g.val + e.val, by omega⟩) := by
  fin_cases g
  all_goals simp only [Fin.zero_eta, Fin.mk_one, Fin.reduceFinMk, Matrix.cons_val]
  all_goals pointwise
  all_goals first | done | rfl
theorem s2_at (g : Fin 4) : (![View.ld x1 r0_28, View.ld x1 r0_29, View.ld x1 r0_30, View.ld x1 r0_31] g) (ix2 0 0) = x1 (ix2 0 ⟨4 * (2 : Fin 4).val + g.val, by omega⟩) := by
  fin_cases g
  all_goals simp only [Fin.zero_eta, Fin.mk_one, Fin.reduceFinMk, Matrix.cons_val]
  all_goals pointwise
  all_goals first | done | rfl
theorem k3_at (n : Fin 384) (e : Fin 64) : half (k0_pay26 (F := Ideal) (View.ld p r0_22) (View.ld o r0_23)) (ix2 n e) = rows p o n ⟨64 * (3 : Fin 4).val + e.val, by omega⟩ := by
  pointwise [half, k0_pay26]
  unfold rows
  by_cases hn : n.val < 128
  · rw [dif_pos hn]; try rw [dif_pos hn]
    all_goals first | rfl | exact congrArg p (by blk_ext) | exact at2 p (by dsimp only; omega) (by dsimp only [Fin.val_ofNat, Fin.val_zero, Fin.val_one, Fin.val_two]; omega)
  · rw [dif_neg hn]; try rw [dif_neg hn]
    all_goals first | rfl | exact congrArg o (by blk_ext) | exact at2 o (by dsimp only; omega) (by dsimp only [Fin.val_ofNat, Fin.val_zero, Fin.val_one, Fin.val_two]; omega)
theorem v3_at (n : Fin 384) (e : Fin 64) : k0_pay35 (F := Ideal) (k0_pay27 (View.ld p r0_22) (View.ld o r0_23)) (ix2 e n) = rows p o n ⟨64 * (3 : Fin 4).val + e.val, by omega⟩ := by
  pointwise [k0_pay35, k0_pay27]
  unfold rows
  by_cases hn : n.val < 128
  · rw [dif_pos hn]; try rw [dif_pos hn]
    all_goals first | rfl | exact congrArg p (by blk_ext) | exact at2 p (by dsimp only; omega) (by dsimp only [Fin.val_ofNat, Fin.val_zero, Fin.val_one, Fin.val_two]; omega)
  · rw [dif_neg hn]; try rw [dif_neg hn]
    all_goals first | rfl | exact congrArg o (by blk_ext) | exact at2 o (by dsimp only; omega) (by dsimp only [Fin.val_ofNat, Fin.val_zero, Fin.val_one, Fin.val_two]; omega)
theorem q3_at (g : Fin 4) (r : Fin 256) (e : Fin 64) : (![View.ld x0 r0_34, View.ld x0 r0_35, View.ld x0 r0_36, View.ld x0 r0_37] g) (ix2 r e) = x0 (ix2 r ⟨256 * (3 : Fin 4).val + 64 * g.val + e.val, by omega⟩) := by
  fin_cases g
  all_goals simp only [Fin.zero_eta, Fin.mk_one, Fin.reduceFinMk, Matrix.cons_val]
  all_goals pointwise
  all_goals first | done | rfl
theorem s3_at (g : Fin 4) : (![View.ld x1 r0_38, View.ld x1 r0_39, View.ld x1 r0_40, View.ld x1 r0_41] g) (ix2 0 0) = x1 (ix2 0 ⟨4 * (3 : Fin 4).val + g.val, by omega⟩) := by
  fin_cases g
  all_goals simp only [Fin.zero_eta, Fin.mk_one, Fin.reduceFinMk, Matrix.cons_val]
  all_goals pointwise
  all_goals first | done | rfl

end loads

theorem out_val (i : grid0.Coords) (x0 : Vec Ideal S256x1024 .f32) (x1 : Vec Ideal S1x128 .f32) (x2 : Vec Ideal S128x256 .f32) (x3 : Vec Ideal S256x256 .f32) (x4 : Vec Ideal S128x256 .f32) (x5 : Vec Ideal S256x256 .f32) (y : S256x1024.Idx) :
    out0_6 (F := Ideal) i x0 x1 x2 x3 x4 x5 y = val i x0 x1 x2 x3 x4 x5 (y 0) (y 1) := by
  rw [out_eq]
  canon_tiles x h
  · exact hi_val i x0 x1 x2 x3 x4 x5 3 x y h0 (h1.trans (by simp)) (k3_at x2 x3) (v3_at x4 x5) (q3_at x0) (s3_at x1)
  · exact lo_val i x0 x1 x2 x3 x4 x5 3 x y h0 (h1.trans (by simp)) (k3_at x2 x3) (v3_at x4 x5) (q3_at x0) (s3_at x1)
  · exact hi_val i x0 x1 x2 x3 x4 x5 2 x y h0 (h1.trans (by simp)) (k2_at x2 x3) (v2_at x4 x5) (q2_at x0) (s2_at x1)
  · exact lo_val i x0 x1 x2 x3 x4 x5 2 x y h0 (h1.trans (by simp)) (k2_at x2 x3) (v2_at x4 x5) (q2_at x0) (s2_at x1)
  · exact hi_val i x0 x1 x2 x3 x4 x5 1 x y h0 (h1.trans (by simp)) (k1_at x2 x3) (v1_at x4 x5) (q1_at x0) (s1_at x1)
  · exact lo_val i x0 x1 x2 x3 x4 x5 1 x y h0 (h1.trans (by simp)) (k1_at x2 x3) (v1_at x4 x5) (q1_at x0) (s1_at x1)
  · exact hi_val i x0 x1 x2 x3 x4 x5 0 x y h0 (h1.trans (by simp)) (k0_at x2 x3) (v0_at x4 x5) (q0_at x0) (s0_at x1)
  · exact lo_val i x0 x1 x2 x3 x4 x5 0 x y h0 (h1.trans (by simp)) (k0_at x2 x3) (v0_at x4 x5) (q0_at x0) (s0_at x1)

end Cert.KernelIdeal.Val
-- ==== Proof.AttnKernel.lean ====
/- The attention of the kernel at any row and column: the windows' blocks read off the arrays. -/
module

public import proofs.«01_k».proof.Proof.AttnBody

@[expose] public section

set_option maxRecDepth 16384
noncomputable section
open Idealize.ShloMosaic Idealize.ShloMosaic.TcCoe Idealize.SL.Sem
open Idealize.ShloMosaic.Pipeline (Dat)

namespace Cert.KernelIdeal.Val
open Cert.KernelIdeal Cert.KernelIdeal.Gen Cert.Attn

variable (m : (ℓ : Loc nD τ sig) → Buf (Elt Ideal) ℓ)

theorem idx : ∀ t : Fin cfg0.N, win0_0.index t = ![t.val, 0] ∧ win0_1.index t = ![0, 0] ∧ win0_2.index t = ![2 * t.val - min (t.val % 8) 1, 0] ∧ win0_3.index t = ![t.val, 0]
    ∧ win0_4.index t = ![2 * t.val - min (t.val % 8) 1, 1] ∧ win0_5.index t = ![t.val, 1] ∧ win0_6.index t = ![t.val, 0] ∧ (grid0.coords t 1).val = t.val % 8 :=
  (by decide +kernel : ∀ t : Fin grid0.N, _)

theorem lt64 (t : Fin cfg0.N) : t.val < 64 := t.isLt

theorem b0 (c : Dev nD) (t : Fin cfg0.N) (r : Fin 256) (k : Fin 1024) :
    (iblk m c 0 t : Vec Ideal S256x1024 .f32) (ix2 r k) = (m ((c : Thread nD τ).loc main_arg0) : Vec Ideal S16384x1024 .f32) (ix2 ⟨256 * t.val + r.val, by have := lt64 t; omega⟩ k) := by
  blk_point [iblk, V, idx t]
theorem b2 (c : Dev nD) (t : Fin cfg0.N) (r : Fin 128) (k : Fin 256) :
    (iblk m c 2 t : Vec Ideal S128x256 .f32) (ix2 r k) = (m ((c : Thread nD τ).loc main_arg1) : Vec Ideal S16384x512 .f32) (ix2 ⟨128 * (2 * t.val - min (t.val % 8) 1) + r.val, by have := lt64 t; omega⟩ ⟨k.val, by omega⟩) := by
  blk_point [iblk, V, idx t]
theorem b3 (c : Dev nD) (t : Fin cfg0.N) (r : Fin 256) (k : Fin 256) :
    (iblk m c 3 t : Vec Ideal S256x256 .f32) (ix2 r k) = (m ((c : Thread nD τ).loc main_arg1) : Vec Ideal S16384x512 .f32) (ix2 ⟨256 * t.val + r.val, by have := lt64 t; omega⟩ ⟨k.val, by omega⟩) := by
  blk_point [iblk, V, idx t]
theorem b4 (c : Dev nD) (t : Fin cfg0.N) (r : Fin 128) (k : Fin 256) :
    (iblk m c 4 t : Vec Ideal S128x256 .f32) (ix2 r k) = (m ((c : Thread nD τ).loc main_arg1) : Vec Ideal S16384x512 .f32) (ix2 ⟨128 * (2 * t.val - min (t.val % 8) 1) + r.val, by have := lt64 t; omega⟩ ⟨256 + k.val, by omega⟩) := by
  blk_point [iblk, V, idx t]
theorem b5 (c : Dev nD) (t : Fin cfg0.N) (r : Fin 256) (k : Fin 256) :
    (iblk m c 5 t : Vec Ideal S256x256 .f32) (ix2 r k) = (m ((c : Thread nD τ).loc main_arg1) : Vec Ideal S16384x512 .f32) (ix2 ⟨256 * t.val + r.val, by have := lt64 t; omega⟩ ⟨256 + k.val, by omega⟩) := by
  blk_point [iblk, V, idx t]

/-- The sinks arrive padded to one row of 128. -/
theorem sinks (c : Dev nD) (k : Fin 128) (hk : k.val < 16) :
    (V m c main_v1 : Vec Ideal S1x128 .f32) (ix2 0 k) = (m ((c : Thread nD τ).loc main_arg2) : Vec Ideal S16 .f32) (ix1 ⟨k.val, hk⟩) := by
  have e : ∃ z : FVec Ideal S_ .f32, (V m c main_v1 : Vec Ideal S1x128 .f32)
      = shapeCast S1x128 (pad S128 ![0] ![112] ![0] (m ((c : Thread nD τ).loc main_arg2) : Vec Ideal S16 .f32) z pads_S16_S128_01120 h_S_) shapeCasts_S128_S1x128 := by
    refine ⟨sitofp .f32 (constantI S_ 32 0#32), ?_⟩
    unfold V
    simp only [hostOps0, hostOps0_1, hostOps0_2, List.flatten_cons, List.flatten_nil, List.append_nil, List.cons_append, List.nil_append]
    entry_read
    rfl
  obtain ⟨z, e⟩ := e
  rw [e]
  pointwise
  exact dif_pos fun a => by
    obtain rfl : a = 0 := Subsingleton.elim (α := Fin 1) a 0
    exact hk

theorem b1 (c : Dev nD) (t : Fin cfg0.N) (k : Fin 128) (hk : k.val < 16) :
    (iblk m c 1 t : Vec Ideal S1x128 .f32) (ix2 0 k) = (m ((c : Thread nD τ).loc main_arg2) : Vec Ideal S16 .f32) (ix1 ⟨k.val, hk⟩) := by
  rw [← sinks m c k hk]
  blk_point [iblk, idx t]

end Cert.KernelIdeal.Val
-- ==== Proof.AttnRefScores.lean ====
/- The reference's attention at a coordinate: the band of keys, the mask and the scores. -/
module

public import proofs.«01_k».proof.Proof.Gen.ReferenceIdeal.Run
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.ReferenceIdeal.Val
open Cert.ReferenceIdeal Cert.ReferenceIdeal.Gen

/-- Two elements at the same place. -/
theorem at2 {p q : ℕ} {α : Type} (f : Shape.Idx ⟨2, ![p, q]⟩ → α) {a a' : Fin p} {b b' : Fin q} (h : a.val = a'.val) (h' : b.val = b'.val) :
    f (ix2 a b) = f (ix2 a' b') := by rw [Fin.ext h, Fin.ext h']

/-- Each chunk's 192 keys: two chunks back, one back and its own, zeros before the sequence's start. -/
def band (x : FVec Ideal S16384x256 .f32) : FVec Ideal S8x32x192x4x64 .f32 :=
  concatenate S8x32x192x4x64 2 [
    ⟨S8x32x64x4x64, extractStridedSlice S8x32x64x4x64 ![0, 0, 0, 0, 0] (shapeCast S8x34x64x4x64 (pad S8x2176x4x64 ![0, 128, 0, 0] ![0, 0, 0, 0] ![0, 0, 0, 0] (shapeCast S8x2048x4x64 x shapeCasts_S16384x256_S8x2048x4x64) (sitofp .f32 (constantI S_ 32 0#32)) pads_S8x2048x4x64_S8x2176x4x64_000_12800_000_000 h_S_) shapeCasts_S8x2176x4x64_S8x34x64x4x64) slices_S8x34x64x4x64_S8x32x64x4x64_0_0_0_0_0⟩,
    ⟨S8x32x64x4x64, extractStridedSlice S8x32x64x4x64 ![0, 1, 0, 0, 0] (shapeCast S8x34x64x4x64 (pad S8x2176x4x64 ![0, 128, 0, 0] ![0, 0, 0, 0] ![0, 0, 0, 0] (shapeCast S8x2048x4x64 x shapeCasts_S16384x256_S8x2048x4x64) (sitofp .f32 (constantI S_ 32 0#32)) pads_S8x2048x4x64_S8x2176x4x64_000_12800_000_000 h_S_) shapeCasts_S8x2176x4x64_S8x34x64x4x64) slices_S8x34x64x4x64_S8x32x64x4x64_0_1_0_0_0⟩,
    ⟨S8x32x64x4x64, extractStridedSlice S8x32x64x4x64 ![0, 2, 0, 0, 0] (shapeCast S8x34x64x4x64 (pad S8x2176x4x64 ![0, 128, 0, 0] ![0, 0, 0, 0] ![0, 0, 0, 0] (shapeCast S8x2048x4x64 x shapeCasts_S16384x256_S8x2048x4x64) (sitofp .f32 (constantI S_ 32 0#32)) pads_S8x2048x4x64_S8x2176x4x64_000_12800_000_000 h_S_) shapeCasts_S8x2176x4x64_S8x34x64x4x64) slices_S8x34x64x4x64_S8x32x64x4x64_0_2_0_0_0⟩]
    concatenates_S8x32x64x4x64_S8x32x64x4x64_S8x32x64x4x64_S8x32x192x4x64_d2

/-- Where the key lies in its sequence: chunk `c`'s key `s` is row `64 c + s - 128`. -/
theorem band_at (x : FVec Ideal S16384x256 .f32) (b : Fin 8) (c : Fin 32) (s : Fin 192) (h : Fin 4) (d : Fin 64)
    (hv : 2 ≤ c.val + s.val / 64) :
    band x (ix5 b c s h d) = x (ix2 ⟨2048 * b.val + 64 * c.val + s.val - 128, by omega⟩ ⟨64 * h.val + d.val, by omega⟩) := by
  unfold band
  pointwise
  by_cases h1 : s.val < 64
  · rw [dif_pos h1, dif_pos (by omega)]
    exact at2 x (by dsimp only; omega) (by dsimp only; omega)
  rw [dif_neg h1]
  by_cases h2 : s.val - 64 < 64
  · rw [dif_pos h2, dif_pos (by omega)]
    exact at2 x (by dsimp only; omega) (by dsimp only; omega)
  · rw [dif_neg h2, dif_pos (by omega)]
    exact at2 x (by dsimp only; omega) (by dsimp only; omega)

/-- Which keys lie in the sequence. -/
def mask : IVec S32x192 1 :=
  cmpi .sge (addi (broadcastInDim S32x192 ![0, 1] bcast_S32x1_S32x192_0_1 (subi (broadcastInDim S32x1 ![0] bcast_S32_S32x1_0 (iotaInDim S32 32 0)) (broadcastInDim S32x1 ![] bcast_S_S32x1 (constantI S_ 32 2#32)))) (broadcastInDim S32x192 ![0, 1] bcast_S1x192_S32x192_0_1 (broadcastInDim S1x192 ![1] bcast_S192_S1x192_1 (Host.divsi (iotaInDim S192 32 0) (broadcastInDim S192 ![] bcast_S_S192 (constantI S_ 32 64#32)))))) (broadcastInDim S32x192 ![] bcast_S_S32x192 (constantI S_ 32 0#32))

theorem chunk_of : ∀ s : Fin 192, IntOp.divsi ArithUnit.host (BitVec.ofNat 32 s.val) 64#32 = BitVec.ofNat 32 (s.val / 64) := by decide +kernel

theorem sign_at : ∀ (c : Fin 32) (k : Fin 3), IntOp.cmpi CmpIPredicate.sge (IntOp.addi (IntOp.subi (BitVec.ofNat 32 c.val) 2#32) (BitVec.ofNat 32 k.val)) 0#32
    = if 2 ≤ c.val + k.val then 1#1 else 0#1 := by decide +kernel

theorem mask_at (c : Fin 32) (s : Fin 192) : mask (ix2 c s) = if 2 ≤ c.val + s.val / 64 then 1#1 else 0#1 := by
  unfold mask
  pointwise
  rw [chunk_of]
  exact sign_at c ⟨s.val / 64, by omega⟩

/-- The masked scores. -/
def scored (q : FVec Ideal S16384x1024 .f32) (kb : FVec Ideal S8x32x192x4x64 .f32) : FVec Ideal S8x32x4x4x64x192 .f32 :=
  select (broadcastInDim S8x32x4x4x64x192 ![0, 1, 2, 3, 4, 5] bcast_S1x32x1x1x1x192_S8x32x4x4x64x192_0_1_2_3_4_5 (broadcastInDim S1x32x1x1x1x192 ![1, 5] bcast_S32x192_S1x32x1x1x1x192_1_5 mask)) (mulf (transpose S8x32x4x4x64x192 [0, 1, 2, 5, 4, 3] (Host.dotGeneral dot_S8x32x192x4x64_S8x32x64x4x4x64_S8x32x4x192x64x4_4_5_2_24_013_013 none kb (shapeCast _ q shapeCasts_S16384x1024_S8x32x64x4x4x64)) transposes_S8x32x4x192x64x4_S8x32x4x4x64x192_0_1_2_5_4_3) (broadcastInDim S8x32x4x4x64x192 ![] bcast_S_S8x32x4x4x64x192 (constant S_ .f32 0x3E000000#32))) (broadcastInDim S8x32x4x4x64x192 ![] bcast_S_S8x32x4x4x64x192 (id (constant S_ .f32 0xFF800000#32)))

theorem scored_at (q : FVec Ideal S16384x1024 .f32) (kb : FVec Ideal S8x32x192x4x64 .f32) (b : Fin 8) (c : Fin 32) (h g : Fin 4) (r : Fin 64) (s : Fin 192) :
    scored q kb (ix6 b c h g r s) = if 2 ≤ c.val + s.val / 64 then
      (∑ d : Fin 64, kb (ix5 b c s h d) * q (ix2 ⟨2048 * b.val + 64 * c.val + r.val, by omega⟩ ⟨256 * h.val + 64 * g.val + d.val, by omega⟩)) * Ideal.ofBits .f32 0x3E000000#32
      else Ideal.ofBits .f32 0xFF800000#32 := by
  unfold scored
  pointwise
  rw [mask_at]
  have e : ∀ (f : EReal) (g : EReal), Scalar.select (if 2 ≤ c.val + s.val / 64 then 1#1 else 0#1) f g = if 2 ≤ c.val + s.val / 64 then f else g := by
    intro f g
    split_ifs
    · rfl
    · rfl
  rw [e]
  congr 2
  refine Finset.sum_congr rfl fun d _ => congrArg _ ?_
  exact at2 q (by dsimp only; omega) (by dsimp only; omega)

end Cert.ReferenceIdeal.Val
-- ==== Proof.AttnRef.lean ====
/- The reference's attention at a coordinate: the softmax with its sink. -/
module

public import proofs.«01_k».proof.Proof.Gen.ReferenceIdeal.Run
public import proofs.«01_k».proof.Proof.AttnRefScores
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.ReferenceIdeal.Val
open Cert.ReferenceIdeal Cert.ReferenceIdeal.Gen

/-- The scores and, last, the sink's logit. -/
def logits (s : FVec Ideal S8x32x4x4x64x192 .f32) (sk : FVec Ideal S16 .f32) : FVec Ideal S8x32x4x4x64x193 .f32 :=
  concatenate S8x32x4x4x64x193 5 [⟨S8x32x4x4x64x192, s⟩, ⟨S8x32x4x4x64x1, broadcastInDim S8x32x4x4x64x1 ![2, 3, 4, 5] bcast_S4x4x1x1_S8x32x4x4x64x1_2_3_4_5 (shapeCast _ sk shapeCasts_S16_S4x4x1x1)⟩] concatenates_S8x32x4x4x64x192_S8x32x4x4x64x1_S8x32x4x4x64x193_d5

theorem logits_at (s : FVec Ideal S8x32x4x4x64x192 .f32) (sk : FVec Ideal S16 .f32) (b : Fin 8) (c : Fin 32) (h g : Fin 4) (r : Fin 64) (k : Fin 193) :
    logits s sk (ix6 b c h g r k) = if hk : k.val < 192 then s (ix6 b c h g r ⟨k.val, hk⟩) else sk (ix1 ⟨4 * h.val + g.val, by omega⟩) := by
  unfold logits
  pointwise
  by_cases hk : k.val < 192
  · rw [dif_pos hk, dif_pos hk]
  · rw [dif_neg hk, dif_neg hk]
    exact congrArg (fun a => sk (ix1 a)) (Fin.ext (by dsimp only; omega))

/-- The indices over one row. -/
theorem row_fiber (b : Fin 8) (c : Fin 32) (h g : Fin 4) (r : Fin 64) (i : S8x32x4x4x64x193.Idx) :
    Shape.ReducesTo.drop reducesTo_S8x32x4x4x64x193_S8x32x4x4x64_d5 i = ix5 b c h g r ↔ ∃ k : Fin 193, ix6 b c h g r k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- Each row's maximum. -/
def rowMax (cc : FVec Ideal S8x32x4x4x64x193 .f32) : FVec Ideal S8x32x4x4x64 .f32 :=
  Host.reduce FloatOps.maximumf cc (constant S_ .f32 0xFF800000#32) reducesTo_S8x32x4x4x64x193_S8x32x4x4x64_d5 h_S_

theorem rowMax_at (cc : FVec Ideal S8x32x4x4x64x193 .f32) (b : Fin 8) (c : Fin 32) (h g : Fin 4) (r : Fin 64) :
    rowMax cc (ix5 b c h g r) = Finset.univ.fold max (Ideal.ofBits .f32 0xFF800000#32) fun j : Fin 193 => cc (ix6 b c h g r j) := by
  unfold rowMax
  rw [Host.reduce_eq_fold]
  exact Finset.fold_filter_eq_fold_of_fiber max _ (fun k : Fin 193 => ix6 b c h g r k) (fun _ _ e => congrFun e 5) (row_fiber b c h g r) _ cc

/-- Each row's sum. -/
def rowSum (cc : FVec Ideal S8x32x4x4x64x193 .f32) : FVec Ideal S8x32x4x4x64 .f32 :=
  Host.reduceAdd cc (constant S_ .f32 0x00000000#32) reducesTo_S8x32x4x4x64x193_S8x32x4x4x64_d5 h_S_

theorem rowSum_at (cc : FVec Ideal S8x32x4x4x64x193 .f32) (b : Fin 8) (c : Fin 32) (h g : Fin 4) (r : Fin 64) :
    rowSum cc (ix5 b c h g r) = ∑ j : Fin 193, cc (ix6 b c h g r j) := by
  unfold rowSum
  refine (show Host.reduceAdd cc (constant S_ .f32 0x00000000#32) reducesTo_S8x32x4x4x64x193_S8x32x4x4x64_d5 h_S_ (ix5 b c h g r)
    = Ideal.hostReduceAdd reducesTo_S8x32x4x4x64x193_S8x32x4x4x64_d5 cc (Ideal.ofBits .f32 0x00000000#32) (ix5 b c h g r) from rfl).trans ?_
  unfold Ideal.hostReduceAdd
  rw [Finset.sum_filter_eq_sum_of_fiber _ (fun k : Fin 193 => ix6 b c h g r k) (fun _ _ e => congrFun e 5) (row_fiber b c h g r) cc]
  pointwise

/-- A value per row, along the row. -/
def spread (f : FVec Ideal S8x32x4x4x64 .f32) : FVec Ideal S8x32x4x4x64x193 .f32 :=
  broadcastInDim S8x32x4x4x64x193 ![0, 1, 2, 3, 4, 5] bcast_S8x32x4x4x64x1_S8x32x4x4x64x193_0_1_2_3_4_5 (broadcastInDim S8x32x4x4x64x1 ![0, 1, 2, 3, 4] bcast_S8x32x4x4x64_S8x32x4x4x64x1_0_1_2_3_4 f)

theorem spread_at (f : FVec Ideal S8x32x4x4x64 .f32) (b : Fin 8) (c : Fin 32) (h g : Fin 4) (r : Fin 64) (k : Fin 193) :
    spread f (ix6 b c h g r k) = f (ix5 b c h g r) := by
  unfold spread broadcastInDim
  refine congrArg f ?_
  funext a; apply Fin.ext
  match a with
  | ⟨0, _⟩ => rfl
  | ⟨1, _⟩ => rfl
  | ⟨2, _⟩ => rfl
  | ⟨3, _⟩ => rfl
  | ⟨4, _⟩ => rfl

/-- The weights of the keys, the rows' maxima given. -/
def weightsOf (cc : FVec Ideal S8x32x4x4x64x193 .f32) (M : FVec Ideal S8x32x4x4x64 .f32) : FVec Ideal S8x32x4x4x64x193 .f32 :=
  Host.exp (subf cc (spread (maximumf (broadcastInDim S8x32x4x4x64 ![] bcast_S_S8x32x4x4x64 (constant S_ .f32 0xFF800000#32)) M)))

theorem weightsOf_at (cc : FVec Ideal S8x32x4x4x64x193 .f32) (M : FVec Ideal S8x32x4x4x64 .f32) (b : Fin 8) (c : Fin 32) (h g : Fin 4) (r : Fin 64) (k : Fin 193) :
    weightsOf cc M (ix6 b c h g r k) = Ideal.exp (cc (ix6 b c h g r k) - max (Ideal.ofBits .f32 0xFF800000#32) (M (ix5 b c h g r))) := by
  refine (show weightsOf cc M (ix6 b c h g r k) = Ideal.exp (cc (ix6 b c h g r k) - spread _ (ix6 b c h g r k)) from rfl).trans ?_
  rw [spread_at]
  rfl

/-- The weights of the keys. -/
def weights (cc : FVec Ideal S8x32x4x4x64x193 .f32) : FVec Ideal S8x32x4x4x64x193 .f32 := weightsOf cc (rowMax cc)

theorem weights_at (cc : FVec Ideal S8x32x4x4x64x193 .f32) (b : Fin 8) (c : Fin 32) (h g : Fin 4) (r : Fin 64) (k : Fin 193) :
    weights cc (ix6 b c h g r k) = Ideal.exp (cc (ix6 b c h g r k) - max (Ideal.ofBits .f32 0xFF800000#32) (Finset.univ.fold max (Ideal.ofBits .f32 0xFF800000#32) fun j : Fin 193 => cc (ix6 b c h g r j))) := by
  unfold weights
  rw [weightsOf_at, rowMax_at]

/-- The weights divided by their rows' sums, the sink's left out. -/
def probsOf (p : FVec Ideal S8x32x4x4x64x193 .f32) (R : FVec Ideal S8x32x4x4x64 .f32) : FVec Ideal S8x32x4x4x64x192 .f32 :=
  extractStridedSlice S8x32x4x4x64x192 ![0, 0, 0, 0, 0, 0] (Host.divf p (spread R)) slices_S8x32x4x4x64x193_S8x32x4x4x64x192_0_0_0_0_0_0

theorem probsOf_at (p : FVec Ideal S8x32x4x4x64x193 .f32) (R : FVec Ideal S8x32x4x4x64 .f32) (b : Fin 8) (c : Fin 32) (h g : Fin 4) (r : Fin 64) (k : Fin 192) :
    probsOf p R (ix6 b c h g r k) = Ideal.div (p (ix6 b c h g r ⟨k.val, by omega⟩)) (R (ix5 b c h g r)) := by
  unfold probsOf extractStridedSlice
  have e : ∀ i, i = (ix6 b c h g r ⟨k.val, by omega⟩ : S8x32x4x4x64x193.Idx) → Host.divf p (spread R) i
      = Ideal.div (p (ix6 b c h g r ⟨k.val, by omega⟩)) (R (ix5 b c h g r)) := by
    rintro i rfl
    rw [← spread_at R b c h g r ⟨k.val, by omega⟩]
    rfl
  refine e _ ?_
  funext a; apply Fin.ext
  match a with
  | ⟨0, _⟩ => exact Nat.zero_add _
  | ⟨1, _⟩ => exact Nat.zero_add _
  | ⟨2, _⟩ => exact Nat.zero_add _
  | ⟨3, _⟩ => exact Nat.zero_add _
  | ⟨4, _⟩ => exact Nat.zero_add _
  | ⟨5, _⟩ => exact Nat.zero_add _

/-- The weights normalized, the sink's left out. -/
def probs (p : FVec Ideal S8x32x4x4x64x193 .f32) : FVec Ideal S8x32x4x4x64x192 .f32 := probsOf p (rowSum p)

theorem probs_at (p : FVec Ideal S8x32x4x4x64x193 .f32) (b : Fin 8) (c : Fin 32) (h g : Fin 4) (r : Fin 64) (k : Fin 192) :
    probs p (ix6 b c h g r k) = Ideal.div (p (ix6 b c h g r ⟨k.val, by omega⟩)) (∑ j : Fin 193, p (ix6 b c h g r j)) := by
  unfold probs
  rw [probsOf_at, rowSum_at]

/-- The weighted values. -/
def mixed (p : FVec Ideal S8x32x4x4x64x192 .f32) (vb : FVec Ideal S8x32x192x4x64 .f32) : FVec Ideal S16384x1024 .f32 :=
  shapeCast _ (transpose S8x32x64x4x4x64 [0, 1, 5, 2, 4, 3] (Host.dotGeneral dot_S8x32x192x4x64_S8x32x4x4x64x192_S8x32x4x64x4x64_2_5_4_34_013_012 none vb p) transposes_S8x32x4x64x4x64_S8x32x64x4x4x64_0_1_5_2_4_3) shapeCasts_S8x32x64x4x4x64_S16384x1024

theorem mixed_at (p : FVec Ideal S8x32x4x4x64x192 .f32) (vb : FVec Ideal S8x32x192x4x64 .f32) (i : Fin 16384) (k : Fin 1024) :
    mixed p vb (ix2 i k)
      = ∑ s : Fin 192, vb (ix5 ⟨i.val / 2048, by omega⟩ ⟨i.val / 64 % 32, by omega⟩ s ⟨k.val / 256, by omega⟩ ⟨k.val % 64, by omega⟩)
          * p (ix6 ⟨i.val / 2048, by omega⟩ ⟨i.val / 64 % 32, by omega⟩ ⟨k.val / 256, by omega⟩ ⟨k.val / 64 % 4, by omega⟩ ⟨i.val % 64, by omega⟩ s) := by
  unfold mixed
  pointwise

/-- The reference's result, composed of the above. -/
theorem res_eq (m : (ℓ : Loc nD τ sig) → Buf (Elt Ideal) ℓ) (c : Dev nD) :
    Cert.ReferenceIdeal.Value.res_main_v53 m c = mixed (probs (weights (logits (scored (m ((c : Thread nD τ).loc main_arg0))
        (band (extractStridedSlice S16384x256 ![0, 0] (m ((c : Thread nD τ).loc main_arg1)) slices_S16384x512_S16384x256_0_0)))
        (m ((c : Thread nD τ).loc main_arg2)))))
      (band (extractStridedSlice S16384x256 ![0, 256] (m ((c : Thread nD τ).loc main_arg1)) slices_S16384x512_S16384x256_0_256)) := rfl

end Cert.ReferenceIdeal.Val
-- ==== Proof.Attention.lean ====
/- The attention: the kernel's array is the reference's, where queries, keys and sinks are finite. -/
module

public import proofs.«01_k».proof.Proof.AttnKernel
public import proofs.«01_k».proof.Proof.AttnRef
public import proofs.«01_k».proof.Defs

@[expose] public section

set_option maxRecDepth 16384
noncomputable section
open Idealize.ShloMosaic Idealize.ShloMosaic.TcCoe Idealize.SL.Sem
open Idealize.ShloMosaic.Pipeline (Dat)

namespace Cert.KernelIdeal.Val
open Cert.KernelIdeal Cert.KernelIdeal.Gen Cert.Attn

open Cert.ReferenceIdeal.Val in
open Cert.ReferenceIdeal.Gen in
/-- The reference: softmax attention over each chunk's band of keys, with a sink per head. -/
def REF (q : FVec Ideal S16384x1024 .f32) (kv : FVec Ideal S16384x512 .f32) (sk : FVec Ideal S16 .f32) : FVec Ideal S16384x1024 .f32 :=
  mixed (probs (weights (logits (scored q (band (extractStridedSlice Cert.ReferenceIdeal.S16384x256 ![0, 0] kv slices_S16384x512_S16384x256_0_0))) sk)))
    (band (extractStridedSlice Cert.ReferenceIdeal.S16384x256 ![0, 256] kv slices_S16384x512_S16384x256_0_256))

section
variable (q : FVec Ideal S16384x1024 .f32) (kv : FVec Ideal S16384x512 .f32) (sk : FVec Ideal S16 .f32)

/-- The key (offset 0) or value (offset 256) columns. -/
theorem keys_at (i : Fin 16384) (k : Fin 256) :
    extractStridedSlice Cert.ReferenceIdeal.S16384x256 ![0, 0] kv Cert.ReferenceIdeal.Gen.slices_S16384x512_S16384x256_0_0 (ix2 i k) = kv (ix2 i ⟨k.val, by omega⟩) := by
  pointwise
theorem vals_at (i : Fin 16384) (k : Fin 256) :
    extractStridedSlice Cert.ReferenceIdeal.S16384x256 ![0, 256] kv Cert.ReferenceIdeal.Gen.slices_S16384x512_S16384x256_0_256 (ix2 i k) = kv (ix2 i ⟨256 + k.val, by omega⟩) := by
  pointwise

/-- The scores of the 192 keys of row `i` and column `k`'s head. -/
def scoreR (i : Fin 16384) (k : Fin 1024) (s : Fin 192) : EReal :=
  if h : 2 ≤ i.val / 64 % 32 + s.val / 64 then
    (∑ e : Fin 64, kv (ix2 ⟨64 * (i.val / 64) + s.val - 128, by omega⟩ ⟨64 * (k.val / 256) + e.val, by omega⟩) * q (ix2 i ⟨64 * (k.val / 64) + e.val, by omega⟩)) * Ideal.ofBits .f32 0x3E000000#32
  else ⊥

/-- Their values at column `k`. -/
def valueR (i : Fin 16384) (k : Fin 1024) (s : Fin 192) : EReal :=
  Cert.ReferenceIdeal.Val.band (extractStridedSlice Cert.ReferenceIdeal.S16384x256 ![0, 256] kv Cert.ReferenceIdeal.Gen.slices_S16384x512_S16384x256_0_256)
    (ix5 ⟨i.val / 2048, by omega⟩ ⟨i.val / 64 % 32, by omega⟩ s ⟨k.val / 256, by omega⟩ ⟨k.val % 64, by omega⟩)

theorem valueR_at (i : Fin 16384) (k : Fin 1024) (s : Fin 192) (h : 2 ≤ i.val / 64 % 32 + s.val / 64) :
    valueR kv i k s = kv (ix2 ⟨64 * (i.val / 64) + s.val - 128, by omega⟩ ⟨256 + (64 * (k.val / 256) + k.val % 64), by omega⟩) := by
  unfold valueR
  rw [Cert.ReferenceIdeal.Val.band_at _ _ _ _ _ _ h, vals_at]
  exact at2 kv (by dsimp only; omega) rfl

theorem scored_eq (i : Fin 16384) (k : Fin 1024) (s : Fin 192) :
    Cert.ReferenceIdeal.Val.scored q (Cert.ReferenceIdeal.Val.band (extractStridedSlice Cert.ReferenceIdeal.S16384x256 ![0, 0] kv Cert.ReferenceIdeal.Gen.slices_S16384x512_S16384x256_0_0))
      (ix6 ⟨i.val / 2048, by omega⟩ ⟨i.val / 64 % 32, by omega⟩ ⟨k.val / 256, by omega⟩ ⟨k.val / 64 % 4, by omega⟩ ⟨i.val % 64, by omega⟩ s)
      = scoreR q kv i k s := by
  rw [Cert.ReferenceIdeal.Val.scored_at, negInf]
  unfold scoreR
  by_cases h : 2 ≤ i.val / 64 % 32 + s.val / 64
  · rw [if_pos h, dif_pos h]
    congr 1
    refine Finset.sum_congr rfl fun e _ => ?_
    rw [Cert.ReferenceIdeal.Val.band_at _ _ _ _ _ _ h, keys_at]
    exact congrArg₂ (fun a b : EReal => a * b) (at2 kv (by dsimp only; omega) rfl) (at2 q (by dsimp only; omega) (by dsimp only; omega))
  · rw [if_neg h, dif_neg h]

theorem ref_at (i : Fin 16384) (k : Fin 1024) :
    REF q kv sk (ix2 i k) = attDiv (scoreR q kv i k) (valueR kv i k) (sk (ix1 ⟨k.val / 64, by omega⟩)) := by
  unfold REF
  rw [Cert.ReferenceIdeal.Val.mixed_at]
  simp only [Cert.ReferenceIdeal.Val.probs_at, Cert.ReferenceIdeal.Val.weights_at, negInf]
  refine (attDiv_append (scoreR q kv i k) (valueR kv i k) (sk (ix1 ⟨k.val / 64, by omega⟩)) (fun j => Cert.ReferenceIdeal.Val.logits
    (Cert.ReferenceIdeal.Val.scored q (Cert.ReferenceIdeal.Val.band (extractStridedSlice Cert.ReferenceIdeal.S16384x256 ![0, 0] kv Cert.ReferenceIdeal.Gen.slices_S16384x512_S16384x256_0_0))) sk
      (ix6 ⟨i.val / 2048, by omega⟩ ⟨i.val / 64 % 32, by omega⟩ ⟨k.val / 256, by omega⟩ ⟨k.val / 64 % 4, by omega⟩ ⟨i.val % 64, by omega⟩ j)) ?_ ?_)
  · intro s
    rw [Cert.ReferenceIdeal.Val.logits_at, dif_pos (show s.castSucc.val < 192 from s.isLt)]
    exact scored_eq q kv i k s
  · rw [Cert.ReferenceIdeal.Val.logits_at, dif_neg (by simp)]
    exact congrArg (fun a => sk (ix1 a)) (Fin.ext (by dsimp only; omega))

/-- The queries, the keys and the sinks are real numbers. -/
def Finite : Prop :=
  (∀ i k, ∃ r : ℝ, q (ix2 i k) = r) ∧ (∀ i (k : Fin 256), ∃ r : ℝ, kv (ix2 i ⟨k.val, by omega⟩) = r) ∧ (∀ k, ∃ r : ℝ, sk (ix1 k) = r)

theorem ref_att (hf : Finite q kv sk)
    (i : Fin 16384) (k : Fin 1024) :
    REF q kv sk (ix2 i k) = att (scoreR q kv i k) (valueR kv i k) (sk (ix1 ⟨k.val / 64, by omega⟩)) := by
  obtain ⟨hq, hk, hs⟩ := hf
  rw [ref_at]
  obtain ⟨σ, hσ⟩ := hs ⟨k.val / 64, by omega⟩
  refine (att_eq_attDiv ?_ (by rw [hσ]; exact EReal.coe_lt_top _) (by rw [hσ]; exact EReal.coe_ne_bot _)).symm
  intro s
  unfold scoreR
  split_ifs with h
  · rw [eighth]
    exact dot_lt _ _ _ (fun e => hk _ ⟨64 * (k.val / 256) + e.val, by omega⟩) (fun e => hq _ _)
  · exact bot_lt_top

end

variable (m : (ℓ : Loc nD τ sig) → Buf (Elt Ideal) ℓ)

theorem rows_k (c : Dev nD) (t : Fin cfg0.N) (n : Fin 384) (k : Fin 256) (h : t.val % 8 = 0 → 128 ≤ n.val) :
    rows (iblk m c 2 t) (iblk m c 3 t) n k
      = (m ((c : Thread nD τ).loc main_arg1) : Vec Ideal S16384x512 .f32) (ix2 ⟨256 * t.val + n.val - 128, by have := lt64 t; omega⟩ ⟨k.val, by omega⟩) := by
  unfold rows
  by_cases hn : n.val < 128
  · rw [dif_pos hn]
    exact (b2 m c t ⟨n.val, hn⟩ k).trans (at2 (m ((c : Thread nD τ).loc main_arg1) : Vec Ideal S16384x512 .f32) (by dsimp only; omega) rfl)
  · rw [dif_neg hn]
    exact (b3 m c t ⟨n.val - 128, by omega⟩ k).trans (at2 (m ((c : Thread nD τ).loc main_arg1) : Vec Ideal S16384x512 .f32) (by dsimp only; omega) rfl)

theorem rows_v (c : Dev nD) (t : Fin cfg0.N) (n : Fin 384) (k : Fin 256) (h : t.val % 8 = 0 → 128 ≤ n.val) :
    rows (iblk m c 4 t) (iblk m c 5 t) n k
      = (m ((c : Thread nD τ).loc main_arg1) : Vec Ideal S16384x512 .f32) (ix2 ⟨256 * t.val + n.val - 128, by have := lt64 t; omega⟩ ⟨256 + k.val, by omega⟩) := by
  unfold rows
  by_cases hn : n.val < 128
  · rw [dif_pos hn]
    exact (b4 m c t ⟨n.val, hn⟩ k).trans (at2 (m ((c : Thread nD τ).loc main_arg1) : Vec Ideal S16384x512 .f32) (by dsimp only; omega) rfl)
  · rw [dif_neg hn]
    exact (b5 m c t ⟨n.val - 128, by omega⟩ k).trans (at2 (m ((c : Thread nD τ).loc main_arg1) : Vec Ideal S16384x512 .f32) (by dsimp only; omega) rfl)

/-- One element of a block: the softmax over the 384 staged keys is the one over the 192 of the row's chunk. -/
theorem val_att (c : Dev nD) (t : Fin cfg0.N) (r : Fin 256) (k : Fin 1024) :
    val (grid0.coords t) (iblk m c 0 t) (iblk m c 1 t) (iblk m c 2 t) (iblk m c 3 t) (iblk m c 4 t) (iblk m c 5 t) r k
      = att (scoreR (m ((c : Thread nD τ).loc main_arg0)) (m ((c : Thread nD τ).loc main_arg1)) ⟨256 * t.val + r.val, by have := lt64 t; omega⟩ k)
          (valueR (m ((c : Thread nD τ).loc main_arg1)) ⟨256 * t.val + r.val, by have := lt64 t; omega⟩ k)
          ((m ((c : Thread nD τ).loc main_arg2) : Vec Ideal S16 .f32) (ix1 ⟨k.val / 64, by omega⟩)) := by
  have ht := lt64 t
  have hc : (grid0.coords t 1).val = t.val % 8 := (idx t).2.2.2.2.2.2.2
  unfold val
  rw [b1 m c t ⟨k.val / 64, by omega⟩ (by dsimp only; omega), hc]
  refine att_window (o := 64 * (r.val / 64)) (by omega) _ _ _ _ _ ?_ ?_ ?_
  · intro n hn
    rw [if_neg (by omega)]
    exact EReal.add_bot _
  · intro s
    dsimp only
    unfold scoreR
    by_cases h : 2 ≤ (256 * t.val + r.val) / 64 % 32 + s.val / 64
    · rw [dif_pos h, if_pos (by omega), add_zero]
      congr 1
      refine Finset.sum_congr rfl fun e _ => ?_
      rw [rows_k m c t _ _ (by dsimp only; omega), b0]
      exact congrArg₂ (fun a b : EReal => a * b) (at2 (m ((c : Thread nD τ).loc main_arg1) : Vec Ideal S16384x512 .f32) (by dsimp only; omega) rfl) rfl
    · rw [dif_neg h, if_neg (by omega)]
      exact EReal.add_bot _
  · intro s
    by_cases h : 2 ≤ (256 * t.val + r.val) / 64 % 32 + s.val / 64
    · right
      rw [valueR_at _ _ _ _ h, rows_v m c t _ _ (by dsimp only; omega)]
      exact at2 (m ((c : Thread nD τ).loc main_arg1) : Vec Ideal S16384x512 .f32) (by dsimp only; omega) rfl
    · left
      unfold scoreR
      exact dif_neg h

/-- The kernel's array. -/
theorem final (c : Dev nD)
    (hf : Finite (m ((c : Thread nD τ).loc main_arg0)) (m ((c : Thread nD τ).loc main_arg1)) (m ((c : Thread nD τ).loc main_arg2))) :
    (dats m 0 c).arrAt 6 (cfgs 0).N
      = REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp; rw [after0_6, out_val]
  have ht := lt64 t
  have hy : (y 0).val < 256 := (y 0).isLt
  refine (val_att m c t (y 0) (y 1)).trans ((ref_att _ _ _ hf _ _).symm.trans ?_)
  generalize REF (m ((c : Thread nD τ).loc main_arg0)) (m ((c : Thread nD τ).loc main_arg1)) (m ((c : Thread nD τ).loc main_arg2)) = f
  blk_point [idx t]

theorem posInf : Ideal.ofBits .f32 0x7F800000#32 = ⊤ := by
  unfold Ideal.ofBits; rfl

/-- The precondition's three conjuncts, element by element. -/
theorem finite_of [hP : Cert.Pre_finite.Facts] (h : Cert.Pre_KernelIdeal_finite m) (c : Dev nD) :
    Finite (m ((c : Thread nD τ).loc main_arg0)) (m ((c : Thread nD τ).loc main_arg1)) (m ((c : Thread nD τ).loc main_arg2)) := by
  obtain ⟨h0, h1, h2⟩ := h c
  refine ⟨fun i k => finite_of_abs ?_, fun i k => finite_of_abs ?_, fun k => finite_of_abs ?_⟩
  · have := congrFun h0 (ix2 i k)
    rw [← posInf]
    exact this
  · have := congrFun h1 (ix2 i k)
    rw [← posInf, ← keys_at (m ((c : Thread nD τ).loc main_arg1))]
    exact this
  · have := congrFun h2 (ix1 k)
    rw [← posInf]
    exact this

/-- The reference's array. -/
theorem ref_value (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v53 m c
      = REF (m (c.tc.loc Cert.ReferenceIdeal.main_arg0)) (m (c.tc.loc Cert.ReferenceIdeal.main_arg1)) (m (c.tc.loc Cert.ReferenceIdeal.main_arg2)) :=
  Cert.ReferenceIdeal.Val.res_eq m c

end Cert.KernelIdeal.Val
-- ==== Proof.In.lean ====
module

public import proofs.«01_k».proof.Proof.Gen.KernelInIdeal.Frame
public import proofs.«01_k».proof.Proof.Gen.ReferenceInIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)

namespace Cert.KernelInIdeal.Val
open Cert.KernelInIdeal Cert.KernelInIdeal.Gen

variable (m : (ℓ : Loc nD τ sig) → Buf (Elt Ideal) ℓ)

/-- The input projection of the normalised rows, filled up with zero columns. -/
abbrev REF (x0 : Vec Ideal S16384x1024 .f32) (x1 : Vec Ideal S1024 .f32) (x2 : Vec Ideal S1024x6176 .f32) : Vec Ideal S16384x6272 .f32 :=
  Cert.ReferenceInIdeal.Read.val_main_v14 (F := Ideal) x0 x1 x2

theorem idx : ∀ t : Fin cfg0.N, win0_0.index t = ![t.val / 7, 0] ∧ win0_1.index t = ![0, 0] ∧ win0_2.index t = ![0, t.val % 7] ∧ win0_3.index t = ![0, t.val % 7] ∧ win0_4.index t = ![t.val / 7, t.val % 7] :=
  (by decide +kernel : ∀ t : Fin grid0.N, _)

theorem rows_pred (n : ℕ) (h : n + 1 < cfg0.N) (h' : n < cfg0.N) (h7 : ¬ (n + 1) % 7 = 0) (c : Dev nD) :
    iblk m c 0 ⟨n, h'⟩ = iblk m c 0 ⟨n + 1, h⟩ := by
  funext y
  blk_ext [iblk, V, idx ⟨n + 1, h⟩, idx ⟨n, h'⟩]

theorem gain_pred (n : ℕ) (h : n + 1 < cfg0.N) (h' : n < cfg0.N) (c : Dev nD) :
    iblk m c 1 ⟨n, h'⟩ = iblk m c 1 ⟨n + 1, h⟩ := by
  funext y
  blk_ext [iblk, V, idx ⟨n + 1, h⟩, idx ⟨n, h'⟩]

/-- The scratch holds the normalised rows of the point's row block. -/
theorem scratch (c : Dev nD) : ∀ (n : ℕ) (h : n < cfg0.N),
    (outsAt0 m c n h).2 = k0_pay1 (F := Ideal) (iblk m c 0 ⟨n, h⟩) (iblk m c 1 ⟨n, h⟩) := by
  intro n
  induction n with
  | zero =>
    intro h
    rw [outsAt0_A m c ⟨0, h⟩ (by rfl)]
    frame_out
  | succ n ih =>
    intro h
    by_cases h7 : (n + 1) % 7 = 0
    · rw [outsAt0_A m c ⟨n + 1, h⟩ h7]
      frame_out
    · rw [outsAt0_B m c ⟨n + 1, h⟩ h7]
      have h' : n < cfg0.N := Nat.lt_of_succ_lt h
      have key : ∀ k (hk : k < cfg0.N), k = n → (outsAt0 m c k hk).2
          = k0_pay1 (F := Ideal) (iblk m c 0 ⟨n + 1, h⟩) (iblk m c 1 ⟨n + 1, h⟩) := by
        rintro k hk rfl
        rw [ih hk, rows_pred m k h hk h7 c, gain_pred m k h hk c]
      dsimp only [sout0_B_0]
      exact key _ _ (Nat.add_sub_cancel n 1)

/-- What the scratch held before a point that does not refill it. -/
theorem scratch_pred (c : Dev nD) (t : Fin cfg0.N) (h7 : ¬ t.val % 7 = 0) (h : t.val - 1 < cfg0.N) :
    (outsAt0 m c (t.val - 1) h).2 = k0_pay1 (F := Ideal) (iblk m c 0 t) (iblk m c 1 t) := by
  obtain ⟨n, hn⟩ := t
  cases n with
  | zero => exact absurd rfl h7
  | succ n =>
    have h' : n < cfg0.N := Nat.lt_of_succ_lt hn
    have key : ∀ k (hk : k < cfg0.N), k = n → (outsAt0 m c k hk).2
        = k0_pay1 (F := Ideal) (iblk m c 0 ⟨n + 1, hn⟩) (iblk m c 1 ⟨n + 1, hn⟩) := by
      rintro k hk rfl
      rw [scratch m c k hk, rows_pred m k hn hk h7 c, gain_pred m k hn hk c]
    exact key _ _ (Nat.add_sub_cancel n 1)

theorem zero_int : FloatOps.sitofp (F := Ideal) .f32 0#32 = (0 : EReal) := by
  show (((0#32 : BitVec 32).toInt : ℝ) : EReal) = 0
  simp

set_option maxHeartbeats 800000 in
/-- The bias handed to this call is zero. -/
theorem bias (c : Dev nD) (k : Fin 6272) : V m c main_v4 (ix2 0 k) = (0 : EReal) := by
  unfold V V0
  simp only [hostOps0, hostOps0_1, hostOps0_2, List.flatten_cons, List.flatten_nil, List.append_nil, List.cons_append, List.nil_append]
  entry_read
  pointwise

set_option maxHeartbeats 800000 in
/-- The weights handed to this call, filled up with zero columns. -/
theorem weight (c : Dev nD) (k : Fin 1024) (j : Fin 6272) : V m c main_v1 (ix2 k j)
    = if h : j.val < 6176 then m ((c : Thread nD τ).loc main_arg2) (ix2 k ⟨j.val, h⟩) else (0 : EReal) := by
  unfold V V0
  simp only [hostOps0, hostOps0_1, hostOps0_2, List.flatten_cons, List.flatten_nil, List.append_nil, List.cons_append, List.nil_append]
  entry_read
  simp only [StableHlo.TRef.toBuf, StableHlo.TRef.ofBuf, cast_eq]
  pointwise
  split
  · rfl
  · exact zero_int

set_option maxHeartbeats 800000 in
/-- The gain handed to this call is the argument, laid out as one row. -/
theorem gain (c : Dev nD) (k : Fin 1024) : V m c main_v3 (ix2 0 k) = m ((c : Thread nD τ).loc main_arg1) (ix1 k) := by
  unfold V V0
  simp only [hostOps0, hostOps0_1, hostOps0_2, List.flatten_cons, List.flatten_nil, List.append_nil, List.cons_append, List.nil_append]
  entry_read
  pointwise

/-- What a point leaves in the output's buffer. -/
theorem outs (c : Dev nD) (t : Fin cfg0.N) : (outsAt0 m c t.val t.isLt).1
    = k0_pay2 (F := Ideal) (k0_pay1 (F := Ideal) (iblk m c 0 t) (iblk m c 1 t)) (iblk m c 2 t) (iblk m c 3 t) := by
  by_cases h7 : t.val % 7 = 0
  · rw [outsAt0_A m c t h7]
    frame_out
  · rw [outsAt0_B m c t h7]
    frame_out
    refine congrArg (fun z => k0_pay2 (F := Ideal) z (iblk m c 2 t) (iblk m c 3 t)) ?_
    exact ((Memref.isWhole_whole cc0_scratch0).read_unread _).trans (scratch_pred m c t h7 _)

/-- The body at one element. -/
theorem pay_at (x0 : Vec Ideal S1024x1024 .f32) (x1 : Vec Ideal S1x1024 .f32) (x2 : Vec Ideal S1024x896 .bf16) (x3 : Vec Ideal S1x896 .f32)
    (r : Fin 1024) (j : Fin 896) : k0_pay2 (F := Ideal) (k0_pay1 (F := Ideal) x0 x1) x2 x3 (ix2 r j)
      = (∑ k : Fin 1024, x0 (ix2 r k) * Ideal.rsqrt (Ideal.div (∑ l : Fin 1024, x0 (ix2 r l) * x0 (ix2 r l))
          (Ideal.ofBits .f32 1149239296#32) + Ideal.ofBits .f32 897988541#32) * x1 (ix2 0 k) * x2 (ix2 k j)) + x3 (ix2 0 j) := by
  pointwise [k0_pay2, k0_pay1]

/-- The reference at one element. -/
theorem ref_at (x0 : Vec Ideal S16384x1024 .f32) (x1 : Vec Ideal S1024 .f32) (x2 : Vec Ideal S1024x6176 .f32)
    (r : Fin 16384) (j : Fin 6272) : REF x0 x1 x2 (ix2 r j)
      = if h : j.val < 6176 then ∑ k : Fin 1024, x0 (ix2 r k) * Ideal.rsqrt (Ideal.div (∑ l : Fin 1024, x0 (ix2 r l) * x0 (ix2 r l))
          (Ideal.ofBits .f32 1149239296#32) + Ideal.ofBits .f32 897988541#32) * x1 (ix1 k) * x2 (ix2 k ⟨j.val, h⟩) else (0 : EReal) := by
  rw [REF, ← Cert.ReferenceInIdeal.Read.val_main_v14_eq]
  pointwise
  split
  · rfl
  · exact zero_int

theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4, outs]
  have ht : t.val < 112 := t.isLt
  obtain ⟨r, j, rfl⟩ : ∃ (r : Fin 1024) (j : Fin 896), y = ix2 r j := ⟨y 0, y 1, by funext a; match a with | ⟨0, _⟩ => rfl | ⟨1, _⟩ => rfl⟩
  have hr : t.val / 7 * 1024 + r.val < 16384 := by omega
  have hj : t.val % 7 * 896 + j.val < 6272 := by omega
  have he : ((View.whole main_v5).slice (win0_4.rect t)).emb (ix2 r j)
      = ix2 (⟨t.val / 7 * 1024 + r.val, hr⟩ : Fin 16384) (⟨t.val % 7 * 896 + j.val, hj⟩ : Fin 6272) := by
    blk_ext [idx t]
  have hw : ∀ k : Fin 1024, iblk m c 2 t (ix2 k j) = V m c main_v1 (ix2 k (⟨t.val % 7 * 896 + j.val, hj⟩ : Fin 6272)) := by
    intro k; blk_ext [iblk, idx t]
  have hb : iblk m c 3 t (ix2 0 j) = V m c main_v4 (ix2 0 (⟨t.val % 7 * 896 + j.val, hj⟩ : Fin 6272)) := by
    blk_ext [iblk, idx t]
  rw [he]
  refine (pay_at _ _ _ _ r j).trans (Eq.trans ?_ (ref_at _ _ _ _ _).symm)
  refine (congrArg₂ (fun a b : EReal => a + b) (Finset.sum_congr rfl fun k _ => congrArg (fun a : EReal => _ * a) ((hw k).trans (weight m c k _)))
    (hb.trans (bias m c _))).trans ?_
  refine (add_zero _).trans ?_
  by_cases h : t.val % 7 * 896 + j.val < 6176
  · simp only [dif_pos h]
    have hg : ∀ k : Fin 1024, iblk m c 1 t (ix2 0 k) = V m c main_v3 (ix2 0 k) := by
      intro k; blk_ext [iblk, idx t]
    refine Finset.sum_congr rfl fun k _ => congrArg (fun a : EReal => a * _) ?_
    refine (congrArg (fun a : EReal => _ * a) ((hg k).trans (gain m c k))).trans ?_
    blk_point [iblk, V, idx t]
  · simp only [dif_neg h, mul_zero, Finset.sum_const_zero]

/-- The last three frames' columns that the convolution reads. -/
abbrev REFT (x0 : Vec Ideal S16384x1024 .f32) (x1 : Vec Ideal S1024 .f32) (x2 : Vec Ideal S1024x6176 .f32) : Vec Ideal S8x3x4096 .f32 :=
  Cert.ReferenceInIdeal.Read.val_main_v17 (F := Ideal) x0 x1 x2

/-- The lines after the region read the array it ended with. -/
theorem exit (c : Dev nD) : Pipeline.withArrays spec0 c (V0 m c) (fun w => (dats m 0 c).arrAt w (cfgs 0).N) (Proc.devRef .tc main_v5)
    = REF (m ((c : Thread nD τ).loc main_arg0)) (m ((c : Thread nD τ).loc main_arg1)) (m ((c : Thread nD τ).loc main_arg2)) :=
  (Pipeline.withArrays_arr spec0 winFacts0.arr_inj c (V0 m c) (fun w => (dats m 0 c).arrAt w (cfgs 0).N) 4).trans (final m c)

theorem tail (c : Dev nD) : Pipeline.afterTail₀ cfgs (dats m) 0 (V0 m) [hostOps1] c main_v7
    = REFT (m ((c : Thread nD τ).loc main_arg0)) (m ((c : Thread nD τ).loc main_arg1)) (m ((c : Thread nD τ).loc main_arg2)) := by
  have e := exit m c
  unfold Pipeline.afterTail₀
  generalize Pipeline.withArrays (cfgs 0).spec c (V0 m c) (fun w => (dats m 0 c).arrAt w (cfgs 0).N) = W at *
  simp only [hostOps1, List.flatten_cons, List.flatten_nil, List.append_nil]
  after_results
  rw [e]
  unfold REFT Cert.ReferenceInIdeal.Read.val_main_v17 Cert.ReferenceInIdeal.Read.val_main_v16 Cert.ReferenceInIdeal.Read.val_main_v15
  unfold REF Cert.ReferenceInIdeal.Read.val_main_v14
  generalize Cert.ReferenceInIdeal.Read.val_main_v13 (F := Ideal) (m ((c : Thread nD τ).loc main_arg0)) (m ((c : Thread nD τ).loc main_arg1)) (m ((c : Thread nD τ).loc main_arg2)) = R
  clear e
  funext i
  dsimp only
  pointwise
  have h0 : (i 0).val < 8 := (i 0).isLt
  have h1 : (i 1).val < 3 := (i 1).isLt
  have h2 : (i 2).val < 4096 := (i 2).isLt
  exact dif_pos ⟨by omega, by omega⟩

end Cert.KernelInIdeal.Val
-- ==== Proof.Pq.lean ====
module

public import proofs.«01_k».proof.Proof.Gen.KernelPqIdeal.Frame
public import proofs.«01_k».proof.Proof.Gen.ReferencePqIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)

namespace Cert.KernelPqIdeal.Val
open Cert.KernelPqIdeal Cert.KernelPqIdeal.Gen

variable (m : (ℓ : Loc nD τ sig) → Buf (Elt Ideal) ℓ)

/-- The expert queries of the normalised rows, one matrix per head. -/
abbrev REF (x0 : Vec Ideal S16384x1024 .f32) (x1 : Vec Ideal S1024 .f32) (x2 : Vec Ideal S1024x2048 .f32) : Vec Ideal S8x16384x256 .bf16 :=
  Cert.ReferencePqIdeal.Read.val_main_v16 (F := Ideal) x0 x1 x2

theorem idx : ∀ t : Fin cfg0.N, win0_0.index t = ![t.val, 0] ∧ win0_1.index t = ![0, 0] ∧ win0_2.index t = ![0, 0] ∧ win0_3.index t = ![0, 0] ∧ win0_4.index t = ![0, t.val, 0] :=
  (by decide +kernel : ∀ t : Fin grid0.N, _)

/-- The bias handed to this call is zero. -/
theorem bias (c : Dev nD) (t : Fin cfg0.N) (k : Fin 2048) : iblk m c 3 t (ix2 0 k) = (0 : EReal) := by
  blk_simp [iblk]
  entry_read
  pointwise

set_option maxHeartbeats 3200000 in
theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4]
  unfold outsAt0
  frame_out
  rw [REF, ← Cert.ReferencePqIdeal.Read.val_main_v16_eq]
  canon_tiles x h
  all_goals
    open_payloads
    pointwise
    refine (congrArg₂ (fun a b : EReal => a + b) rfl (bias m c t _)).trans ?_
    refine (add_zero _).trans ?_
    blk_point [iblk, V, idx t]

end Cert.KernelPqIdeal.Val
-- ==== Proof.Q.lean ====
module

public import proofs.«01_k».proof.Proof.Gen.KernelQIdeal.Frame
public import proofs.«01_k».proof.Proof.Gen.ReferenceQIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)

namespace Cert.KernelQIdeal.Val
open Cert.KernelQIdeal Cert.KernelQIdeal.Gen

variable (m : (ℓ : Loc nD τ sig) → Buf (Elt Ideal) ℓ)

/-- The query projection of the normalised rows. -/
abbrev REF (x0 : Vec Ideal S16384x1024 .f32) (x1 : Vec Ideal S1024 .f32) (x2 : Vec Ideal S1024x1024 .f32) (x3 : Vec Ideal S1024 .f32) : Vec Ideal S16384x1024 .f32 :=
  Cert.ReferenceQIdeal.Read.val_main_v16 (F := Ideal) x0 x1 x2 x3

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]
  unfold outsAt0
  frame_out
  rw [REF, ← Cert.ReferenceQIdeal.Read.val_main_v16_eq]
  pointwise [k0_pay1]
  blk_point [iblk, V, idx t]

end Cert.KernelQIdeal.Val
-- ==== Proof.Kv.lean ====
module

public import proofs.«01_k».proof.Proof.Gen.KernelKvIdeal.Frame
public import proofs.«01_k».proof.Proof.Gen.ReferenceKvIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)

namespace Cert.KernelKvIdeal.Val
open Cert.KernelKvIdeal Cert.KernelKvIdeal.Gen

variable (m : (ℓ : Loc nD τ sig) → Buf (Elt Ideal) ℓ)

/-- The key and value projection of the normalised rows. -/
abbrev REF (x0 : Vec Ideal S16384x1024 .f32) (x1 : Vec Ideal S1024 .f32) (x2 : Vec Ideal S1024x512 .f32) (x3 : Vec Ideal S512 .f32) : Vec Ideal S16384x512 .f32 :=
  Cert.ReferenceKvIdeal.Read.val_main_v16 (F := Ideal) x0 x1 x2 x3

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- The gain handed to this call is the argument, laid out as one row. -/
theorem gain (c : Dev nD) (k : Fin 1024) : V m c main_v1 (ix2 0 k) = m ((c : Thread nD τ).loc main_arg1) (ix1 k) := by
  unfold V V0
  simp only [hostOps0, List.flatten_cons, List.flatten_nil, List.append_nil]
  entry_read
  pointwise

/-- The bias likewise. -/
theorem bias (c : Dev nD) (k : Fin 512) : V m c main_v2 (ix2 0 k) = m ((c : Thread nD τ).loc main_arg3) (ix1 k) := by
  unfold V V0
  simp only [hostOps0, List.flatten_cons, List.flatten_nil, List.append_nil]
  entry_read
  pointwise

theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]
  unfold outsAt0
  frame_out
  rw [REF, ← Cert.ReferenceKvIdeal.Read.val_main_v16_eq]
  pointwise [k0_pay1]
  blk_point [iblk, V, idx t]
  · refine (congrArg (V m c main_v1) ?_).trans (gain m c _)
    blk_ext [idx t]
  · refine (congrArg (V m c main_v2) (?_ : _ = ix2 0 (y 1))).trans ((bias m c (y 1)).trans (congrArg (m ((c : Thread nD τ).loc main_arg3)) ?_)) <;> blk_ext [idx t]

/-- The last 128 frames' keys, and the last 128 frames' values. -/
abbrev REFK (x0 : Vec Ideal S16384x1024 .f32) (x1 : Vec Ideal S1024 .f32) (x2 : Vec Ideal S1024x512 .f32) (x3 : Vec Ideal S512 .f32) : Vec Ideal S8x128x4x64 .f32 :=
  Cert.ReferenceKvIdeal.Read.val_main_v21 (F := Ideal) x0 x1 x2 x3

abbrev REFV (x0 : Vec Ideal S16384x1024 .f32) (x1 : Vec Ideal S1024 .f32) (x2 : Vec Ideal S1024x512 .f32) (x3 : Vec Ideal S512 .f32) : Vec Ideal S8x128x4x64 .f32 :=
  Cert.ReferenceKvIdeal.Read.val_main_v22 (F := Ideal) x0 x1 x2 x3

/-- The lines after the region read the array it ended with. -/
theorem exit (c : Dev nD) : Pipeline.withArrays spec0 c (V0 m c) (fun w => (dats m 0 c).arrAt w (cfgs 0).N) (Proc.devRef .tc main_v3)
    = REF (m ((c : Thread nD τ).loc main_arg0)) (m ((c : Thread nD τ).loc main_arg1)) (m ((c : Thread nD τ).loc main_arg2)) (m ((c : Thread nD τ).loc main_arg3)) :=
  (Pipeline.withArrays_arr spec0 winFacts0.arr_inj c (V0 m c) (fun w => (dats m 0 c).arrAt w (cfgs 0).N) 4).trans (final m c)

theorem tail_k (c : Dev nD) : Pipeline.afterTail₀ cfgs (dats m) 0 (V0 m) [hostOps1] c main_v7
    = REFK (m ((c : Thread nD τ).loc main_arg0)) (m ((c : Thread nD τ).loc main_arg1)) (m ((c : Thread nD τ).loc main_arg2)) (m ((c : Thread nD τ).loc main_arg3)) := by
  have e := exit m c
  unfold Pipeline.afterTail₀
  generalize Pipeline.withArrays (cfgs 0).spec c (V0 m c) (fun w => (dats m 0 c).arrAt w (cfgs 0).N) = W at *
  simp only [hostOps1, List.flatten_cons, List.flatten_nil, List.append_nil]
  after_results
  rw [e]
  unfold REFK Cert.ReferenceKvIdeal.Read.val_main_v21 Cert.ReferenceKvIdeal.Read.val_main_v18 Cert.ReferenceKvIdeal.Read.val_main_v17
  unfold REF
  generalize Cert.ReferenceKvIdeal.Read.val_main_v16 (F := Ideal) (m ((c : Thread nD τ).loc main_arg0)) (m ((c : Thread nD τ).loc main_arg1)) (m ((c : Thread nD τ).loc main_arg2)) (m ((c : Thread nD τ).loc main_arg3)) = R
  clear e
  funext i
  dsimp only
  pointwise

theorem tail_v (c : Dev nD) : Pipeline.afterTail₀ cfgs (dats m) 0 (V0 m) [hostOps1] c main_v8
    = REFV (m ((c : Thread nD τ).loc main_arg0)) (m ((c : Thread nD τ).loc main_arg1)) (m ((c : Thread nD τ).loc main_arg2)) (m ((c : Thread nD τ).loc main_arg3)) := by
  have e := exit m c
  unfold Pipeline.afterTail₀
  generalize Pipeline.withArrays (cfgs 0).spec c (V0 m c) (fun w => (dats m 0 c).arrAt w (cfgs 0).N) = W at *
  simp only [hostOps1, List.flatten_cons, List.flatten_nil, List.append_nil]
  after_results
  rw [e]
  unfold REFV Cert.ReferenceKvIdeal.Read.val_main_v22 Cert.ReferenceKvIdeal.Read.val_main_v20 Cert.ReferenceKvIdeal.Read.val_main_v19
  unfold REF
  generalize Cert.ReferenceKvIdeal.Read.val_main_v16 (F := Ideal) (m ((c : Thread nD τ).loc main_arg0)) (m ((c : Thread nD τ).loc main_arg1)) (m ((c : Thread nD τ).loc main_arg2)) (m ((c : Thread nD τ).loc main_arg3)) = R
  clear e
  funext i
  dsimp only
  pointwise

end Cert.KernelKvIdeal.Val
-- ==== Proof.Gated.lean ====
module

public import proofs.«01_k».proof.Proof.Gen.KernelGatedIdeal.Frame
public import proofs.«01_k».proof.Proof.Gen.ReferenceGatedIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)

namespace Cert.KernelGatedIdeal.Val
open Cert.KernelGatedIdeal Cert.KernelGatedIdeal.Gen

variable (m : (ℓ : Loc nD τ sig) → Buf (Elt Ideal) ℓ)

/-- The scan's output gated by silu, normalised, projected and added to the residual. -/
abbrev REF (x0 : Vec Ideal S16384x2048 .f32) (x1 : Vec Ideal S16384x6272 .f32) (x2 : Vec Ideal S2048 .f32) (x3 : Vec Ideal S2048x1024 .f32) (x4 : Vec Ideal S16384x1024 .f32) : Vec Ideal S16384x1024 .f32 :=
  Cert.ReferenceGatedIdeal.Read.val_main_v17 (F := Ideal) x0 x1 x2 x3 x4

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- The gate's columns of the projection, the rows of one block. -/
def gateBlk (c : Dev nD) (t : Fin cfg0.N) : Vec Ideal S256x2048 .f32 := fun y =>
  m ((c : Thread nD τ).loc main_arg1) (ix2 ⟨t.val * 256 + (y 0).val, by
    have h : (y 0).val < 256 := (y 0).isLt
    have ht : t.val < 64 := t.isLt
    show _ < 16384; omega⟩
    ⟨(y 1).val, by have h : (y 1).val < 2048 := (y 1).isLt; show _ < 6272; omega⟩)

/-- The staged gate block is the gate's columns of the projection. -/
theorem gate (c : Dev nD) (t : Fin cfg0.N) : X0_1 m c t = gateBlk m c t := by
  funext y
  unfold X0_1 Pipeline.Window.fill gateBlk
  rw [dif_pos (moved0_1 t y)]
  blk_ext [iblk, V, idx t]

theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp; rw [after0_5]
  unfold outsAt0
  frame_out
  rw [gate, REF, ← Cert.ReferenceGatedIdeal.Read.val_main_v17_eq]
  pointwise [k0_pay1, gateBlk, Ideal.logistic]
  blk_point [iblk, V, idx t]

end Cert.KernelGatedIdeal.Val
-- ==== Proof.O.lean ====
module

public import proofs.«01_k».proof.Proof.Gen.KernelOIdeal.Frame
public import proofs.«01_k».proof.Proof.Gen.ReferenceOIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)

namespace Cert.KernelOIdeal.Val
open Cert.KernelOIdeal Cert.KernelOIdeal.Gen

variable (m : (ℓ : Loc nD τ sig) → Buf (Elt Ideal) ℓ)

/-- The output projection of the attention with its bias, added to the residual. -/
abbrev REF (x0 : Vec Ideal S16384x1024 .f32) (x1 : Vec Ideal S1024x1024 .f32) (x2 : Vec Ideal S1024 .f32) (x3 : Vec Ideal S16384x1024 .f32) : Vec Ideal S16384x1024 .f32 :=
  Cert.ReferenceOIdeal.Read.val_main_v4 (F := Ideal) x0 x1 x2 x3

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]
  frame_out
  rw [REF, ← Cert.ReferenceOIdeal.Read.val_main_v4_eq]
  pointwise [k0_pay1]
  blk_point [iblk, V, idx t]

end Cert.KernelOIdeal.Val
-- ==== Proof.Final.lean ====
module

public import proofs.«01_k».proof.Proof.Gen.KernelFinalIdeal.Frame
public import proofs.«01_k».proof.Proof.Gen.ReferenceFinalIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)

namespace Cert.KernelFinalIdeal.Val
open Cert.KernelFinalIdeal Cert.KernelFinalIdeal.Gen

variable (m : (ℓ : Loc nD τ sig) → Buf (Elt Ideal) ℓ)

/-- The rows normalised by their root mean square, times the gain. -/
abbrev REF (x0 : Vec Ideal S16384x1024 .f32) (x1 : Vec Ideal S1024 .f32) : Vec Ideal S16384x1024 .f32 :=
  Cert.ReferenceFinalIdeal.Read.val_main_v12 (F := Ideal) x0 x1

theorem idx : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp; rw [after0_2]
  frame_out
  rw [REF, ← Cert.ReferenceFinalIdeal.Read.val_main_v12_eq]
  pointwise [k0_pay1]
  blk_point [iblk, V, idx t]

end Cert.KernelFinalIdeal.Val
-- ==== Proof.Conv.lean ====
/- The convolution: the kernel rotates its staged frames, the reference slices them. -/
module

public import proofs.«01_k».proof.Proof.Gen.KernelConvIdeal.Frame
public import proofs.«01_k».proof.Proof.Gen.ReferenceConvIdeal.Read
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Idealize.ShloMosaic.Pipeline (Dat)

namespace Cert.KernelConvIdeal.Val
open Cert.KernelConvIdeal Cert.KernelConvIdeal.Gen

variable (m : (ℓ : Loc nD τ sig) → Buf (Elt Ideal) ℓ)

/-- The causal convolution of width four with its silu. -/
abbrev REF (x0 : Vec Ideal S512x6272 .f32) (x1 : Vec Ideal S32x3x4096 .f32) (x2 : Vec Ideal S4x4096 .f32) (x3 : Vec Ideal S4096 .f32) : Vec Ideal S512x4096 .f32 :=
  Cert.ReferenceConvIdeal.Read.val_main_v34 (F := Ideal) x0 x1 x2 x3

theorem idx : ∀ t : Fin cfg0.N, win0_0.index t = ![t.val / 4, 2 + t.val % 4] ∧ win0_2.index t = ![t.val / 4, 0, t.val % 4] ∧ win0_3.index t = ![0, t.val % 4]
    ∧ win0_4.index t = ![0, t.val % 4] ∧ win0_5.index t = ![t.val / 4, t.val % 4] ∧ (grid0.coords t 1).val = 0 :=
  (by decide +kernel : ∀ t : Fin grid0.N, _)

theorem at2 {n k : ℕ} {α : Type} (f : (⟨2, ![n, k]⟩ : Shape).Idx → α) {a a' : Fin n} {b b' : Fin k} (h : a.val = a'.val) (h' : b.val = b'.val) :
    f (ix2 a b) = f (ix2 a' b') := by rw [Fin.ext h, Fin.ext h']
theorem at3 {n k l : ℕ} {α : Type} (f : (⟨3, ![n, k, l]⟩ : Shape).Idx → α) {a a' : Fin n} {b b' : Fin k} {e e' : Fin l} (h : a.val = a'.val) (h' : b.val = b'.val) (h'' : e.val = e'.val) :
    f (ix3 a b e) = f (ix3 a' b' e') := by rw [Fin.ext h, Fin.ext h', Fin.ext h'']

theorem lt128 (t : Fin cfg0.N) : t.val < 128 := t.isLt

theorem x0 (c : Dev nD) (t : Fin cfg0.N) (r : Fin 16) (k : Fin 1024) :
    (X0_0 m c t : Vec Ideal S16x1024 .f32) (ix2 r k) = (m ((c : Thread nD τ).loc main_arg0) : Vec Ideal S512x6272 .f32) (ix2 ⟨16 * (t.val / 4) + r.val, by have := lt128 t; omega⟩ ⟨2048 + 1024 * (t.val % 4) + k.val, by omega⟩) := by
  unfold X0_0 Pipeline.Window.fill
  rw [dif_pos (moved0_0 t _)]
  blk_point [iblk, V, idx t]

/-- The three rows before the batch's first arrive as the last of eight. -/
theorem prevs (c : Dev nD) (b : Fin 32) (r : Fin 3) (k : Fin 4096) :
    (V m c main_v0 : Vec Ideal S32x8x4096 .f32) (ix3 b ⟨5 + r.val, by omega⟩ k) = (m ((c : Thread nD τ).loc main_arg1) : Vec Ideal S32x3x4096 .f32) (ix3 b r k) := by
  have e : ∃ z : FVec Ideal S_ .f32, (V m c main_v0 : Vec Ideal S32x8x4096 .f32)
      = pad S32x8x4096 ![0, 5, 0] ![0, 0, 0] ![0, 0, 0] (m ((c : Thread nD τ).loc main_arg1) : Vec Ideal S32x3x4096 .f32) z pads_S32x3x4096_S32x8x4096_000_500_000 h_S_ := by
    refine ⟨sitofp .f32 (constantI S_ 32 0#32), ?_⟩
    unfold V
    simp only [hostOps0, hostOps0_1, hostOps0_2, List.flatten_cons, List.flatten_nil, List.append_nil, List.cons_append, List.nil_append]
    entry_read
    rfl
  obtain ⟨z, e⟩ := e
  rw [e]
  pointwise
  exact dif_pos fun a => by
    match a with
    | ⟨0, _⟩ => exact ⟨Nat.zero_le _, Nat.mod_one _, (Nat.div_one _).trans_lt b.isLt⟩
    | ⟨1, _⟩ =>
      have h : 5 + r.val - 5 = r.val := by omega
      exact ⟨Nat.le_add_right _ _, Nat.mod_one _, (Nat.div_one _).trans_lt (h.trans_lt r.isLt)⟩
    | ⟨2, _⟩ => exact ⟨Nat.zero_le _, Nat.mod_one _, (Nat.div_one _).trans_lt k.isLt⟩

theorem cast_at (x : Vec Ideal S4096 .f32) (k : Fin 4096) : shapeCast S1x4096 x shapeCasts_S4096_S1x4096 (ix2 0 k) = x (ix1 k) := by
  pointwise

theorem biases (c : Dev nD) (k : Fin 4096) :
    (V m c main_v1 : Vec Ideal S1x4096 .f32) (ix2 0 k) = (m ((c : Thread nD τ).loc main_arg3) : Vec Ideal S4096 .f32) (ix1 k) := by
  have e : (V m c main_v1 : Vec Ideal S1x4096 .f32) = shapeCast S1x4096 (m ((c : Thread nD τ).loc main_arg3) : Vec Ideal S4096 .f32) shapeCasts_S4096_S1x4096 := by
    unfold V
    simp only [hostOps0, hostOps0_1, hostOps0_2, List.flatten_cons, List.flatten_nil, List.append_nil, List.cons_append, List.nil_append]
    entry_read
    rfl
  rw [e]
  exact cast_at _ k

theorem x2 (c : Dev nD) (t : Fin cfg0.N) (r : Fin 3) (k : Fin 1024) :
    (iblk m c 2 t : Vec Ideal S1x8x1024 .f32) (ix3 0 ⟨5 + r.val, by omega⟩ k) = (m ((c : Thread nD τ).loc main_arg1) : Vec Ideal S32x3x4096 .f32) (ix3 ⟨t.val / 4, by have := lt128 t; omega⟩ r ⟨1024 * (t.val % 4) + k.val, by omega⟩) := by
  rw [← prevs m c]
  blk_point [iblk, idx t]
theorem x3 (c : Dev nD) (t : Fin cfg0.N) (r : Fin 4) (k : Fin 1024) :
    (iblk m c 3 t : Vec Ideal S4x1024 .f32) (ix2 r k) = (m ((c : Thread nD τ).loc main_arg2) : Vec Ideal S4x4096 .f32) (ix2 r ⟨1024 * (t.val % 4) + k.val, by omega⟩) := by
  blk_point [iblk, V, idx t]
theorem x4 (c : Dev nD) (t : Fin cfg0.N) (k : Fin 1024) :
    (iblk m c 4 t : Vec Ideal S1x1024 .f32) (ix2 0 k) = (m ((c : Thread nD τ).loc main_arg3) : Vec Ideal S4096 .f32) (ix1 ⟨1024 * (t.val % 4) + k.val, by omega⟩) := by
  rw [← biases m c]
  blk_point [iblk, idx t]

section
variable (a0 : Vec Ideal S512x6272 .f32) (a1 : Vec Ideal S32x3x4096 .f32) (a2 : Vec Ideal S4x4096 .f32) (a3 : Vec Ideal S4096 .f32)

/-- The `j`-th of the four frames the convolution reads at row `i`. -/
def tap (i : Fin 512) (k : Fin 4096) (j : ℕ) (hj : j < 4) : EReal :=
  if h : i.val % 16 + j < 3 then a1 (ix3 ⟨i.val / 16, by omega⟩ ⟨i.val % 16 + j, h⟩ k)
  else a0 (ix2 ⟨i.val + j - 3, by omega⟩ ⟨2048 + k.val, by omega⟩)

/-- The convolution before its silu. -/
def conv (i : Fin 512) (k : Fin 4096) : EReal :=
  a3 (ix1 k) + tap a0 a1 i k 0 (by norm_num) * a2 (ix2 0 k) + tap a0 a1 i k 1 (by norm_num) * a2 (ix2 1 k) + tap a0 a1 i k 2 (by norm_num) * a2 (ix2 2 k) + tap a0 a1 i k 3 (by norm_num) * a2 (ix2 3 k)

open Cert.ReferenceConvIdeal.Read in
theorem ref_at (i : Fin 512) (k : Fin 4096) :
    REF a0 a1 a2 a3 (ix2 i k) = conv a0 a1 a2 a3 i k * Ideal.logistic (conv a0 a1 a2 a3 i k) := by
  have t0 : tap a0 a1 i k 0 (by norm_num) = if h : i.val % 16 < 3 then a1 (ix3 ⟨i.val / 16, by omega⟩ ⟨i.val % 16, h⟩ k)
      else a0 (ix2 ⟨i.val / 16 * 16 + (i.val % 16 - 3), by omega⟩ ⟨2048 + k.val, by omega⟩) := by
    unfold tap
    by_cases h : i.val % 16 < 3
    · rw [dif_pos h, dif_pos (by simpa using h)]; rfl
    · rw [dif_neg h, dif_neg (by simpa using h)]; exact at2 a0 (by dsimp; omega) rfl
  have t1 : tap a0 a1 i k 1 (by norm_num) = if h : 1 + i.val % 16 < 3 then a1 (ix3 ⟨i.val / 16, by omega⟩ ⟨1 + i.val % 16, h⟩ k)
      else a0 (ix2 ⟨i.val / 16 * 16 + (1 + i.val % 16 - 3), by omega⟩ ⟨2048 + k.val, by omega⟩) := by
    unfold tap
    by_cases h : 1 + i.val % 16 < 3
    · rw [dif_pos h, dif_pos (show i.val % 16 + 1 < 3 by omega)]; exact at3 a1 rfl (by dsimp; omega) rfl
    · rw [dif_neg h, dif_neg (show ¬ i.val % 16 + 1 < 3 by omega)]; exact at2 a0 (by dsimp; omega) rfl
  have t2 : tap a0 a1 i k 2 (by norm_num) = if h : 2 + i.val % 16 < 3 then a1 (ix3 ⟨i.val / 16, by omega⟩ ⟨2 + i.val % 16, h⟩ k)
      else a0 (ix2 ⟨i.val / 16 * 16 + (2 + i.val % 16 - 3), by omega⟩ ⟨2048 + k.val, by omega⟩) := by
    unfold tap
    by_cases h : 2 + i.val % 16 < 3
    · rw [dif_pos h, dif_pos (show i.val % 16 + 2 < 3 by omega)]; exact at3 a1 rfl (by dsimp; omega) rfl
    · rw [dif_neg h, dif_neg (show ¬ i.val % 16 + 2 < 3 by omega)]; exact at2 a0 (by dsimp; omega) rfl
  have t3 : tap a0 a1 i k 3 (by norm_num) = a0 (ix2 i ⟨2048 + k.val, by omega⟩) := by
    unfold tap
    rw [dif_neg (show ¬ i.val % 16 + 3 < 3 by omega)]; exact at2 a0 (show i.val + 3 - 3 = i.val by omega) rfl
  unfold REF conv Ideal.logistic
  rw [t0, t1, t2, t3]
  pointwise [val_main_call0_cst, val_main_call0_cst_0, val_main_call0_v0, val_main_call0_v1, val_main_call0_v2, val_main_call0_v3, val_main_call0_v4, val_main_call0_v5, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v4, val_main_v5, val_main_v6, val_main_v7, val_main_v8, val_main_v9]

end

/-- The tap the kernel reads by rotating its 24 staged frames. -/
theorem ktap (c : Dev nD) (t : Fin cfg0.N) (r : Fin 16) (k : Fin 1024) (n j : ℕ) (hj : j < 4) (hn : n = 5 + r.val + j) :
    (if h : n < 8 then (iblk m c 2 t : Vec Ideal S1x8x1024 .f32) (ix3 0 ⟨n, h⟩ k) else (X0_0 m c t : Vec Ideal S16x1024 .f32) (ix2 ⟨n - 8, by omega⟩ k))
      = tap (m ((c : Thread nD τ).loc main_arg0)) (m ((c : Thread nD τ).loc main_arg1)) ⟨16 * (t.val / 4) + r.val, by have := lt128 t; omega⟩ ⟨1024 * (t.val % 4) + k.val, by omega⟩ j hj := by
  unfold tap
  by_cases h : n < 8
  · rw [dif_pos h, dif_pos (by dsimp only; omega)]
    refine (at3 (iblk m c 2 t : Vec Ideal S1x8x1024 .f32) rfl (show n = 5 + (n - 5) by omega) rfl).trans ((x2 m c t ⟨n - 5, by omega⟩ k).trans ?_)
    exact at3 (m ((c : Thread nD τ).loc main_arg1) : Vec Ideal S32x3x4096 .f32) (by dsimp only; omega) (by dsimp only; omega) rfl
  · rw [dif_neg h, dif_neg (by dsimp only; omega)]
    refine (x0 m c t _ k).trans ?_
    exact at2 (m ((c : Thread nD τ).loc main_arg0) : Vec Ideal S512x6272 .f32) (by dsimp only; omega) (by dsimp only; omega)

theorem ktap3 (c : Dev nD) (t : Fin cfg0.N) (r : Fin 16) (k : Fin 1024) :
    (X0_0 m c t : Vec Ideal S16x1024 .f32) (ix2 r k)
      = tap (m ((c : Thread nD τ).loc main_arg0)) (m ((c : Thread nD τ).loc main_arg1)) ⟨16 * (t.val / 4) + r.val, by have := lt128 t; omega⟩ ⟨1024 * (t.val % 4) + k.val, by omega⟩ 3 (by norm_num) := by
  rw [← ktap m c t r k (8 + r.val) 3 (by norm_num) (by omega), dif_neg (by omega)]
  exact at2 (X0_0 m c t : Vec Ideal S16x1024 .f32) (by dsimp only; omega) rfl

theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]
  unfold outsAt0
  frame_out
  have ht := lt128 t
  have y0 : (y 0).val < 16 := (y 0).isLt
  have y1 : (y 1).val < 1024 := (y 1).isLt
  have e : ∀ f : Vec Ideal S512x4096 .f32, f (((View.whole main_v2).slice (win0_5.rect t)).emb y)
      = f (ix2 ⟨16 * (t.val / 4) + (y 0).val, by omega⟩ ⟨1024 * (t.val % 4) + (y 1).val, by omega⟩) := by
    intro f
    blk_point [idx t]
  refine Eq.trans ?_ ((e _).trans (ref_at _ _ _ _ _ _)).symm
  pointwise [k0_pay1]
  have hy : y = (ix2 (y 0) (y 1) : S16x1024.Idx) := by funext a; fin_cases a <;> rfl
  have h3 : (X0_0 m c t : Vec Ideal S16x1024 .f32) y = _ := (congrArg _ hy).trans (ktap3 m c t (y 0) (y 1))
  have h0 := ktap m c t (y 0) (y 1) ((8 + (y 0).val + 24 - 3) % 24) 0 (by norm_num) (by omega)
  have h1 := ktap m c t (y 0) (y 1) ((8 + (y 0).val + 24 - 2) % 24) 1 (by norm_num) (by omega)
  have h2 := ktap m c t (y 0) (y 1) ((8 + (y 0).val + 24 - 1) % 24) 2 (by norm_num) (by omega)
  have w0 := x3 m c t 0 (y 1)
  have w1 := x3 m c t 1 (y 1)
  have w2 := x3 m c t 2 (y 1)
  have w3 := x3 m c t 3 (y 1)
  have b := x4 m c t (y 1)
  unfold conv
  rw [← h0, ← h1, ← h2, ← h3, ← w0, ← w1, ← w2, ← w3, ← b]

end Cert.KernelConvIdeal.Val
-- ==== Proof.SsdMath.lean ====
/- The scan's mathematics over extended reals: real values, the softplus, the running sums of the decays and the sums
   over padded rows. -/
module

public import Idealize.ShloMosaic.Lib.Pointwise

@[expose] public section

noncomputable section
open Idealize.ShloMosaic

namespace Cert.Ssd

/-- A value that is a real number. -/
def IsReal (x : EReal) : Prop := ∃ r : ℝ, x = (r : EReal)

theorem real_of {x : EReal} (h0 : x ≠ ⊥) (h1 : x ≠ ⊤) : IsReal x := ⟨x.toReal, (EReal.coe_toReal h1 h0).symm⟩

theorem real_zero : IsReal 0 := ⟨0, rfl⟩
theorem real_add {x y : EReal} (hx : IsReal x) (hy : IsReal y) : IsReal (x + y) := by
  obtain ⟨a, rfl⟩ := hx
  obtain ⟨b, rfl⟩ := hy
  exact ⟨a + b, (EReal.coe_add a b).symm⟩
theorem real_neg {x : EReal} (hx : IsReal x) : IsReal (-x) := by
  obtain ⟨a, rfl⟩ := hx
  exact ⟨-a, (EReal.coe_neg a).symm⟩
theorem real_mul {x y : EReal} (hx : IsReal x) (hy : IsReal y) : IsReal (x * y) := by
  obtain ⟨a, rfl⟩ := hx
  obtain ⟨b, rfl⟩ := hy
  exact ⟨a * b, (EReal.coe_mul a b).symm⟩
theorem real_sub {x y : EReal} (hx : IsReal x) (hy : IsReal y) : IsReal (x - y) := by
  rw [sub_eq_add_neg]
  exact real_add hx (real_neg hy)
theorem real_max {x y : EReal} (hx : IsReal x) (hy : IsReal y) : IsReal (max x y) := by
  rcases max_choice x y with h | h
  · rw [h]; exact hx
  · rw [h]; exact hy
theorem real_exp {x : EReal} (hx : IsReal x) : IsReal (Ideal.exp x) := by
  obtain ⟨a, rfl⟩ := hx
  exact ⟨_, rfl⟩
theorem real_sum {n : ℕ} {f : Fin n → EReal} (h : ∀ i, IsReal (f i)) : IsReal (∑ i, f i) :=
  Finset.sum_induction f IsReal (fun _ _ => real_add) real_zero fun i _ => h i
theorem sub_real {x : EReal} (hx : IsReal x) : x - x = 0 := by
  obtain ⟨a, rfl⟩ := hx
  exact EReal.sub_self (EReal.coe_ne_top a) (EReal.coe_ne_bot a)

/-- The softplus of a value. -/
def sp (z : EReal) : EReal := max z 0 + Ideal.log1p (Ideal.exp (-(max z (-z))))

theorem real_sp {z : EReal} (hz : IsReal z) : IsReal (sp z) := by
  refine real_add (real_max hz real_zero) ?_
  obtain ⟨a, ha⟩ := real_neg (real_max hz (real_neg hz))
  rw [ha]
  have hp : 0 < 1 + Real.exp a := add_pos one_pos (Real.exp_pos a)
  refine ⟨Real.log (1 + Real.exp a), ?_⟩
  have e : (1 : EReal) + ((Real.exp a : ℝ) : EReal) = ((1 + Real.exp a : ℝ) : EReal) := (EReal.coe_add 1 _).symm
  show Ideal.log ((1 : EReal) + ((Real.exp a : ℝ) : EReal)) = _
  rw [e]
  exact if_neg (not_le.mpr hp)

/-- The decays' running sum. -/
def cum (d : Fin 16 → EReal) (i : Fin 16) : EReal := ∑ j : Fin 16, if j ≤ i then d j else 0

theorem real_cum {d : Fin 16 → EReal} (h : ∀ j, IsReal (d j)) (i : Fin 16) : IsReal (cum d i) := by
  refine real_sum fun j => ?_
  split_ifs
  · exact h j
  · exact real_zero

/-- One output of the sequence: the row's own chunk, the incoming state and the direct path. -/
def yS (x dt ac : Fin 16 → EReal) (B C : Fin 16 → Fin 128 → EReal) (s : Fin 128 → EReal) (dsk : EReal) (i : Fin 16) : EReal :=
  ∑ j : Fin 16, (x j * dt j) * ((∑ n, B j n * C i n) * (if j ≤ i then Ideal.exp (ac i - ac j) else 0))
    + (∑ n, s n * C i n) * Ideal.exp (ac i) + x i * dsk

/-- One element of the outgoing state. -/
def sS (x dt ac : Fin 16 → EReal) (B : Fin 16 → EReal) (s : EReal) : EReal :=
  Ideal.exp (ac 15) * s + ∑ j : Fin 16, x j * dt j * Ideal.exp (ac 15 - ac j) * B j

/-- A sum over 128 rows of which only the first sixteen count. -/
theorem sum_rows {f : Fin 128 → EReal} (h : ∀ j : Fin 128, 16 ≤ j.val → f j = 0) :
    ∑ j, f j = ∑ j : Fin 16, f ⟨j.val, by omega⟩ := by
  have e := Fin.sum_univ_add (a := 16) (b := 112) f
  refine e.trans ?_
  have z : ∑ i : Fin 112, f (Fin.natAdd 16 i) = 0 := Finset.sum_eq_zero fun i _ => h _ (by simp)
  rw [z, add_zero]
  rfl

/-- A sum over 0/1 coefficients, one of them one. -/
theorem sum_pick {n : ℕ} (f : Fin n → EReal) (h : Fin n) : ∑ r, f r * (if r = h then (1 : EReal) else 0) = f h := by
  rw [Finset.sum_eq_single h]
  · rw [if_pos rfl, mul_one]
  · intro b _ hb
    rw [if_neg hb, mul_zero]
  · intro hh
    exact absurd (Finset.mem_univ h) hh

end Cert.Ssd
-- ==== Proof.SsdGroup.lean ====
/- The scan's groups of four heads, each the same function of the rows. -/
module

public import proofs.«01_k».proof.Proof.Gen.KernelSsdIdeal.Frame
public import proofs.«01_k».proof.Proof.SsdMath
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.KernelSsdIdeal.Val
open Cert.KernelSsdIdeal Cert.KernelSsdIdeal.Gen Cert.Ssd

theorem slices_cols {n o w : ℕ} (h : o + w ≤ n) : (⟨2, ![128, n]⟩ : Shape).Slices ![0, o] ⟨2, ![128, w]⟩ :=
  ⟨rfl, fun a => match a with
    | ⟨0, _⟩ => Nat.le_refl _
    | ⟨1, _⟩ => h⟩

theorem slices_row {n o w r : ℕ} (hr : r < 128) (h : o + w ≤ n) : (⟨2, ![128, n]⟩ : Shape).Slices ![r, o] ⟨2, ![1, w]⟩ :=
  ⟨rfl, fun a => match a with
    | ⟨0, _⟩ => hr
    | ⟨1, _⟩ => h⟩

/-- The `w` columns from `o`. -/
def cut {n : ℕ} (w o : ℕ) (x : FVec Ideal ⟨2, ![128, n]⟩ .f32) (h : o + w ≤ n) : FVec Ideal ⟨2, ![128, w]⟩ .f32 :=
  extractStridedSlice _ ![0, o] x (slices_cols h)

theorem cut_at {n : ℕ} (w o : ℕ) (x : FVec Ideal ⟨2, ![128, n]⟩ .f32) (h : o + w ≤ n) (i : Fin 128) (k : Fin w) :
    cut w o x h (ix2 i k) = x (ix2 i ⟨o + k.val, by omega⟩) := by
  unfold cut extractStridedSlice
  refine congrArg x ?_
  funext a; apply Fin.ext
  match a with
  | ⟨0, _⟩ => exact Nat.zero_add _
  | ⟨1, _⟩ => rfl

/-- Row `r`'s `w` columns from `o`. -/
def row {n : ℕ} (w r o : ℕ) (x : FVec Ideal ⟨2, ![128, n]⟩ .f32) (hr : r < 128) (h : o + w ≤ n) : FVec Ideal ⟨2, ![1, w]⟩ .f32 :=
  extractStridedSlice _ ![r, o] x (slices_row hr h)

theorem row_at {n : ℕ} (w r o : ℕ) (x : FVec Ideal ⟨2, ![128, n]⟩ .f32) (hr : r < 128) (h : o + w ≤ n) (i : Fin 1) (k : Fin w) :
    row w r o x hr h (ix2 i k) = x (ix2 ⟨r, hr⟩ ⟨o + k.val, by omega⟩) := by
  unfold row extractStridedSlice
  refine congrArg x ?_
  funext a; apply Fin.ext
  match a with
  | ⟨0, _⟩ => show r + i.val = r; omega
  | ⟨1, _⟩ => rfl

/-- One head's rows against each other. -/
def hd (cb a : FVec Ideal S128x128 .f32) (b : FVec Ideal S1x128 .f32) (xd : FVec Ideal S128x64 .bf16) : FVec Ideal S128x64 .f32 :=
  matmul dot_S128x128_S128x64_S128x64_1_0_0_1_n_n none
    (truncf .bf16 (mulf cb (select k0_pay21 (exp (subf a (broadcastTo S128x128 b broadcasts_S1x128_S128x128))) (broadcast S128x128 (Scalar.ofBits .f32 0x00000000#32)))) bitsLt_bf16_f32)
    xd (constant S128x64 .f32 0x00000000#32)

theorem tri_at : ∀ i j : Fin 128, (k0_pay21 (ix2 i j) : BitVec 1) = if j ≤ i then 1#1 else 0#1 := by decide +kernel

theorem hd_at (cb a : FVec Ideal S128x128 .f32) (b : FVec Ideal S1x128 .f32) (xd : FVec Ideal S128x64 .bf16) (i : Fin 128) (k : Fin 64) :
    hd cb a b xd (ix2 i k) = ∑ j : Fin 128, cb (ix2 i j) * (if j ≤ i then Ideal.exp (a (ix2 i j) - b (ix2 0 j)) else 0) * xd (ix2 j k) := by
  unfold hd
  pointwise
  refine Finset.sum_congr rfl fun j _ => ?_
  congr 2
  rw [tri_at]
  by_cases h : j ≤ i
  · rw [if_pos h, if_pos h]; rfl
  · rw [if_neg h, if_neg h, mul_zero, zero_mul]; rfl

/-- The group's four heads, the incoming state's part and the direct path. -/
def grpY (cb : FVec Ideal S128x128 .f32) (a0 a1 a2 a3 : FVec Ideal S128x128 .f32) (b0 b1 b2 b3 : FVec Ideal S1x128 .f32) (x : FVec Ideal S128x256 .f32) (xd : FVec Ideal S128x256 .bf16)
    (off : FVec Ideal S128x256 .f32) (d : Vec Ideal S1x256 .f32) : FVec Ideal S16x256 .f32 :=
  extractStridedSlice S16x256 ![0, 0] (addf (addf (concatenate S128x256 1 [⟨S128x64, hd cb a0 b0 (extractStridedSlice S128x64 ![0, 0] xd slices_S128x256_o0_0_S128x64)⟩,
      ⟨S128x64, hd cb a1 b1 (extractStridedSlice S128x64 ![0, 64] xd slices_S128x256_o0_64_S128x64)⟩,
      ⟨S128x64, hd cb a2 b2 (extractStridedSlice S128x64 ![0, 128] xd slices_S128x256_o0_128_S128x64)⟩,
      ⟨S128x64, hd cb a3 b3 (extractStridedSlice S128x64 ![0, 192] xd slices_S128x256_o0_192_S128x64)⟩] concatenates_S128x64_S128x64_S128x64_S128x64_S128x256_d1) off)
    (mulf x (broadcastTo S128x256 (shapeCast S1x256 d shapeCasts_S1x256_S1x256) broadcasts_S1x256_S128x256))) slices_S128x256_o0_0_S16x256

/-- The group's outgoing state. -/
def grpS (g : ℕ) (hg : g < 8) (v73 v74 v88 : FVec Ideal S128x2048 .f32) (v91 : FVec Ideal S128x1024 .f32) (v : Vec Ideal S1x128x256 .f32) : FVec Ideal S1x128x256 .f32 :=
  shapeCast S1x128x256 (addf (mulf (broadcastTo S128x256 (row 256 127 (256 * g) v74 (by omega) (by omega)) broadcasts_S1x256_S128x256) (shapeCast S128x256 v shapeCasts_S1x128x256_S128x256))
    (matmul dot_S128x128_S128x256_S128x256_1_0_0_1_n_n none (truncf .bf16 (transpose S128x128 [1, 0] (cut 128 (128 * g) v91 (by omega)) transposes_S128x128_p1_0_S128x128) bitsLt_bf16_f32)
      (truncf .bf16 (mulf (cut 256 (256 * g) v88 (by omega)) (cut 256 (256 * g) v73 (by omega))) bitsLt_bf16_f32) (constant S128x256 .f32 0x00000000#32)))
    shapeCasts_S128x256_S1x128x256

theorem grpS_at (g : ℕ) (hg : g < 8) (v73 v74 v88 : FVec Ideal S128x2048 .f32) (v91 : FVec Ideal S128x1024 .f32) (v : Vec Ideal S1x128x256 .f32) (n : Fin 128) (k : Fin 256) :
    grpS g hg v73 v74 v88 v91 v (ix3 0 n k) = v74 (ix2 ⟨127, by omega⟩ ⟨256 * g + k.val, by omega⟩) * v (ix3 0 n k)
      + ∑ j : Fin 128, v91 (ix2 j ⟨128 * g + n.val, by omega⟩) * (v88 (ix2 j ⟨256 * g + k.val, by omega⟩) * v73 (ix2 j ⟨256 * g + k.val, by omega⟩)) := by
  rw [← row_at 256 127 (256 * g) v74 (by omega) (by omega) 0 k]
  simp only [← cut_at 256 (256 * g) v88 (by omega), ← cut_at 256 (256 * g) v73 (by omega), ← cut_at 128 (128 * g) v91 (by omega)]
  unfold grpS
  generalize row 256 127 (256 * g) v74 _ _ = A
  generalize cut 256 (256 * g) v88 _ = B
  generalize cut 256 (256 * g) v73 _ = C
  generalize cut 128 (128 * g) v91 _ = D
  pointwise

/-- The group's outputs. -/
def grpO (g : ℕ) (hg : g < 8) (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) : FVec Ideal S16x256 .f32 :=
  grpY (matmul dot_S128x128_S128x128_S128x128_1_1_0_0_n_n none (truncf .bf16 (cut 128 (128 * g) v94 (by omega)) bitsLt_bf16_f32) (truncf .bf16 (cut 128 (128 * g) v91 (by omega)) bitsLt_bf16_f32) (constant S128x128 .f32 0x00000000#32))
    (cut 128 (128 * (4 * g + 0)) v85 (by omega)) (cut 128 (128 * (4 * g + 1)) v85 (by omega)) (cut 128 (128 * (4 * g + 2)) v85 (by omega)) (cut 128 (128 * (4 * g + 3)) v85 (by omega))
    (row 128 (4 * g + 0) 0 v46 (by omega) (by omega)) (row 128 (4 * g + 1) 0 v46 (by omega) (by omega)) (row 128 (4 * g + 2) 0 v46 (by omega) (by omega)) (row 128 (4 * g + 3) 0 v46 (by omega) (by omega))
    (cut 256 (256 * g) v88 (by omega)) (truncf .bf16 (mulf (cut 256 (256 * g) v88 (by omega)) (cut 256 (256 * g) v72 (by omega))) bitsLt_bf16_f32)
    (mulf (matmul dot_S128x128_S128x256_S128x256_1_0_0_1_n_n none (truncf .bf16 (cut 128 (128 * g) v94 (by omega)) bitsLt_bf16_f32)
      (truncf .bf16 (shapeCast S128x256 v shapeCasts_S1x128x256_S128x256) bitsLt_bf16_f32) (constant S128x256 .f32 0x00000000#32)) (cut 256 (256 * g) v74 (by omega))) d

theorem cb_at (A B : FVec Ideal S128x128 .f32) (i j : Fin 128) :
    matmul dot_S128x128_S128x128_S128x128_1_1_0_0_n_n none (truncf .bf16 A bitsLt_bf16_f32) (truncf .bf16 B bitsLt_bf16_f32) (constant S128x128 .f32 0x00000000#32) (ix2 i j)
      = ∑ n : Fin 128, A (ix2 i n) * B (ix2 j n) := by
  pointwise

theorem off_at (A : FVec Ideal S128x128 .f32) (v : Vec Ideal S1x128x256 .f32) (B : FVec Ideal S128x256 .f32) (i : Fin 128) (k : Fin 256) :
    mulf (matmul dot_S128x128_S128x256_S128x256_1_0_0_1_n_n none (truncf .bf16 A bitsLt_bf16_f32)
      (truncf .bf16 (shapeCast S128x256 v shapeCasts_S1x128x256_S128x256) bitsLt_bf16_f32) (constant S128x256 .f32 0x00000000#32)) B (ix2 i k)
      = (∑ n : Fin 128, A (ix2 i n) * v (ix3 0 n k)) * B (ix2 i k) := by
  pointwise

theorem cat4 (f0 f1 f2 f3 : FVec Ideal S128x64 .f32) (i : Fin 128) (q : Fin 4) (k : Fin 256) (hk : k.val / 64 = q.val) :
    concatenate S128x256 1 [⟨S128x64, f0⟩, ⟨S128x64, f1⟩, ⟨S128x64, f2⟩, ⟨S128x64, f3⟩] concatenates_S128x64_S128x64_S128x64_S128x64_S128x256_d1 (ix2 i k)
      = (![f0, f1, f2, f3] q) (ix2 i ⟨k.val % 64, Nat.mod_lt _ (by decide)⟩) :=
  concatenate_ofFn_apply (t := S128x256) (s₁ := S128x64) 1 ![f0, f1, f2, f3] concatenates_S128x64_S128x64_S128x64_S128x64_S128x256_d1 rfl 64 rfl (ix2 i k) q hk
    (ix2 i ⟨k.val % 64, Nat.mod_lt _ (by decide)⟩) rfl (fun b hb => match b, hb with
      | ⟨0, _⟩, _ => rfl
      | ⟨1, _⟩, hb => absurd rfl hb)

theorem xs_at (xd : FVec Ideal S128x256 .bf16) (o : ℕ) (h : S128x256.Slices ![0, o] S128x64) (ho : o + 64 ≤ 256) (j : Fin 128) (k' : Fin 64) (k : Fin 256) (e : o + k'.val = k.val) :
    extractStridedSlice S128x64 ![0, o] xd h (ix2 j k') = xd (ix2 j k) := by
  unfold extractStridedSlice
  refine congrArg xd ?_
  funext a; apply Fin.ext
  match a with
  | ⟨0, _⟩ => exact Nat.zero_add _
  | ⟨1, _⟩ => exact e

theorem grpY_at (cb : FVec Ideal S128x128 .f32) (a0 a1 a2 a3 : FVec Ideal S128x128 .f32) (b0 b1 b2 b3 : FVec Ideal S1x128 .f32) (x : FVec Ideal S128x256 .f32) (xd : FVec Ideal S128x256 .bf16)
    (off : FVec Ideal S128x256 .f32) (d : Vec Ideal S1x256 .f32) (i : Fin 16) (q : Fin 4) (k : Fin 256) (hk : k.val / 64 = q.val) :
    grpY cb a0 a1 a2 a3 b0 b1 b2 b3 x xd off d (ix2 i k)
      = ∑ j : Fin 128, cb (ix2 ⟨i.val, by omega⟩ j) * (if j.val ≤ i.val then Ideal.exp ((![a0, a1, a2, a3] q) (ix2 ⟨i.val, by omega⟩ j) - (![b0, b1, b2, b3] q) (ix2 0 j)) else 0) * xd (ix2 j k)
        + off (ix2 ⟨i.val, by omega⟩ k) + x (ix2 ⟨i.val, by omega⟩ k) * d (ix2 0 k) := by
  have e : ∀ (A : FVec Ideal S128x256 .f32) (h : S128x256.Slices ![0, 0] S16x256), extractStridedSlice S16x256 ![0, 0] A h (ix2 i k) = A (ix2 ⟨i.val, by omega⟩ k) := by
    intro A h
    pointwise
  unfold grpY
  rw [e]
  have ed : broadcastTo S128x256 (shapeCast S1x256 d shapeCasts_S1x256_S1x256) broadcasts_S1x256_S128x256 (ix2 (⟨i.val, by omega⟩ : Fin 128) k) = d (ix2 0 k) := by pointwise
  rw [← ed]
  refine congrArg (fun z : EReal => z + off (ix2 ⟨i.val, by omega⟩ k) + x (ix2 ⟨i.val, by omega⟩ k) * broadcastTo S128x256 (shapeCast S1x256 d shapeCasts_S1x256_S1x256) broadcasts_S1x256_S128x256 (ix2 ⟨i.val, by omega⟩ k)) ?_
  refine (cat4 _ _ _ _ ⟨i.val, by omega⟩ q k hk).trans ?_
  match q, hk with
  | ⟨0, _⟩, hk => exact (hd_at _ _ _ _ _ _).trans (Finset.sum_congr rfl fun j _ => by rw [xs_at xd 0 _ (by omega) j _ k (by show 0 + k.val % 64 = _; simp at hk; omega)]; rfl)
  | ⟨1, _⟩, hk => exact (hd_at _ _ _ _ _ _).trans (Finset.sum_congr rfl fun j _ => by rw [xs_at xd 64 _ (by omega) j _ k (by show 64 + k.val % 64 = _; simp at hk; omega)]; rfl)
  | ⟨2, _⟩, hk => exact (hd_at _ _ _ _ _ _).trans (Finset.sum_congr rfl fun j _ => by rw [xs_at xd 128 _ (by omega) j _ k (by show 128 + k.val % 64 = _; simp at hk; omega)]; rfl)
  | ⟨3, _⟩, hk => exact (hd_at _ _ _ _ _ _).trans (Finset.sum_congr rfl fun j _ => by rw [xs_at xd 192 _ (by omega) j _ k (by show 192 + k.val % 64 = _; simp at hk; omega)]; rfl)

theorem grpO_at (g : ℕ) (hg : g < 8) (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) (i : Fin 16) (k : Fin 256) :
    grpO g hg v46 v72 v74 v85 v88 v91 v94 v d (ix2 i k)
      = ∑ j : Fin 128, (∑ n : Fin 128, v94 (ix2 ⟨i.val, by omega⟩ ⟨128 * g + n.val, by omega⟩) * v91 (ix2 j ⟨128 * g + n.val, by omega⟩))
            * (if j.val ≤ i.val then Ideal.exp (v85 (ix2 ⟨i.val, by omega⟩ ⟨128 * (4 * g + k.val / 64) + j.val, by omega⟩) - v46 (ix2 ⟨4 * g + k.val / 64, by omega⟩ j)) else 0)
            * (v88 (ix2 j ⟨256 * g + k.val, by omega⟩) * v72 (ix2 j ⟨256 * g + k.val, by omega⟩))
        + (∑ n : Fin 128, v94 (ix2 ⟨i.val, by omega⟩ ⟨128 * g + n.val, by omega⟩) * v (ix3 0 n k)) * v74 (ix2 ⟨i.val, by omega⟩ ⟨256 * g + k.val, by omega⟩)
        + v88 (ix2 ⟨i.val, by omega⟩ ⟨256 * g + k.val, by omega⟩) * d (ix2 0 k) := by
  have hq : k.val / 64 < 4 := by omega
  unfold grpO
  refine (grpY_at _ _ _ _ _ _ _ _ _ _ _ _ _ i ⟨k.val / 64, hq⟩ k rfl).trans ?_
  rw [off_at]
  simp only [cb_at, cut_at]
  refine congrArg (fun z : EReal => z + _ + _) (Finset.sum_congr rfl fun j _ => ?_)
  have exd : (truncf .bf16 (mulf (cut 256 (256 * g) v88 (by omega)) (cut 256 (256 * g) v72 (by omega))) bitsLt_bf16_f32 : FVec Ideal S128x256 .bf16) (ix2 j k)
      = v88 (ix2 j ⟨256 * g + k.val, by omega⟩) * v72 (ix2 j ⟨256 * g + k.val, by omega⟩) := by
    rw [← cut_at 256 (256 * g) v88 (by omega), ← cut_at 256 (256 * g) v72 (by omega)]; rfl
  rw [exd]
  have ea : ∀ q : Fin 4, (![cut 128 (128 * (4 * g + 0)) v85 (by omega), cut 128 (128 * (4 * g + 1)) v85 (by omega), cut 128 (128 * (4 * g + 2)) v85 (by omega), cut 128 (128 * (4 * g + 3)) v85 (by omega)] q)
      (ix2 (⟨i.val, by omega⟩ : Fin 128) j) = v85 (ix2 ⟨i.val, by omega⟩ ⟨128 * (4 * g + q.val) + j.val, by omega⟩) := fun q =>
    match q with
    | ⟨0, _⟩ => cut_at _ _ _ (by omega) _ _
    | ⟨1, _⟩ => cut_at _ _ _ (by omega) _ _
    | ⟨2, _⟩ => cut_at _ _ _ (by omega) _ _
    | ⟨3, _⟩ => cut_at _ _ _ (by omega) _ _
  have eb : ∀ q : Fin 4, (![row 128 (4 * g + 0) 0 v46 (by omega) (by omega), row 128 (4 * g + 1) 0 v46 (by omega) (by omega), row 128 (4 * g + 2) 0 v46 (by omega) (by omega), row 128 (4 * g + 3) 0 v46 (by omega) (by omega)] q)
      (ix2 0 j) = v46 (ix2 ⟨4 * g + q.val, by omega⟩ j) := fun q =>
    match q with
    | ⟨0, _⟩ => (row_at _ _ _ _ (by omega) (by omega) _ _).trans (congrArg v46 (congrArg (ix2 _) (Fin.ext (Nat.zero_add _))))
    | ⟨1, _⟩ => (row_at _ _ _ _ (by omega) (by omega) _ _).trans (congrArg v46 (congrArg (ix2 _) (Fin.ext (Nat.zero_add _))))
    | ⟨2, _⟩ => (row_at _ _ _ _ (by omega) (by omega) _ _).trans (congrArg v46 (congrArg (ix2 _) (Fin.ext (Nat.zero_add _))))
    | ⟨3, _⟩ => (row_at _ _ _ _ (by omega) (by omega) _ _).trans (congrArg v46 (congrArg (ix2 _) (Fin.ext (Nat.zero_add _))))
  exact congrArg (fun z : EReal => _ * (if j.val ≤ i.val then z else 0) * _) (congrArg Ideal.exp (congrArg₂ (fun x y : EReal => x - y) (ea ⟨_, hq⟩) (eb ⟨_, hq⟩)))

theorem y0_eq (v46 : FVec Ideal S128x128 .f32) (v72 v74 : FVec Ideal S128x2048 .f32) (v85 : FVec Ideal S128x4096 .f32) (v88 : FVec Ideal S128x2048 .f32)
    (x1 x2 : Vec Ideal S16x1024 .f32) (v : Vec Ideal S1x128x256 .f32) (d : Vec Ideal S1x256 .f32) :
    k0_pay49 k0_pay21 v46 v85 (k0_pay41 x1 x2) (k0_pay42 v88) (k0_pay43 v72 v88) (k0_pay45 v74 x2 v) (k0_pay47 k0_pay21 v46 v85 x1 x2) (k0_pay48 v72 v88) d
      = grpO 0 (by omega) v46 v72 v74 v85 v88 (k0_pay37 x1) (k0_pay38 x2) v d := rfl

theorem s0_eq (v73 v74 v88 : FVec Ideal S128x2048 .f32) (x1 : Vec Ideal S16x1024 .f32) (v : Vec Ideal S1x128x256 .f32) :
    k0_pay46 v73 v74 v88 x1 v
      = grpS 0 (by omega) v73 v74 v88 (k0_pay37 x1) v := rfl

theorem y1_eq (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) :
    k0_pay62 k0_pay21 v46 v85 (k0_pay53 (k0_pay51 v94) (k0_pay52 v91) (constant (F := Ideal) S128x128 .f32 (BitVec.ofNat 32 0))) (k0_pay54 v88) (k0_pay55 v72 v88) (k0_pay57 v74 (k0_pay51 v94) v) (k0_pay59 k0_pay21 v46 v72 v85 v88 (k0_pay51 v94) (k0_pay52 v91) (constant (F := Ideal) S128x128 .f32 (BitVec.ofNat 32 0))) (k0_pay60 k0_pay21 v46 v72 v85 v88 (k0_pay51 v94) (k0_pay52 v91) (constant (F := Ideal) S128x128 .f32 (BitVec.ofNat 32 0))) (k0_pay61 v85) d
      = grpO 1 (by omega) v46 v72 v74 v85 v88 v91 v94 v d := rfl

theorem s1_eq (v73 v74 v88 : FVec Ideal S128x2048 .f32) (v91 : FVec Ideal S128x1024 .f32) (v : Vec Ideal S1x128x256 .f32) :
    k0_pay58 v73 v74 v88 (k0_pay50 v91) v
      = grpS 1 (by omega) v73 v74 v88 v91 v := rfl

theorem y2_eq (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) :
    k0_pay77 k0_pay21 (k0_pay65 v91 v94) (k0_pay66 v88) (k0_pay67 v72 v88) (k0_pay71 v74 (k0_pay70 v94 v)) (k0_pay73 k0_pay21 v46 v85 (k0_pay65 v91 v94) (k0_pay67 v72 v88)) (k0_pay74 k0_pay21 v46 v85 (k0_pay65 v91 v94) (k0_pay67 v72 v88)) (k0_pay75 k0_pay21 v46 v85 (k0_pay65 v91 v94) (k0_pay67 v72 v88)) (k0_pay76 v46 v85) d
      = grpO 2 (by omega) v46 v72 v74 v85 v88 v91 v94 v d := rfl

theorem s2_eq (v73 v74 v88 : FVec Ideal S128x2048 .f32) (v91 : FVec Ideal S128x1024 .f32) (v : Vec Ideal S1x128x256 .f32) :
    k0_pay72 v74 (k0_pay63 v91) (k0_pay68 v73 v88) (k0_pay69 v)
      = grpS 2 (by omega) v73 v74 v88 v91 v := rfl

theorem y3_eq (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) :
    k0_pay88 (k0_pay81 v88) (k0_pay86 k0_pay21 v46 v85 (k0_pay80 v91 v94) (k0_pay82 v72 v88) (k0_pay84 v74 v94 v)) (k0_pay87 d)
      = grpO 3 (by omega) v46 v72 v74 v85 v88 v91 v94 v d := rfl

theorem s3_eq (v73 v74 v88 : FVec Ideal S128x2048 .f32) (v91 : FVec Ideal S128x1024 .f32) (v : Vec Ideal S1x128x256 .f32) :
    (k0_pay85 v73 v74 v88 v91 v)
      = grpS 3 (by omega) v73 v74 v88 v91 v := rfl

theorem y4_eq (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) :
    k0_pay100 k0_pay21 v46 v85 (k0_pay91 v91 v94) (k0_pay92 v88) (k0_pay93 v72 v88) (k0_pay95 v74 v94 v) (k0_pay97 k0_pay21 v46 v72 v85 v88 v91 v94) (k0_pay98 v85) (k0_pay99 v46) d
      = grpO 4 (by omega) v46 v72 v74 v85 v88 v91 v94 v d := rfl

theorem s4_eq (v73 v74 v88 : FVec Ideal S128x2048 .f32) (v91 : FVec Ideal S128x1024 .f32) (v : Vec Ideal S1x128x256 .f32) :
    k0_pay96 v73 v74 v88 v91 v
      = grpS 4 (by omega) v73 v74 v88 v91 v := rfl

theorem y5_eq (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) :
    k0_pay113 k0_pay21 v46 v85 (k0_pay103 v91 v94) (k0_pay104 v88) (k0_pay106 (k0_pay105 v72 v88)) (k0_pay108 v74 (k0_pay102 v94) v) (k0_pay110 k0_pay21 v46 v85 (k0_pay103 v91 v94) (k0_pay105 v72 v88)) (k0_pay111 k0_pay21 v46 v85 (k0_pay103 v91 v94) (k0_pay105 v72 v88)) (k0_pay112 v46 v85) d
      = grpO 5 (by omega) v46 v72 v74 v85 v88 v91 v94 v d := rfl

theorem s5_eq (v73 v74 v88 : FVec Ideal S128x2048 .f32) (v91 : FVec Ideal S128x1024 .f32) (v : Vec Ideal S1x128x256 .f32) :
    k0_pay109 v73 v74 (k0_pay101 v91) (k0_pay104 v88) v
      = grpS 5 (by omega) v73 v74 v88 v91 v := rfl

theorem y6_eq (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) :
    k0_pay128 (k0_pay116 v91 v94) (k0_pay117 v88) (k0_pay118 v72 v88) (k0_pay121 v74 v94 v) (k0_pay124 k0_pay21 v46 v85 (k0_pay116 v91 v94) (k0_pay118 v72 v88)) (k0_pay125 k0_pay21 v46 v85 (k0_pay116 v91 v94) (k0_pay118 v72 v88)) (k0_pay126 k0_pay21 v46 v85 (k0_pay116 v91 v94) (k0_pay118 v72 v88)) (k0_pay127 k0_pay21 v46 v85) d
      = grpO 6 (by omega) v46 v72 v74 v85 v88 v91 v94 v d := rfl

theorem s6_eq (v73 v74 v88 : FVec Ideal S128x2048 .f32) (v91 : FVec Ideal S128x1024 .f32) (v : Vec Ideal S1x128x256 .f32) :
    k0_pay123 v74 (k0_pay119 v73 v88) (k0_pay120 v) (k0_pay122 v91)
      = grpS 6 (by omega) v73 v74 v88 v91 v := rfl

theorem y7_eq (v46 : FVec Ideal S128x128 .f32) (v72 v74 : FVec Ideal S128x2048 .f32) (v85 : FVec Ideal S128x4096 .f32) (v88 : FVec Ideal S128x2048 .f32)
    (v91 v94 : FVec Ideal S128x1024 .f32) (v : Vec Ideal S1x128x256 .f32) (d : Vec Ideal S1x256 .f32) :
    k0_pay139 k0_pay21 v46 v85 (k0_pay131 v91 v94) (k0_pay132 v88) (k0_pay133 v72 v88) (k0_pay135 v74 v94 v) (k0_pay137 v85) (k0_pay138 v46) d
      = grpO 7 (by omega) v46 v72 v74 v85 v88 v91 v94 v d := rfl

theorem s7_eq (v73 v74 v88 : FVec Ideal S128x2048 .f32) (v91 : FVec Ideal S128x1024 .f32) (v : Vec Ideal S1x128x256 .f32) :
    k0_pay136 v73 v74 v88 v91 v
      = grpS 7 (by omega) v73 v74 v88 v91 v := rfl

end Cert.KernelSsdIdeal.Val
-- ==== Proof.SsdBody.lean ====
/- The scan's body at a point: the step sizes, their running sums, and their spread over the columns. -/
module

public import proofs.«01_k».proof.Proof.SsdGroup

@[expose] public section

set_option maxRecDepth 16384
noncomputable section
open Idealize.ShloMosaic Idealize.ShloMosaic.TcCoe Idealize.SL.Sem

namespace Cert.KernelSsdIdeal.Val
open Cert.KernelSsdIdeal Cert.KernelSsdIdeal.Gen Cert.Ssd

/-! ### Selections by a 0/1 matrix -/

theorem pick2 (f : Fin 256 → EReal) (h : Fin 128) :
    ∑ r : Fin 256, f r * (if r.val % 128 = h.val then (1 : EReal) else 0) = f ⟨h.val, by omega⟩ + f ⟨128 + h.val, by omega⟩ := by
  refine (Fin.sum_univ_add (a := 128) (b := 128) fun r : Fin (128 + 128) => f r * (if r.val % 128 = h.val then (1 : EReal) else 0)).trans ?_
  have e : ∀ r : Fin 128, (r.val = h.val) = (r = h) := fun r => propext Fin.ext_iff.symm
  refine congrArg₂ (fun x y : EReal => x + y) ?_ ?_
  · refine Eq.trans ?_ (sum_pick (fun r : Fin 128 => f (Fin.castAdd 128 r)) h)
    refine Finset.sum_congr rfl fun r _ => ?_
    have : (Fin.castAdd 128 r).val % 128 = r.val := Nat.mod_eq_of_lt r.isLt
    simp only [this, e]
  · refine Eq.trans ?_ (sum_pick (fun r : Fin 128 => f (Fin.natAdd 128 r)) h)
    refine Finset.sum_congr rfl fun r _ => ?_
    have : (Fin.natAdd 128 r).val % 128 = r.val := by show (128 + r.val) % 128 = r.val; omega
    simp only [this, e]

theorem pick3 (f : Fin 384 → EReal) (h : Fin 128) :
    ∑ r : Fin 384, f r * (if r.val % 128 = h.val then (1 : EReal) else 0)
      = f ⟨h.val, by omega⟩ + f ⟨128 + h.val, by omega⟩ + f ⟨256 + h.val, by omega⟩ := by
  refine (Fin.sum_univ_add (a := 256) (b := 128) fun r : Fin (256 + 128) => f r * (if r.val % 128 = h.val then (1 : EReal) else 0)).trans ?_
  have e : ∀ r : Fin 128, (r.val = h.val) = (r = h) := fun r => propext Fin.ext_iff.symm
  refine congrArg₂ (fun x y : EReal => x + y) ?_ ?_
  · exact pick2 (fun r : Fin 256 => f (Fin.castAdd 128 r)) h
  · refine Eq.trans ?_ (sum_pick (fun r : Fin 128 => f (Fin.natAdd 256 r)) h)
    refine Finset.sum_congr rfl fun r _ => ?_
    have : (Fin.natAdd 256 r).val % 128 = r.val := by show (256 + r.val) % 128 = r.val; omega
    simp only [this, e]

/-! ### Stacks -/

theorem beside2 (f0 f1 : FVec Ideal S128x128 .bf16) (i : Fin 128) (q : Fin 2) (k : Fin 256) (l : Fin 128) (hk : k.val = 128 * q.val + l.val) :
    concatenate S128x256 1 [⟨S128x128, f0⟩, ⟨S128x128, f1⟩] concatenates_S128x128_S128x128_S128x256_d1 (ix2 i k) = (![f0, f1] q) (ix2 i l) :=
  concatenate_ofFn_apply (t := S128x256) (s₁ := S128x128) 1 ![f0, f1] concatenates_S128x128_S128x128_S128x256_d1 rfl 128 rfl (ix2 i k) q
    (show k.val / 128 = q.val by omega) (ix2 i l) (show l.val = k.val % 128 by omega) (fun b hb => match b, hb with
      | ⟨0, _⟩, _ => rfl
      | ⟨1, _⟩, hb => absurd rfl hb)

theorem beside3 (f0 f1 f2 : FVec Ideal S128x128 .bf16) (i : Fin 128) (q : Fin 3) (k : Fin 384) (l : Fin 128) (hk : k.val = 128 * q.val + l.val) :
    concatenate S128x384 1 [⟨S128x128, f0⟩, ⟨S128x128, f1⟩, ⟨S128x128, f2⟩] concatenates_S128x128_S128x128_S128x128_S128x384_d1 (ix2 i k) = (![f0, f1, f2] q) (ix2 i l) :=
  concatenate_ofFn_apply (t := S128x384) (s₁ := S128x128) 1 ![f0, f1, f2] concatenates_S128x128_S128x128_S128x128_S128x384_d1 rfl 128 rfl (ix2 i k) q
    (show k.val / 128 = q.val by omega) (ix2 i l) (show l.val = k.val % 128 by omega) (fun b hb => match b, hb with
      | ⟨0, _⟩, _ => rfl
      | ⟨1, _⟩, hb => absurd rfl hb)

theorem above3 (f0 f1 f2 : FVec Ideal S128x256 .bf16) (i : Fin 384) (q : Fin 3) (k : Fin 256) (l : Fin 128) (hk : i.val = 128 * q.val + l.val) :
    concatenate S384x256 0 [⟨S128x256, f0⟩, ⟨S128x256, f1⟩, ⟨S128x256, f2⟩] concatenates_S128x256_S128x256_S128x256_S384x256_d0 (ix2 i k) = (![f0, f1, f2] q) (ix2 l k) :=
  concatenate_ofFn_apply (t := S384x256) (s₁ := S128x256) 0 ![f0, f1, f2] concatenates_S128x256_S128x256_S128x256_S384x256_d0 rfl 128 rfl (ix2 i k) q
    (show i.val / 128 = q.val by omega) (ix2 l k) (show l.val = i.val % 128 by omega) (fun b hb => match b, hb with
      | ⟨0, _⟩, hb => absurd rfl hb
      | ⟨1, _⟩, _ => rfl)

/-- A matrix beside what its rounding leaves. -/
def split (x : FVec Ideal S128x128 .f32) : FVec Ideal S128x256 .bf16 :=
  concatenate S128x256 1 [⟨S128x128, truncf .bf16 x bitsLt_bf16_f32⟩, ⟨S128x128, truncf .bf16 (subf x (extf .f32 (truncf .bf16 x bitsLt_bf16_f32) bitsLt_bf16_f32)) bitsLt_bf16_f32⟩] concatenates_S128x128_S128x128_S128x256_d1

theorem split_lo (x : FVec Ideal S128x128 .f32) (i h : Fin 128) : split x (ix2 i ⟨h.val, by omega⟩) = x (ix2 i h) :=
  (beside2 _ _ i 0 _ h (by show h.val = 128 * 0 + h.val; omega)).trans rfl

theorem split_hi (x : FVec Ideal S128x128 .f32) (i h : Fin 128) : split x (ix2 i ⟨128 + h.val, by omega⟩) = x (ix2 i h) - x (ix2 i h) :=
  (beside2 _ _ i 1 _ h (by show 128 + h.val = 128 * 1 + h.val; omega)).trans rfl

theorem mm71 (A : FVec Ideal S384x256 .bf16) (x7 : Vec Ideal S256x2048 .bf16) (i : Fin 384) (k : Fin 2048) :
    matmul dot_S384x256_S256x2048_S384x2048_1_0_0_1_n_n none A (shapeCast S256x2048 x7 shapeCasts_S256x2048_S256x2048 : FVec Ideal S256x2048 .bf16) (constant S384x2048 .f32 0x00000000#32) (ix2 i k)
      = ∑ r : Fin 256, A (ix2 i r) * (x7 (ix2 r k) : EReal) := by
  pointwise

theorem mm85 (A : FVec Ideal S128x384 .bf16) (x8 : Vec Ideal S384x4096 .bf16) (i : Fin 128) (k : Fin 4096) :
    matmul dot_S128x384_S384x4096_S128x4096_1_0_0_1_n_n none A (shapeCast S384x4096 x8 shapeCasts_S384x4096_S384x4096 : FVec Ideal S384x4096 .bf16) (constant S128x4096 .f32 0x00000000#32) (ix2 i k)
      = ∑ r : Fin 384, A (ix2 i r) * (x8 (ix2 r k) : EReal) := by
  pointwise

/-- The three spreads at once. -/
def spread (y0 y1 y2 : FVec Ideal S128x128 .f32) (x7 : Vec Ideal S256x2048 .bf16) : FVec Ideal S384x2048 .f32 :=
  matmul dot_S384x256_S256x2048_S384x2048_1_0_0_1_n_n none
    (concatenate S384x256 0 [⟨S128x256, split y0⟩, ⟨S128x256, split y1⟩, ⟨S128x256, split y2⟩] concatenates_S128x256_S128x256_S128x256_S384x256_d0 : FVec Ideal S384x256 .bf16)
    (shapeCast S256x2048 x7 shapeCasts_S256x2048_S256x2048 : FVec Ideal S256x2048 .bf16) (constant S384x2048 .f32 0x00000000#32)

theorem spread_at (y0 y1 y2 : FVec Ideal S128x128 .f32) (x7 : Vec Ideal S256x2048 .bf16)
    (hx7 : ∀ (r : Fin 256) (k : Fin 2048), (x7 (ix2 r k) : EReal) = if r.val % 128 = k.val / 64 then 1 else 0)
    (q : Fin 3) (I : Fin 384) (i : Fin 128) (hI : I.val = 128 * q.val + i.val) (k : Fin 2048) (h : Fin 128) (hk : k.val / 64 = h.val) (y : EReal)
    (ey : (![y0, y1, y2] q) (ix2 i h) = y) (hy : IsReal y) : spread y0 y1 y2 x7 (ix2 I k) = y := by
  unfold spread
  rw [mm71]
  simp only [hx7, hk]
  rw [pick2, above3 _ _ _ I q _ i hI, above3 _ _ _ I q _ i hI]
  have e1 : (![split y0, split y1, split y2] q) (ix2 i ⟨h.val, by omega⟩) = (![y0, y1, y2] q) (ix2 i h) :=
    match q with
    | ⟨0, _⟩ => split_lo _ _ _
    | ⟨1, _⟩ => split_lo _ _ _
    | ⟨2, _⟩ => split_lo _ _ _
  have e2 : (![split y0, split y1, split y2] q) (ix2 i ⟨128 + h.val, by omega⟩) = (![y0, y1, y2] q) (ix2 i h) - (![y0, y1, y2] q) (ix2 i h) :=
    match q with
    | ⟨0, _⟩ => split_hi _ _ _
    | ⟨1, _⟩ => split_hi _ _ _
    | ⟨2, _⟩ => split_hi _ _ _
  refine (congrArg₂ (fun x y : EReal => x + y) e1 e2).trans ?_
  rw [ey, sub_real hy, add_zero]

theorem k0_pay31_eq (dt : FVec Ideal S128x128 .f32) (a b c : FVec Ideal S128x128 .bf16) (d e : FVec Ideal S128x128 .f32) (x7 : Vec Ideal S256x2048 .bf16) :
    k0_pay31 dt a b c d e x7 = spread dt (mulf dt (exp (subf (broadcastTo S128x128 (extractStridedSlice S1x128 ![127, 0] (k0_pay29 a b c d e) slices_S128x128_o127_0_S1x128) broadcasts_S1x128_S128x128) (k0_pay29 a b c d e))))
      (exp (k0_pay29 a b c d e)) x7 := rfl

theorem last_at (A : FVec Ideal S128x128 .f32) (i h : Fin 128) :
    broadcastTo S128x128 (extractStridedSlice S1x128 ![127, 0] A slices_S128x128_o127_0_S1x128) broadcasts_S1x128_S128x128 (ix2 i h) = A (ix2 ⟨127, by omega⟩ h) := by
  pointwise

theorem third (q : Fin 3) (A : FVec Ideal S384x2048 .f32) (hs : S384x2048.Slices ![128 * q.val, 0] S128x2048) (i : Fin 128) (k : Fin 2048) :
    extractStridedSlice S128x2048 ![128 * q.val, 0] A hs (ix2 i k) = A (ix2 ⟨128 * q.val + i.val, by omega⟩ k) := by
  unfold extractStridedSlice
  refine congrArg A ?_
  funext a; apply Fin.ext
  match a with
  | ⟨0, _⟩ => rfl
  | ⟨1, _⟩ => exact Nat.zero_add _

/-- The spread step sizes. -/
theorem pay32_at (dt : FVec Ideal S128x128 .f32) (a b c : FVec Ideal S128x128 .bf16) (d e : FVec Ideal S128x128 .f32) (x7 : Vec Ideal S256x2048 .bf16)
    (hx7 : ∀ (r : Fin 256) (k : Fin 2048), (x7 (ix2 r k) : EReal) = if r.val % 128 = k.val / 64 then 1 else 0)
    (i : Fin 128) (k : Fin 2048) (h : Fin 128) (hk : k.val / 64 = h.val) (hy : IsReal (dt (ix2 i h))) :
    k0_pay32 dt a b c d e x7 (ix2 i k) = dt (ix2 i h) :=
  (third 0 _ slices_S384x2048_o0_0_S128x2048 i k).trans ((congrFun (k0_pay31_eq dt a b c d e x7) _).trans <| spread_at _ _ _ x7 hx7 0 _ i rfl k h hk _ rfl hy)

/-- The spread weights of the outgoing state. -/
theorem pay33_at (dt : FVec Ideal S128x128 .f32) (a b c : FVec Ideal S128x128 .bf16) (d e : FVec Ideal S128x128 .f32) (x7 : Vec Ideal S256x2048 .bf16)
    (hx7 : ∀ (r : Fin 256) (k : Fin 2048), (x7 (ix2 r k) : EReal) = if r.val % 128 = k.val / 64 then 1 else 0)
    (i : Fin 128) (k : Fin 2048) (h : Fin 128) (hk : k.val / 64 = h.val) (hy : IsReal (dt (ix2 i h)))
    (ha : ∀ j : Fin 128, IsReal (k0_pay29 a b c d e (ix2 j h))) :
    k0_pay33 dt a b c d e x7 (ix2 i k) = dt (ix2 i h) * Ideal.exp (k0_pay29 a b c d e (ix2 ⟨127, by omega⟩ h) - k0_pay29 a b c d e (ix2 i h)) :=
  (third 1 _ slices_S384x2048_o128_0_S128x2048 i k).trans ((congrFun (k0_pay31_eq dt a b c d e x7) _).trans <| spread_at _ _ _ x7 hx7 1 _ i rfl k h hk _
    (congrArg (fun z : EReal => dt (ix2 i h) * Ideal.exp (z - k0_pay29 a b c d e (ix2 i h))) (last_at _ i h))
    (real_mul hy (real_exp (real_sub (ha _) (ha _)))))

/-- The spread decays. -/
theorem pay34_at (dt : FVec Ideal S128x128 .f32) (a b c : FVec Ideal S128x128 .bf16) (d e : FVec Ideal S128x128 .f32) (x7 : Vec Ideal S256x2048 .bf16)
    (hx7 : ∀ (r : Fin 256) (k : Fin 2048), (x7 (ix2 r k) : EReal) = if r.val % 128 = k.val / 64 then 1 else 0)
    (i : Fin 128) (k : Fin 2048) (h : Fin 128) (hk : k.val / 64 = h.val) (ha : IsReal (k0_pay29 a b c d e (ix2 i h))) :
    k0_pay34 dt a b c d e x7 (ix2 i k) = Ideal.exp (k0_pay29 a b c d e (ix2 i h)) :=
  (third 2 _ slices_S384x2048_o256_0_S128x2048 i k).trans ((congrFun (k0_pay31_eq dt a b c d e x7) _).trans <| spread_at _ _ _ x7 hx7 2 _ i rfl k h hk _ rfl (real_exp ha))

/-- The spread running sums. -/
theorem pay35_at (a b c : FVec Ideal S128x128 .bf16) (d e : FVec Ideal S128x128 .f32) (x8 : Vec Ideal S384x4096 .bf16)
    (hx8 : ∀ (r : Fin 384) (k : Fin 4096), (x8 (ix2 r k) : EReal) = if r.val % 128 = k.val / 128 then 1 else 0)
    (i : Fin 128) (k : Fin 4096) (h : Fin 128) (hk : k.val / 128 = h.val) (ha : IsReal (k0_pay29 a b c d e (ix2 i h))) :
    k0_pay35 a b c d e x8 (ix2 i k) = k0_pay29 a b c d e (ix2 i h) := by
  unfold k0_pay35
  rw [mm85]
  simp only [hx8, hk]
  rw [pick3, beside3 _ _ _ i 0 _ h (by show h.val = 128 * 0 + h.val; omega), beside3 _ _ _ i 1 _ h (by show 128 + h.val = 128 * 1 + h.val; omega),
    beside3 _ _ _ i 2 _ h (by show 256 + h.val = 128 * 2 + h.val; omega)]
  generalize k0_pay29 a b c d e = A at ha ⊢
  show A (ix2 i h) + (A (ix2 i h) - A (ix2 i h)) + ((A (ix2 i h) - A (ix2 i h)) - (A (ix2 i h) - A (ix2 i h))) = A (ix2 i h)
  rw [sub_real ha, sub_zero, add_zero, add_zero]

/-! ### Step sizes and running sums -/

/-- A head's step sizes. -/
def D (x3 : Vec Ideal S16x128 .f32) (x4 : Vec Ideal S1x128 .f32) (h : Fin 128) (j : Fin 16) : EReal := sp (x3 (ix2 j h) + x4 (ix2 0 h))

theorem dt_lo (x3 : Vec Ideal S16x128 .f32) (x4 : Vec Ideal S1x128 .f32) (i h : Fin 128) (j : Fin 16) (hi : i.val = j.val) :
    k0_pay19 x3 x4 (ix2 i h) = D x3 x4 h j := by
  obtain ⟨i, hi'⟩ := i
  obtain rfl : i = j.val := hi
  unfold D sp
  pointwise [k0_pay19]
  rw [zero_sub]
  rfl

theorem dt_hi (x3 : Vec Ideal S16x128 .f32) (x4 : Vec Ideal S1x128 .f32) (i h : Fin 128) (hi : 16 ≤ i.val) :
    k0_pay19 x3 x4 (ix2 i h) = 0 := by
  pointwise [k0_pay19]
  rw [dif_neg (by omega)]

/-- The running sum down to row `i` of rows of which the first 16 count. -/
def gc (d : Fin 16 → EReal) (i : ℕ) : EReal := ∑ j : Fin 16, if j.val ≤ i then d j else 0

theorem gc_lo (d : Fin 16 → EReal) (i : Fin 16) : gc d i.val = cum d i := rfl

theorem gc_last (d : Fin 16 → EReal) : gc d 127 = cum d 15 :=
  Finset.sum_congr rfl fun j _ => by rw [if_pos (by omega), if_pos (show j ≤ 15 from Fin.le_last j)]

theorem real_gc (d : Fin 16 → EReal) (hd : ∀ j, IsReal (d j)) (i : ℕ) : IsReal (gc d i) :=
  real_sum fun j => by split <;> [exact hd j; exact real_zero]

theorem mmT (T P : FVec Ideal S128x128 .bf16) (i h : Fin 128) :
    matmul dot_S128x128_S128x128_S128x128_1_0_0_1_n_n none T P (constant S128x128 .f32 0x00000000#32) (ix2 i h) = ∑ j : Fin 128, T (ix2 i j) * P (ix2 j h) := by
  pointwise

theorem pay22_at (i j : Fin 128) : ((k0_pay22 (F := Ideal)) (ix2 i j) : EReal) = if j ≤ i then 1 else 0 := by
  pointwise [k0_pay22]
  rw [tri_at]
  by_cases h : j ≤ i
  · rw [if_pos h, if_pos h]; rfl
  · rw [if_neg h, if_neg h]; rfl

theorem pay20_at (x3 : Vec Ideal S16x128 .f32) (x4 x5 : Vec Ideal S1x128 .f32) (j h : Fin 128) :
    k0_pay20 x3 x4 x5 (ix2 j h) = k0_pay19 x3 x4 (ix2 j h) * -Ideal.exp (x5 (ix2 0 h)) := by
  pointwise [k0_pay20]
  rw [zero_sub]

/-- The running sums as the body forms them. -/
def acm (x3 : Vec Ideal S16x128 .f32) (x4 x5 : Vec Ideal S1x128 .f32) : FVec Ideal S128x128 .f32 :=
  k0_pay29 k0_pay22 (k0_pay25 x3 x4 x5) (k0_pay26 x3 x4 x5) (k0_pay27 x3 x4 x5) k0_pay28

/-- A head's steps. -/
def S (x3 : Vec Ideal S16x128 .f32) (x4 x5 : Vec Ideal S1x128 .f32) (h : Fin 128) (j : Fin 16) : EReal := D x3 x4 h j * -Ideal.exp (x5 (ix2 0 h))

theorem real_dt (x3 : Vec Ideal S16x128 .f32) (x4 : Vec Ideal S1x128 .f32) (i h : Fin 128) (hD : ∀ j, IsReal (D x3 x4 h j)) :
    IsReal (k0_pay19 x3 x4 (ix2 i h)) := by
  by_cases hi : i.val < 16
  · rw [dt_lo x3 x4 i h ⟨i.val, hi⟩ rfl]; exact hD _
  · rw [dt_hi x3 x4 i h (by omega)]; exact real_zero

theorem acm_at (x3 : Vec Ideal S16x128 .f32) (x4 x5 : Vec Ideal S1x128 .f32) (i h : Fin 128) (hD : ∀ j, IsReal (D x3 x4 h j)) (h5 : IsReal (x5 (ix2 0 h))) :
    acm x3 x4 x5 (ix2 i h) = gc (S x3 x4 x5 h) i.val := by
  have hP : ∀ j, IsReal (k0_pay20 x3 x4 x5 (ix2 j h)) := fun j => by
    rw [pay20_at]; exact real_mul (real_dt x3 x4 j h hD) (real_neg (real_exp h5))
  have e0 : k0_pay27 x3 x4 x5 (ix2 i h) = ∑ j : Fin 128, ((k0_pay22 (F := Ideal)) (ix2 i j) : EReal) * k0_pay20 x3 x4 x5 (ix2 j h) := mmT _ _ i h
  have e1 : matmul dot_S128x128_S128x128_S128x128_1_0_0_1_n_n none k0_pay22 (k0_pay25 x3 x4 x5) (constant S128x128 .f32 0x00000000#32) (ix2 i h) = 0 := by
    refine (mmT _ _ i h).trans (Finset.sum_eq_zero fun j _ => ?_)
    show ((k0_pay22 (F := Ideal)) (ix2 i j) : EReal) * (k0_pay20 x3 x4 x5 (ix2 j h) - k0_pay20 x3 x4 x5 (ix2 j h)) = (0 : EReal)
    rw [sub_real (hP j), mul_zero]
  have e2 : matmul dot_S128x128_S128x128_S128x128_1_0_0_1_n_n none k0_pay22 (k0_pay26 x3 x4 x5) (constant S128x128 .f32 0x00000000#32) (ix2 i h) = 0 := by
    refine (mmT _ _ i h).trans (Finset.sum_eq_zero fun j _ => ?_)
    show ((k0_pay22 (F := Ideal)) (ix2 i j) : EReal) * ((k0_pay20 x3 x4 x5 (ix2 j h) - k0_pay20 x3 x4 x5 (ix2 j h)) - (k0_pay20 x3 x4 x5 (ix2 j h) - k0_pay20 x3 x4 x5 (ix2 j h))) = (0 : EReal)
    rw [sub_real (hP j), sub_zero, mul_zero]
  have e3 : ((k0_pay28 (F := Ideal)) (ix2 i h) : EReal) = 0 := by pointwise [k0_pay28]
  refine (show acm x3 x4 x5 (ix2 i h) = k0_pay28 (ix2 i h) + k0_pay27 x3 x4 x5 (ix2 i h)
      + matmul dot_S128x128_S128x128_S128x128_1_0_0_1_n_n none k0_pay22 (k0_pay25 x3 x4 x5) (constant S128x128 .f32 0x00000000#32) (ix2 i h)
      + matmul dot_S128x128_S128x128_S128x128_1_0_0_1_n_n none k0_pay22 (k0_pay26 x3 x4 x5) (constant S128x128 .f32 0x00000000#32) (ix2 i h) from rfl).trans ?_
  rw [e1, e2, e3, e0, zero_add, add_zero, add_zero, sum_rows fun j hj => by rw [pay20_at, dt_hi x3 x4 j h hj, zero_mul, mul_zero]]
  refine Finset.sum_congr rfl fun j _ => ?_
  rw [pay22_at, pay20_at, dt_lo x3 x4 _ h j rfl]
  by_cases hj : j.val ≤ i.val
  · rw [if_pos (show (⟨j.val, by omega⟩ : Fin 128) ≤ i from hj), if_pos hj, one_mul]; rfl
  · rw [if_neg (show ¬ (⟨j.val, by omega⟩ : Fin 128) ≤ i from hj), if_neg hj, zero_mul]

theorem real_S (x3 : Vec Ideal S16x128 .f32) (x4 x5 : Vec Ideal S1x128 .f32) (h : Fin 128) (hD : ∀ j, IsReal (D x3 x4 h j)) (h5 : IsReal (x5 (ix2 0 h))) (j : Fin 16) :
    IsReal (S x3 x4 x5 h j) := real_mul (hD j) (real_neg (real_exp h5))

theorem real_acm (x3 : Vec Ideal S16x128 .f32) (x4 x5 : Vec Ideal S1x128 .f32) (i h : Fin 128) (hD : ∀ j, IsReal (D x3 x4 h j)) (h5 : IsReal (x5 (ix2 0 h))) :
    IsReal (acm x3 x4 x5 (ix2 i h)) := by
  rw [acm_at x3 x4 x5 i h hD h5]; exact real_gc _ (real_S x3 x4 x5 h hD h5) _

theorem pay30_at (x3 : Vec Ideal S16x128 .f32) (x4 x5 : Vec Ideal S1x128 .f32) (i h : Fin 128) :
    k0_pay30 k0_pay22 (k0_pay25 x3 x4 x5) (k0_pay26 x3 x4 x5) (k0_pay27 x3 x4 x5) k0_pay28 (ix2 h i) = acm x3 x4 x5 (ix2 i h) := by
  show transpose S128x128 [1, 0] (acm x3 x4 x5) transposes_S128x128_p1_0_S128x128 (ix2 h i) = _
  generalize acm x3 x4 x5 = A
  pointwise

/-! ### Rows padded with zeros -/

theorem pay36_lo (x : Vec Ideal S16x2048 .f32) (j : Fin 16) (k : Fin 2048) : k0_pay36 x (ix2 ⟨j.val, by omega⟩ k) = x (ix2 j k) := by
  pointwise [k0_pay36]

theorem pay36_hi (x : Vec Ideal S16x2048 .f32) (j : Fin 128) (hj : 16 ≤ j.val) (k : Fin 2048) : k0_pay36 x (ix2 j k) = 0 := by
  pointwise [k0_pay36]
  rw [dif_neg (by omega)]

theorem pay37_lo (x : Vec Ideal S16x1024 .f32) (j : Fin 16) (k : Fin 1024) : k0_pay37 x (ix2 ⟨j.val, by omega⟩ k) = x (ix2 j k) := by
  pointwise [k0_pay37]

theorem pay38_lo (x : Vec Ideal S16x1024 .f32) (j : Fin 16) (k : Fin 1024) : k0_pay38 x (ix2 ⟨j.val, by omega⟩ k) = x (ix2 j k) := by
  pointwise [k0_pay38]

/-! ### The group's results -/

theorem group_y (g : ℕ) (hg : g < 8) (x0 : Vec Ideal S16x2048 .f32) (x1 x2 : Vec Ideal S16x1024 .f32) (x3 : Vec Ideal S16x128 .f32) (x4 x5 : Vec Ideal S1x128 .f32)
    (x7 : Vec Ideal S256x2048 .bf16) (x8 : Vec Ideal S384x4096 .bf16)
    (hx7 : ∀ (r : Fin 256) (k : Fin 2048), (x7 (ix2 r k) : EReal) = if r.val % 128 = k.val / 64 then 1 else 0)
    (hx8 : ∀ (r : Fin 384) (k : Fin 4096), (x8 (ix2 r k) : EReal) = if r.val % 128 = k.val / 128 then 1 else 0)
    (v : Vec Ideal S1x128x256 .f32) (d : Vec Ideal S1x256 .f32) (i : Fin 16) (k : Fin 256) (h : Fin 128) (hh : h.val = 4 * g + k.val / 64)
    (hD : ∀ j, IsReal (D x3 x4 h j)) (h5 : IsReal (x5 (ix2 0 h))) :
    grpO g hg (k0_pay30 k0_pay22 (k0_pay25 x3 x4 x5) (k0_pay26 x3 x4 x5) (k0_pay27 x3 x4 x5) k0_pay28)
      (k0_pay32 (k0_pay19 x3 x4) k0_pay22 (k0_pay25 x3 x4 x5) (k0_pay26 x3 x4 x5) (k0_pay27 x3 x4 x5) k0_pay28 x7)
      (k0_pay34 (k0_pay19 x3 x4) k0_pay22 (k0_pay25 x3 x4 x5) (k0_pay26 x3 x4 x5) (k0_pay27 x3 x4 x5) k0_pay28 x7)
      (k0_pay35 k0_pay22 (k0_pay25 x3 x4 x5) (k0_pay26 x3 x4 x5) (k0_pay27 x3 x4 x5) k0_pay28 x8)
      (k0_pay36 x0) (k0_pay37 x1) (k0_pay38 x2) v d (ix2 i k)
      = yS (fun j => x0 (ix2 j ⟨256 * g + k.val, by omega⟩)) (D x3 x4 h) (cum (S x3 x4 x5 h)) (fun j n => x1 (ix2 j ⟨128 * g + n.val, by omega⟩))
          (fun j n => x2 (ix2 j ⟨128 * g + n.val, by omega⟩)) (fun n => v (ix3 0 n k)) (d (ix2 0 k)) i := by
  have hA := fun i => real_acm x3 x4 x5 i h hD h5
  have hk : (256 * g + k.val) / 64 = h.val := by omega
  rw [grpO_at, sum_rows fun j hj => by rw [pay36_hi _ _ hj, zero_mul, mul_zero]]
  simp only [pay36_lo, pay37_lo, pay38_lo]
  rw [pay34_at _ _ _ _ _ _ _ hx7 _ ⟨256 * g + k.val, by omega⟩ h hk (hA _)]
  unfold yS
  refine congrArg₂ (fun x y : EReal => x + y) (congrArg₂ (fun x y : EReal => x + y) (Finset.sum_congr rfl fun j _ => ?_) ?_) rfl
  · rw [pay32_at _ _ _ _ _ _ _ hx7 _ ⟨256 * g + k.val, by omega⟩ h hk (real_dt x3 x4 _ h hD), dt_lo x3 x4 _ h j rfl]
    rw [pay35_at _ _ _ _ _ _ hx8 _ ⟨128 * (4 * g + k.val / 64) + j.val, by omega⟩ h (by show (128 * (4 * g + k.val / 64) + j.val) / 128 = _; omega) (hA _)]
    have e : (⟨4 * g + k.val / 64, by omega⟩ : Fin 128) = h := Fin.ext hh.symm
    rw [e, pay30_at]
    rw [show k0_pay29 k0_pay22 (k0_pay25 x3 x4 x5) (k0_pay26 x3 x4 x5) (k0_pay27 x3 x4 x5) k0_pay28 (ix2 ⟨i.val, by omega⟩ h) = acm x3 x4 x5 (ix2 ⟨i.val, by omega⟩ h) from rfl,
      acm_at x3 x4 x5 _ h hD h5, acm_at x3 x4 x5 _ h hD h5]
    rw [mul_comm]
    refine congrArg (fun z : EReal => _ * (z * _)) (Finset.sum_congr rfl fun n _ => mul_comm _ _)
  · refine congrArg₂ (fun x y : EReal => x * y) (Finset.sum_congr rfl fun n _ => mul_comm _ _) (congrArg Ideal.exp ?_)
    exact acm_at x3 x4 x5 _ h hD h5

theorem group_s (g : ℕ) (hg : g < 8) (x0 : Vec Ideal S16x2048 .f32) (x1 : Vec Ideal S16x1024 .f32) (x3 : Vec Ideal S16x128 .f32) (x4 x5 : Vec Ideal S1x128 .f32)
    (x7 : Vec Ideal S256x2048 .bf16)
    (hx7 : ∀ (r : Fin 256) (k : Fin 2048), (x7 (ix2 r k) : EReal) = if r.val % 128 = k.val / 64 then 1 else 0)
    (v : Vec Ideal S1x128x256 .f32) (n : Fin 128) (k : Fin 256) (h : Fin 128) (hh : h.val = 4 * g + k.val / 64)
    (hD : ∀ j, IsReal (D x3 x4 h j)) (h5 : IsReal (x5 (ix2 0 h))) :
    grpS g hg (k0_pay33 (k0_pay19 x3 x4) k0_pay22 (k0_pay25 x3 x4 x5) (k0_pay26 x3 x4 x5) (k0_pay27 x3 x4 x5) k0_pay28 x7)
      (k0_pay34 (k0_pay19 x3 x4) k0_pay22 (k0_pay25 x3 x4 x5) (k0_pay26 x3 x4 x5) (k0_pay27 x3 x4 x5) k0_pay28 x7)
      (k0_pay36 x0) (k0_pay37 x1) v (ix3 0 n k)
      = sS (fun j => x0 (ix2 j ⟨256 * g + k.val, by omega⟩)) (D x3 x4 h) (cum (S x3 x4 x5 h)) (fun j => x1 (ix2 j ⟨128 * g + n.val, by omega⟩)) (v (ix3 0 n k)) := by
  have hA := fun i => real_acm x3 x4 x5 i h hD h5
  have hk : (256 * g + k.val) / 64 = h.val := by omega
  rw [grpS_at, sum_rows fun j hj => by rw [pay36_hi _ _ hj, zero_mul, mul_zero]]
  simp only [pay36_lo, pay37_lo]
  rw [pay34_at _ _ _ _ _ _ _ hx7 _ ⟨256 * g + k.val, by omega⟩ h hk (hA _)]
  have e127 : acm x3 x4 x5 (ix2 ⟨127, by omega⟩ h) = cum (S x3 x4 x5 h) 15 := (acm_at x3 x4 x5 _ h hD h5).trans (gc_last _)
  unfold sS
  refine congrArg₂ (fun x y : EReal => x + y) (congrArg (fun z : EReal => Ideal.exp z * _) e127) (Finset.sum_congr rfl fun j _ => ?_)
  rw [pay33_at _ _ _ _ _ _ _ hx7 _ ⟨256 * g + k.val, by omega⟩ h hk (real_dt x3 x4 _ h hD) hA, dt_lo x3 x4 _ h j rfl]
  rw [show k0_pay29 k0_pay22 (k0_pay25 x3 x4 x5) (k0_pay26 x3 x4 x5) (k0_pay27 x3 x4 x5) k0_pay28 (ix2 ⟨127, by omega⟩ h) = cum (S x3 x4 x5 h) 15 from e127,
    show k0_pay29 k0_pay22 (k0_pay25 x3 x4 x5) (k0_pay26 x3 x4 x5) (k0_pay27 x3 x4 x5) k0_pay28 (ix2 ⟨j.val, by omega⟩ h) = cum (S x3 x4 x5 h) j from acm_at x3 x4 x5 _ h hD h5]
  rw [mul_comm, ← mul_assoc]

end Cert.KernelSsdIdeal.Val
-- ==== Proof.SsdLoads.lean ====
/- The scan's states: what each load of the scratch reads, and what each group leaves in it. -/
module

public import proofs.«01_k».proof.Proof.SsdBody
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.KernelSsdIdeal.Val
open Cert.KernelSsdIdeal Cert.KernelSsdIdeal.Gen Cert.Ssd

variable (c : Dev nD)
  (a2 : Memref sig Kind.tc Space.vmem S16x2048 .f32) (h2 : a2.IsWhole) (a3 : Memref sig Kind.tc Space.vmem S16x1024 .f32) (h3 : a3.IsWhole)
  (a4 : Memref sig Kind.tc Space.vmem S16x1024 .f32) (h4 : a4.IsWhole) (a5 : Memref sig Kind.tc Space.vmem S16x128 .f32) (h5 : a5.IsWhole)
  (a6 : Memref sig Kind.tc Space.vmem S1x128 .f32) (h6 : a6.IsWhole) (a7 : Memref sig Kind.tc Space.vmem S1x128 .f32) (h7 : a7.IsWhole)
  (a9 : Memref sig Kind.tc Space.vmem S256x2048 .bf16) (h9 : a9.IsWhole) (a10 : Memref sig Kind.tc Space.vmem S384x4096 .bf16) (h10 : a10.IsWhole)
  (a11 : Memref sig Kind.tc Space.vmem S1x2048x128 .f32) (h11 : a11.IsWhole) (a14 : Memref sig Kind.tc Space.vmem S8x128x256 .f32)
  (x0 : Vec Ideal S16x2048 .f32) (x1 x2 : Vec Ideal S16x1024 .f32) (x3 : Vec Ideal S16x128 .f32) (x4 x5 : Vec Ideal S1x128 .f32)
  (x7 : Vec Ideal S256x2048 .bf16) (x8 : Vec Ideal S384x4096 .bf16) (x9 : Vec Ideal S1x2048x128 .f32)

theorem r_eq : kernelRun0_A.sl.r c a5 h5 a6 h6 x3 x4 = k0_pay19 x3 x4 := by
  simp (disch := decide) only [kernelRun0_A.sl.r, View.ld_unit_lit', View.readAt_eq_ld, Memref.IsWhole.read_unread]
theorem r1_eq : kernelRun0_A.sl.r_1 c a5 h5 a6 h6 a7 h7 x3 x4 x5 = k0_pay25 x3 x4 x5 := by
  simp (disch := decide) only [kernelRun0_A.sl.r_1, View.ld_unit_lit', View.readAt_eq_ld, Memref.IsWhole.read_unread]
theorem r2_eq : kernelRun0_A.sl.r_2 c a5 h5 a6 h6 a7 h7 x3 x4 x5 = k0_pay26 x3 x4 x5 := by
  simp (disch := decide) only [kernelRun0_A.sl.r_2, View.ld_unit_lit', View.readAt_eq_ld, Memref.IsWhole.read_unread]
theorem r3_eq : kernelRun0_A.sl.r_3 c a5 h5 a6 h6 a7 h7 x3 x4 x5 = k0_pay27 x3 x4 x5 := by
  simp (disch := decide) only [kernelRun0_A.sl.r_3, View.ld_unit_lit', View.readAt_eq_ld, Memref.IsWhole.read_unread]
theorem r4_eq : kernelRun0_A.sl.r_4 c a5 h5 a6 h6 a7 h7 x3 x4 x5
    = k0_pay30 k0_pay22 (k0_pay25 x3 x4 x5) (k0_pay26 x3 x4 x5) (k0_pay27 x3 x4 x5) k0_pay28 := by
  unfold kernelRun0_A.sl.r_4; rw [r1_eq, r2_eq, r3_eq]
theorem r5_eq : kernelRun0_A.sl.r_5 c a5 h5 a6 h6 a7 h7 a9 h9 x3 x4 x5 x7
    = k0_pay32 (k0_pay19 x3 x4) k0_pay22 (k0_pay25 x3 x4 x5) (k0_pay26 x3 x4 x5) (k0_pay27 x3 x4 x5) k0_pay28 x7 := by
  unfold kernelRun0_A.sl.r_5; rw [r_eq, r1_eq, r2_eq, r3_eq]
  simp (disch := decide) only [View.ld_unit_lit', View.readAt_eq_ld, Memref.IsWhole.read_unread]
theorem r6_eq : kernelRun0_A.sl.r_6 c a5 h5 a6 h6 a7 h7 a9 h9 x3 x4 x5 x7
    = k0_pay33 (k0_pay19 x3 x4) k0_pay22 (k0_pay25 x3 x4 x5) (k0_pay26 x3 x4 x5) (k0_pay27 x3 x4 x5) k0_pay28 x7 := by
  unfold kernelRun0_A.sl.r_6; rw [r_eq, r1_eq, r2_eq, r3_eq]
  simp (disch := decide) only [View.ld_unit_lit', View.readAt_eq_ld, Memref.IsWhole.read_unread]
theorem r7_eq : kernelRun0_A.sl.r_7 c a5 h5 a6 h6 a7 h7 a9 h9 x3 x4 x5 x7
    = k0_pay34 (k0_pay19 x3 x4) k0_pay22 (k0_pay25 x3 x4 x5) (k0_pay26 x3 x4 x5) (k0_pay27 x3 x4 x5) k0_pay28 x7 := by
  unfold kernelRun0_A.sl.r_7; rw [r_eq, r1_eq, r2_eq, r3_eq]
  simp (disch := decide) only [View.ld_unit_lit', View.readAt_eq_ld, Memref.IsWhole.read_unread]
theorem r8_eq : kernelRun0_A.sl.r_8 c a5 h5 a6 h6 a7 h7 a10 h10 x3 x4 x5 x8
    = k0_pay35 k0_pay22 (k0_pay25 x3 x4 x5) (k0_pay26 x3 x4 x5) (k0_pay27 x3 x4 x5) k0_pay28 x8 := by
  unfold kernelRun0_A.sl.r_8; rw [r1_eq, r2_eq, r3_eq]
  simp (disch := decide) only [View.ld_unit_lit', View.readAt_eq_ld, Memref.IsWhole.read_unread]
theorem r9_eq : kernelRun0_A.sl.r_9 c a2 h2 x0 = k0_pay36 x0 := by
  simp (disch := decide) only [kernelRun0_A.sl.r_9, View.ld_unit_lit', View.readAt_eq_ld, Memref.IsWhole.read_unread]
theorem r10_eq : kernelRun0_A.sl.r_10 c a3 h3 x1 = k0_pay37 x1 := by
  simp (disch := decide) only [kernelRun0_A.sl.r_10, View.ld_unit_lit', View.readAt_eq_ld, Memref.IsWhole.read_unread]
theorem r11_eq : kernelRun0_A.sl.r_11 c a4 h4 x2 = k0_pay38 x2 := by
  simp (disch := decide) only [kernelRun0_A.sl.r_11, View.ld_unit_lit', View.readAt_eq_ld, Memref.IsWhole.read_unread]

theorem l0_at (n : Fin 128) (k : Fin 256) : (kernelRun0_A.sl.v107 c a11 h11 a14 x9 : Vec Ideal S1x128x256 .f32) (ix3 0 n k) = x9 (ix3 0 ⟨0 + k.val, by omega⟩ n) := by
  unfold kernelRun0_A.sl.v107 kernelRun0_A.sl.HS0_8
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  unfold kernelRun0_A.sl.v751; unfold kernelRun0_A.sl.v748; unfold kernelRun0_A.sl.v747
  rw [View.readAt_eq_ld, h11.read_unread, View.ld_unit]
  pointwise

theorem l1_at (n : Fin 128) (k : Fin 256) : (kernelRun0_A.sl.v188 c a2 h2 a3 h3 a5 h5 a6 h6 a7 h7 a9 h9 a11 h11 a14 x0 x1 x3 x4 x5 x7 x9 : Vec Ideal S1x128x256 .f32) (ix3 0 n k) = x9 (ix3 0 ⟨256 + k.val, by omega⟩ n) := by
  unfold kernelRun0_A.sl.v188 kernelRun0_A.sl.HS0_9 kernelRun0_A.sl.HS0_8
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  unfold kernelRun0_A.sl.v757; unfold kernelRun0_A.sl.v754; unfold kernelRun0_A.sl.v753
  rw [View.readAt_eq_ld, h11.read_unread, View.ld_unit]
  pointwise

theorem l2_at (n : Fin 128) (k : Fin 256) : (kernelRun0_A.sl.v269 c a2 h2 a3 h3 a5 h5 a6 h6 a7 h7 a9 h9 a11 h11 a14 x0 x1 x3 x4 x5 x7 x9 : Vec Ideal S1x128x256 .f32) (ix3 0 n k) = x9 (ix3 0 ⟨512 + k.val, by omega⟩ n) := by
  unfold kernelRun0_A.sl.v269 kernelRun0_A.sl.HS0_10 kernelRun0_A.sl.HS0_9 kernelRun0_A.sl.HS0_8
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  unfold kernelRun0_A.sl.v763; unfold kernelRun0_A.sl.v760; unfold kernelRun0_A.sl.v759
  rw [View.readAt_eq_ld, h11.read_unread, View.ld_unit]
  pointwise

theorem l3_at (n : Fin 128) (k : Fin 256) : (kernelRun0_A.sl.v350 c a2 h2 a3 h3 a5 h5 a6 h6 a7 h7 a9 h9 a11 h11 a14 x0 x1 x3 x4 x5 x7 x9 : Vec Ideal S1x128x256 .f32) (ix3 0 n k) = x9 (ix3 0 ⟨768 + k.val, by omega⟩ n) := by
  unfold kernelRun0_A.sl.v350 kernelRun0_A.sl.HS0_11 kernelRun0_A.sl.HS0_10 kernelRun0_A.sl.HS0_9 kernelRun0_A.sl.HS0_8
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  unfold kernelRun0_A.sl.v769; unfold kernelRun0_A.sl.v766; unfold kernelRun0_A.sl.v765
  rw [View.readAt_eq_ld, h11.read_unread, View.ld_unit]
  pointwise

theorem l4_at (n : Fin 128) (k : Fin 256) : (kernelRun0_A.sl.v431 c a2 h2 a3 h3 a5 h5 a6 h6 a7 h7 a9 h9 a11 h11 a14 x0 x1 x3 x4 x5 x7 x9 : Vec Ideal S1x128x256 .f32) (ix3 0 n k) = x9 (ix3 0 ⟨1024 + k.val, by omega⟩ n) := by
  unfold kernelRun0_A.sl.v431 kernelRun0_A.sl.HS0_12 kernelRun0_A.sl.HS0_11 kernelRun0_A.sl.HS0_10 kernelRun0_A.sl.HS0_9 kernelRun0_A.sl.HS0_8
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  unfold kernelRun0_A.sl.v772; unfold kernelRun0_A.sl.v771
  rw [View.readAt_eq_ld, h11.read_unread, View.ld_unit]
  pointwise [k0_pay15]

theorem l5_at (n : Fin 128) (k : Fin 256) : (kernelRun0_A.sl.v512 c a2 h2 a3 h3 a5 h5 a6 h6 a7 h7 a9 h9 a11 h11 a14 x0 x1 x3 x4 x5 x7 x9 : Vec Ideal S1x128x256 .f32) (ix3 0 n k) = x9 (ix3 0 ⟨1280 + k.val, by omega⟩ n) := by
  unfold kernelRun0_A.sl.v512 kernelRun0_A.sl.HS0_13 kernelRun0_A.sl.HS0_12 kernelRun0_A.sl.HS0_11 kernelRun0_A.sl.HS0_10 kernelRun0_A.sl.HS0_9 kernelRun0_A.sl.HS0_8
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  rw [View.readAt_eq_ld, h11.read_unread, View.ld_unit]
  pointwise [k0_pay16]

theorem l6_at (n : Fin 128) (k : Fin 256) : (kernelRun0_A.sl.v593 c a2 h2 a3 h3 a5 h5 a6 h6 a7 h7 a9 h9 a11 h11 a14 x0 x1 x3 x4 x5 x7 x9 : Vec Ideal S1x128x256 .f32) (ix3 0 n k) = x9 (ix3 0 ⟨1536 + k.val, by omega⟩ n) := by
  unfold kernelRun0_A.sl.v593 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  rw [View.readAt_eq_ld, h11.read_unread, View.ld_unit]
  pointwise [k0_pay17]

theorem l7_at (n : Fin 128) (k : Fin 256) : (kernelRun0_A.sl.v674 c a2 h2 a3 h3 a5 h5 a6 h6 a7 h7 a9 h9 a11 h11 a14 x0 x1 x3 x4 x5 x7 x9 : Vec Ideal S1x128x256 .f32) (ix3 0 n k) = x9 (ix3 0 ⟨1792 + k.val, by omega⟩ n) := by
  unfold kernelRun0_A.sl.v674 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  rw [View.readAt_eq_ld, h11.read_unread, View.ld_unit]
  pointwise [k0_pay18]

theorem f0_at (hx7 : ∀ (r : Fin 256) (k : Fin 2048), (x7 (ix2 r k) : EReal) = if r.val % 128 = k.val / 64 then 1 else 0)
    (n : Fin 128) (k : Fin 256) (h : Fin 128) (hh : h.val = 0 + k.val / 64) (hD : ∀ j, IsReal (D x3 x4 h j)) (h5' : IsReal (x5 (ix2 0 h))) :
    (kernelRun0_A.sl.v746 c a2 h2 a3 h3 a5 h5 a6 h6 a7 h7 a9 h9 a11 h11 a14 x0 x1 x3 x4 x5 x7 x9 : Vec Ideal S1x128x256 .f32) (ix3 0 n k)
      = sS (fun j => x0 (ix2 j ⟨0 + k.val, by omega⟩)) (D x3 x4 h) (cum (S x3 x4 x5 h)) (fun j => x1 (ix2 j ⟨0 + n.val, by omega⟩)) (x9 (ix3 0 ⟨0 + k.val, by omega⟩ n)) := by
  unfold kernelRun0_A.sl.v746 kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  refine (congrFun (s0_eq (kernelRun0_A.sl.r_6 c a5 h5 a6 h6 a7 h7 a9 h9 x3 x4 x5 x7) (kernelRun0_A.sl.r_7 c a5 h5 a6 h6 a7 h7 a9 h9 x3 x4 x5 x7) (kernelRun0_A.sl.r_9 c a2 h2 x0) _ (kernelRun0_A.sl.v107 c a11 h11 a14 x9)) (ix3 0 n k)).trans ?_
  rw [r6_eq, r7_eq, r9_eq]
  simp (disch := decide) only [View.ld_unit_lit', View.readAt_eq_ld, Memref.IsWhole.read_unread]
  refine (group_s 0 (by omega) x0 x1 x3 x4 x5 x7 hx7 _ n k h hh hD h5').trans ?_
  rw [l0_at]

theorem f1_at (hx7 : ∀ (r : Fin 256) (k : Fin 2048), (x7 (ix2 r k) : EReal) = if r.val % 128 = k.val / 64 then 1 else 0)
    (n : Fin 128) (k : Fin 256) (h : Fin 128) (hh : h.val = 4 + k.val / 64) (hD : ∀ j, IsReal (D x3 x4 h j)) (h5' : IsReal (x5 (ix2 0 h))) :
    (kernelRun0_A.sl.v752 c a2 h2 a3 h3 a5 h5 a6 h6 a7 h7 a9 h9 a11 h11 a14 x0 x1 x3 x4 x5 x7 x9 : Vec Ideal S1x128x256 .f32) (ix3 0 n k)
      = sS (fun j => x0 (ix2 j ⟨256 + k.val, by omega⟩)) (D x3 x4 h) (cum (S x3 x4 x5 h)) (fun j => x1 (ix2 j ⟨128 + n.val, by omega⟩)) (x9 (ix3 0 ⟨256 + k.val, by omega⟩ n)) := by
  unfold kernelRun0_A.sl.v752 kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  refine (congrFun (s1_eq (kernelRun0_A.sl.r_6 c a5 h5 a6 h6 a7 h7 a9 h9 x3 x4 x5 x7) (kernelRun0_A.sl.r_7 c a5 h5 a6 h6 a7 h7 a9 h9 x3 x4 x5 x7) (kernelRun0_A.sl.r_9 c a2 h2 x0) (kernelRun0_A.sl.r_10 c a3 h3 x1) (kernelRun0_A.sl.v188 c a2 h2 a3 h3 a5 h5 a6 h6 a7 h7 a9 h9 a11 h11 a14 x0 x1 x3 x4 x5 x7 x9)) (ix3 0 n k)).trans ?_
  rw [r6_eq, r7_eq, r9_eq]
  rw [r10_eq]
  refine (group_s 1 (by omega) x0 x1 x3 x4 x5 x7 hx7 _ n k h hh hD h5').trans ?_
  rw [l1_at]

theorem f2_at (hx7 : ∀ (r : Fin 256) (k : Fin 2048), (x7 (ix2 r k) : EReal) = if r.val % 128 = k.val / 64 then 1 else 0)
    (n : Fin 128) (k : Fin 256) (h : Fin 128) (hh : h.val = 8 + k.val / 64) (hD : ∀ j, IsReal (D x3 x4 h j)) (h5' : IsReal (x5 (ix2 0 h))) :
    (kernelRun0_A.sl.v758 c a2 h2 a3 h3 a5 h5 a6 h6 a7 h7 a9 h9 a11 h11 a14 x0 x1 x3 x4 x5 x7 x9 : Vec Ideal S1x128x256 .f32) (ix3 0 n k)
      = sS (fun j => x0 (ix2 j ⟨512 + k.val, by omega⟩)) (D x3 x4 h) (cum (S x3 x4 x5 h)) (fun j => x1 (ix2 j ⟨256 + n.val, by omega⟩)) (x9 (ix3 0 ⟨512 + k.val, by omega⟩ n)) := by
  unfold kernelRun0_A.sl.v758 kernelRun0_A.sl.HS0_16 kernelRun0_A.sl.HS0_15 kernelRun0_A.sl.HS0_14 kernelRun0_A.sl.HS0_13 kernelRun0_A.sl.HS0_12 kernelRun0_A.sl.HS0_11
  rw [View.readCov_skip]; rotate_left; · decide
  rw [View.readCov_skip]; rotate_left; · decide
  rw [View.readCov_skip]; rotate_left; · decide
  rw [View.readCov_skip]; rotate_left; · decide
  rw [View.readCov_skip]; rotate_left; · decide
  rw [View.readCov_cons_toLoadRect]
  refine (congrFun (s2_eq (kernelRun0_A.sl.r_6 c a5 h5 a6 h6 a7 h7 a9 h9 x3 x4 x5 x7) (kernelRun0_A.sl.r_7 c a5 h5 a6 h6 a7 h7 a9 h9 x3 x4 x5 x7) (kernelRun0_A.sl.r_9 c a2 h2 x0) (kernelRun0_A.sl.r_10 c a3 h3 x1) (kernelRun0_A.sl.v269 c a2 h2 a3 h3 a5 h5 a6 h6 a7 h7 a9 h9 a11 h11 a14 x0 x1 x3 x4 x5 x7 x9)) (ix3 0 n k)).trans ?_
  rw [r6_eq, r7_eq, r9_eq]
  rw [r10_eq]
  refine (group_s 2 (by omega) x0 x1 x3 x4 x5 x7 hx7 _ n k h hh hD h5').trans ?_
  rw [l2_at]

theorem f3_at (hx7 : ∀ (r : Fin 256) (k : Fin 2048), (x7 (ix2 r k) : EReal) = if r.val % 128 = k.val / 64 then 1 else 0)
    (n : Fin 128) (k : Fin 256) (h : Fin 128) (hh : h.val = 12 + k.val / 64) (hD : ∀ j, IsReal (D x3 x4 h j)) (h5' : IsReal (x5 (ix2 0 h))) :
    (kernelRun0_A.sl.v764 c a2 h2 a3 h3 a5 h5 a6 h6 a7 h7 a9 h9 a11 h11 a14 x0 x1 x3 x4 x5 x7 x9 : Vec Ideal S1x128x256 .f32) (ix3 0 n k)
      = sS (fun j => x0 (ix2 j ⟨768 + k.val, by omega⟩)) (D x3 x4 h) (cum (S x3 x4 x5 h)) (fun j => x1 (ix2 j ⟨384 + n.val, by omega⟩)) (x9 (ix3 0 ⟨768 + k.val, by omega⟩ n)) := by
  unfold kernelRun0_A.sl.v764 kernelRun0_A.sl.HS0_16 kernelRun0_A.sl.HS0_15 kernelRun0_A.sl.HS0_14 kernelRun0_A.sl.HS0_13 kernelRun0_A.sl.HS0_12
  rw [View.readCov_skip]; rotate_left; · decide
  rw [View.readCov_skip]; rotate_left; · decide
  rw [View.readCov_skip]; rotate_left; · decide
  rw [View.readCov_skip]; rotate_left; · decide
  rw [View.readCov_cons_toLoadRect]
  refine (congrFun (s3_eq (kernelRun0_A.sl.r_6 c a5 h5 a6 h6 a7 h7 a9 h9 x3 x4 x5 x7) (kernelRun0_A.sl.r_7 c a5 h5 a6 h6 a7 h7 a9 h9 x3 x4 x5 x7) (kernelRun0_A.sl.r_9 c a2 h2 x0) (kernelRun0_A.sl.r_10 c a3 h3 x1) (kernelRun0_A.sl.v350 c a2 h2 a3 h3 a5 h5 a6 h6 a7 h7 a9 h9 a11 h11 a14 x0 x1 x3 x4 x5 x7 x9)) (ix3 0 n k)).trans ?_
  rw [r6_eq, r7_eq, r9_eq]
  rw [r10_eq]
  refine (group_s 3 (by omega) x0 x1 x3 x4 x5 x7 hx7 _ n k h hh hD h5').trans ?_
  rw [l3_at]

theorem f4_at (hx7 : ∀ (r : Fin 256) (k : Fin 2048), (x7 (ix2 r k) : EReal) = if r.val % 128 = k.val / 64 then 1 else 0)
    (n : Fin 128) (k : Fin 256) (h : Fin 128) (hh : h.val = 16 + k.val / 64) (hD : ∀ j, IsReal (D x3 x4 h j)) (h5' : IsReal (x5 (ix2 0 h))) :
    (kernelRun0_A.sl.v770 c a2 h2 a3 h3 a5 h5 a6 h6 a7 h7 a9 h9 a11 h11 a14 x0 x1 x3 x4 x5 x7 x9 : Vec Ideal S1x128x256 .f32) (ix3 0 n k)
      = sS (fun j => x0 (ix2 j ⟨1024 + k.val, by omega⟩)) (D x3 x4 h) (cum (S x3 x4 x5 h)) (fun j => x1 (ix2 j ⟨512 + n.val, by omega⟩)) (x9 (ix3 0 ⟨1024 + k.val, by omega⟩ n)) := by
  unfold kernelRun0_A.sl.v770 kernelRun0_A.sl.HS0_16 kernelRun0_A.sl.HS0_15 kernelRun0_A.sl.HS0_14 kernelRun0_A.sl.HS0_13
  rw [View.readCov_skip]; rotate_left; · decide
  rw [View.readCov_skip]; rotate_left; · decide
  rw [View.readCov_skip]; rotate_left; · decide
  rw [View.readCov_cons_toLoadRect]
  refine (congrFun (s4_eq (kernelRun0_A.sl.r_6 c a5 h5 a6 h6 a7 h7 a9 h9 x3 x4 x5 x7) (kernelRun0_A.sl.r_7 c a5 h5 a6 h6 a7 h7 a9 h9 x3 x4 x5 x7) (kernelRun0_A.sl.r_9 c a2 h2 x0) (kernelRun0_A.sl.r_10 c a3 h3 x1) (kernelRun0_A.sl.v431 c a2 h2 a3 h3 a5 h5 a6 h6 a7 h7 a9 h9 a11 h11 a14 x0 x1 x3 x4 x5 x7 x9)) (ix3 0 n k)).trans ?_
  rw [r6_eq, r7_eq, r9_eq]
  rw [r10_eq]
  refine (group_s 4 (by omega) x0 x1 x3 x4 x5 x7 hx7 _ n k h hh hD h5').trans ?_
  rw [l4_at]

theorem f5_at (hx7 : ∀ (r : Fin 256) (k : Fin 2048), (x7 (ix2 r k) : EReal) = if r.val % 128 = k.val / 64 then 1 else 0)
    (n : Fin 128) (k : Fin 256) (h : Fin 128) (hh : h.val = 20 + k.val / 64) (hD : ∀ j, IsReal (D x3 x4 h j)) (h5' : IsReal (x5 (ix2 0 h))) :
    (kernelRun0_A.sl.v776 c a2 h2 a3 h3 a5 h5 a6 h6 a7 h7 a9 h9 a11 h11 a14 x0 x1 x3 x4 x5 x7 x9 : Vec Ideal S1x128x256 .f32) (ix3 0 n k)
      = sS (fun j => x0 (ix2 j ⟨1280 + k.val, by omega⟩)) (D x3 x4 h) (cum (S x3 x4 x5 h)) (fun j => x1 (ix2 j ⟨640 + n.val, by omega⟩)) (x9 (ix3 0 ⟨1280 + k.val, by omega⟩ n)) := by
  unfold kernelRun0_A.sl.v776 kernelRun0_A.sl.HS0_16 kernelRun0_A.sl.HS0_15 kernelRun0_A.sl.HS0_14
  rw [View.readCov_skip]; rotate_left; · decide
  rw [View.readCov_skip]; rotate_left; · decide
  rw [View.readCov_cons_toLoadRect]
  refine (congrFun (s5_eq (kernelRun0_A.sl.r_6 c a5 h5 a6 h6 a7 h7 a9 h9 x3 x4 x5 x7) (kernelRun0_A.sl.r_7 c a5 h5 a6 h6 a7 h7 a9 h9 x3 x4 x5 x7) (kernelRun0_A.sl.r_9 c a2 h2 x0) (kernelRun0_A.sl.r_10 c a3 h3 x1) (kernelRun0_A.sl.v512 c a2 h2 a3 h3 a5 h5 a6 h6 a7 h7 a9 h9 a11 h11 a14 x0 x1 x3 x4 x5 x7 x9)) (ix3 0 n k)).trans ?_
  rw [r6_eq, r7_eq, r9_eq]
  rw [r10_eq]
  refine (group_s 5 (by omega) x0 x1 x3 x4 x5 x7 hx7 _ n k h hh hD h5').trans ?_
  rw [l5_at]

theorem f6_at (hx7 : ∀ (r : Fin 256) (k : Fin 2048), (x7 (ix2 r k) : EReal) = if r.val % 128 = k.val / 64 then 1 else 0)
    (n : Fin 128) (k : Fin 256) (h : Fin 128) (hh : h.val = 24 + k.val / 64) (hD : ∀ j, IsReal (D x3 x4 h j)) (h5' : IsReal (x5 (ix2 0 h))) :
    (kernelRun0_A.sl.v782 c a2 h2 a3 h3 a5 h5 a6 h6 a7 h7 a9 h9 a11 h11 a14 x0 x1 x3 x4 x5 x7 x9 : Vec Ideal S1x128x256 .f32) (ix3 0 n k)
      = sS (fun j => x0 (ix2 j ⟨1536 + k.val, by omega⟩)) (D x3 x4 h) (cum (S x3 x4 x5 h)) (fun j => x1 (ix2 j ⟨768 + n.val, by omega⟩)) (x9 (ix3 0 ⟨1536 + k.val, by omega⟩ n)) := by
  unfold kernelRun0_A.sl.v782 kernelRun0_A.sl.HS0_16 kernelRun0_A.sl.HS0_15
  rw [View.readCov_skip]; rotate_left; · decide
  rw [View.readCov_cons_toLoadRect]
  refine (congrFun (s6_eq (kernelRun0_A.sl.r_6 c a5 h5 a6 h6 a7 h7 a9 h9 x3 x4 x5 x7) (kernelRun0_A.sl.r_7 c a5 h5 a6 h6 a7 h7 a9 h9 x3 x4 x5 x7) (kernelRun0_A.sl.r_9 c a2 h2 x0) (kernelRun0_A.sl.r_10 c a3 h3 x1) (kernelRun0_A.sl.v593 c a2 h2 a3 h3 a5 h5 a6 h6 a7 h7 a9 h9 a11 h11 a14 x0 x1 x3 x4 x5 x7 x9)) (ix3 0 n k)).trans ?_
  rw [r6_eq, r7_eq, r9_eq]
  rw [r10_eq]
  refine (group_s 6 (by omega) x0 x1 x3 x4 x5 x7 hx7 _ n k h hh hD h5').trans ?_
  rw [l6_at]

theorem f7_at (hx7 : ∀ (r : Fin 256) (k : Fin 2048), (x7 (ix2 r k) : EReal) = if r.val % 128 = k.val / 64 then 1 else 0)
    (n : Fin 128) (k : Fin 256) (h : Fin 128) (hh : h.val = 28 + k.val / 64) (hD : ∀ j, IsReal (D x3 x4 h j)) (h5' : IsReal (x5 (ix2 0 h))) :
    (kernelRun0_A.sl.v788 c a2 h2 a3 h3 a5 h5 a6 h6 a7 h7 a9 h9 a11 h11 a14 x0 x1 x3 x4 x5 x7 x9 : Vec Ideal S1x128x256 .f32) (ix3 0 n k)
      = sS (fun j => x0 (ix2 j ⟨1792 + k.val, by omega⟩)) (D x3 x4 h) (cum (S x3 x4 x5 h)) (fun j => x1 (ix2 j ⟨896 + n.val, by omega⟩)) (x9 (ix3 0 ⟨1792 + k.val, by omega⟩ n)) := by
  unfold kernelRun0_A.sl.v788 kernelRun0_A.sl.HS0_16
  rw [View.readCov_cons_toLoadRect]
  refine (congrFun (s7_eq (kernelRun0_A.sl.r_6 c a5 h5 a6 h6 a7 h7 a9 h9 x3 x4 x5 x7) (kernelRun0_A.sl.r_7 c a5 h5 a6 h6 a7 h7 a9 h9 x3 x4 x5 x7) (kernelRun0_A.sl.r_9 c a2 h2 x0) (kernelRun0_A.sl.r_10 c a3 h3 x1) (kernelRun0_A.sl.v674 c a2 h2 a3 h3 a5 h5 a6 h6 a7 h7 a9 h9 a11 h11 a14 x0 x1 x3 x4 x5 x7 x9)) (ix3 0 n k)).trans ?_
  rw [r6_eq, r7_eq, r9_eq]
  rw [r10_eq]
  refine (group_s 7 (by omega) x0 x1 x3 x4 x5 x7 hx7 _ n k h hh hD h5').trans ?_
  rw [l7_at]

end Cert.KernelSsdIdeal.Val
-- ==== Proof.SsdHost.lean ====
/- The scan's windows: which part of each array a grid step reads, and the arrays prepared before it. -/
module

public import proofs.«01_k».proof.Proof.SsdBody

@[expose] public section

set_option maxRecDepth 16384
noncomputable section
open Idealize.ShloMosaic Idealize.ShloMosaic.TcCoe Idealize.SL.Sem
open Idealize.ShloMosaic.Pipeline (Dat)

namespace Cert.KernelSsdIdeal.Val
open Cert.KernelSsdIdeal Cert.KernelSsdIdeal.Gen Cert.Ssd

variable (m : (ℓ : Loc nD τ sig) → Buf (Elt Ideal) ℓ)

theorem idx : ∀ t : Fin cfg0.N, win0_0.index t = ![t.val, 0] ∧ win0_1.index t = ![t.val, 2] ∧ win0_2.index t = ![t.val, 3] ∧ win0_3.index t = ![t.val, 48]
    ∧ win0_4.index t = ![0, 0] ∧ win0_5.index t = ![0, 0] ∧ win0_6.index t = ![0, 0] ∧ win0_7.index t = ![0, 0] ∧ win0_8.index t = ![0, 0]
    ∧ win0_9.index t = ![t.val, 0, 0] ∧ win0_10.index t = ![t.val, 0] ∧ win0_11.index t = ![t.val, 0, 0] :=
  (by decide +kernel : ∀ t : Fin grid0.N, _)

theorem lt32 (t : Fin cfg0.N) : t.val < 32 := t.isLt

theorem b0 (c : Dev nD) (t : Fin cfg0.N) (r : Fin 16) (k : Fin 2048) :
    (iblk m c 0 t : Vec Ideal S16x2048 .f32) (ix2 r k) = (m ((c : Thread nD τ).loc main_arg0) : Vec Ideal S512x4096 .f32) (ix2 ⟨16 * t.val + r.val, by have := lt32 t; omega⟩ ⟨k.val, by omega⟩) := by
  blk_point [iblk, V, idx t]
theorem b1 (c : Dev nD) (t : Fin cfg0.N) (r : Fin 16) (k : Fin 1024) :
    (iblk m c 1 t : Vec Ideal S16x1024 .f32) (ix2 r k) = (m ((c : Thread nD τ).loc main_arg0) : Vec Ideal S512x4096 .f32) (ix2 ⟨16 * t.val + r.val, by have := lt32 t; omega⟩ ⟨2048 + k.val, by omega⟩) := by
  blk_point [iblk, V, idx t]
theorem b2 (c : Dev nD) (t : Fin cfg0.N) (r : Fin 16) (k : Fin 1024) :
    (iblk m c 2 t : Vec Ideal S16x1024 .f32) (ix2 r k) = (m ((c : Thread nD τ).loc main_arg0) : Vec Ideal S512x4096 .f32) (ix2 ⟨16 * t.val + r.val, by have := lt32 t; omega⟩ ⟨3072 + k.val, by omega⟩) := by
  blk_point [iblk, V, idx t]
theorem b3 (c : Dev nD) (t : Fin cfg0.N) (r : Fin 16) (k : Fin 128) :
    (iblk m c 3 t : Vec Ideal S16x128 .f32) (ix2 r k) = (m ((c : Thread nD τ).loc main_arg1) : Vec Ideal S512x6272 .f32) (ix2 ⟨16 * t.val + r.val, by have := lt32 t; omega⟩ ⟨6144 + k.val, by omega⟩) := by
  blk_point [iblk, V, idx t]
theorem b9 (c : Dev nD) (t : Fin cfg0.N) (k : Fin 2048) (n : Fin 128) :
    (iblk m c 9 t : Vec Ideal S1x2048x128 .f32) (ix3 0 k n) = (m ((c : Thread nD τ).loc main_arg5) : Vec Ideal S32x2048x128 .f32) (ix3 ⟨t.val, lt32 t⟩ k n) := by
  blk_point [iblk, V, idx t]

/-- The step sizes' bias arrives padded to one row of 128. -/
theorem bias (c : Dev nD) (k : Fin 128) (hk : k.val < 32) :
    (V m c main_v25 : Vec Ideal S1x128 .f32) (ix2 0 k) = (m ((c : Thread nD τ).loc main_arg2) : Vec Ideal S32 .f32) (ix1 ⟨k.val, hk⟩) := by
  have e : ∃ z : FVec Ideal S_ .f32, (V m c main_v25 : Vec Ideal S1x128 .f32)
      = shapeCast S1x128 (pad S128 ![0] ![96] ![0] (m ((c : Thread nD τ).loc main_arg2) : Vec Ideal S32 .f32) z pads_S32_S128_0960 h_S_) shapeCasts_S128_S1x128 := by
    refine ⟨sitofp .f32 (constantI S_ 32 0#32), ?_⟩
    unfold V
    simp only [hostOps0, hostOps0_1, hostOps0_2, hostOps0_3, hostOps0_4, hostOps0_5, hostOps0_6, hostOps0_7, hostOps0_8, List.flatten_cons, List.flatten_nil, List.append_nil, List.cons_append, List.nil_append]
    entry_read
    rfl
  obtain ⟨z, e⟩ := e
  rw [e]
  pointwise
  exact dif_pos fun a => by
    obtain rfl : a = 0 := Subsingleton.elim (α := Fin 1) a 0
    exact hk

/-- So do the decays' logarithms. -/
theorem decay (c : Dev nD) (k : Fin 128) (hk : k.val < 32) :
    (V m c main_v27 : Vec Ideal S1x128 .f32) (ix2 0 k) = (m ((c : Thread nD τ).loc main_arg3) : Vec Ideal S32 .f32) (ix1 ⟨k.val, hk⟩) := by
  have e : ∃ z : FVec Ideal S_ .f32, (V m c main_v27 : Vec Ideal S1x128 .f32)
      = shapeCast S1x128 (pad S128 ![0] ![96] ![0] (m ((c : Thread nD τ).loc main_arg3) : Vec Ideal S32 .f32) z pads_S32_S128_0960 h_S_) shapeCasts_S128_S1x128 := by
    refine ⟨sitofp .f32 (constantI S_ 32 0#32), ?_⟩
    unfold V
    simp only [hostOps0, hostOps0_1, hostOps0_2, hostOps0_3, hostOps0_4, hostOps0_5, hostOps0_6, hostOps0_7, hostOps0_8, List.flatten_cons, List.flatten_nil, List.append_nil, List.cons_append, List.nil_append]
    entry_read
    rfl
  obtain ⟨z, e⟩ := e
  rw [e]
  pointwise
  exact dif_pos fun a => by
    obtain rfl : a = 0 := Subsingleton.elim (α := Fin 1) a 0
    exact hk

/-- The direct path's factors arrive one for each column. -/
theorem direct (c : Dev nD) (k : Fin 2048) :
    (V m c main_v30 : Vec Ideal S1x2048 .f32) (ix2 0 k) = (m ((c : Thread nD τ).loc main_arg4) : Vec Ideal S32 .f32) (ix1 ⟨k.val / 64, by omega⟩) := by
  have e : (V m c main_v30 : Vec Ideal S1x2048 .f32)
      = shapeCast S1x2048 (shapeCast S2048 (broadcastInDim S32x64 ![0] bcast_S32_S32x64_0 (m ((c : Thread nD τ).loc main_arg4) : Vec Ideal S32 .f32)) shapeCasts_S32x64_S2048) shapeCasts_S2048_S1x2048 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    entry_read
    rfl
  rw [e]
  pointwise

/-- Each column's head. -/
def head : IVec S2048 32 :=
  select (andi (cmpi .ne (signi (iotaInDim S2048 32 0)) (broadcastInDim S2048 ![] bcast_S_S2048 (signi (constantI S_ 32 64#32))))
      (cmpi .ne (Host.remsi (iotaInDim S2048 32 0) (broadcastInDim S2048 ![] bcast_S_S2048 (constantI S_ 32 64#32))) (broadcastInDim S2048 ![] bcast_S_S2048 (constantI S_ 32 0#32))))
    (subi (Host.divsi (iotaInDim S2048 32 0) (broadcastInDim S2048 ![] bcast_S_S2048 (constantI S_ 32 64#32))) (broadcastInDim S2048 ![] bcast_S_S2048 (constantI S_ 32 1#32)))
    (Host.divsi (iotaInDim S2048 32 0) (broadcastInDim S2048 ![] bcast_S_S2048 (constantI S_ 32 64#32)))

theorem head_at : ∀ k : Fin 2048, head (ix1 k) = BitVec.ofNat 32 (k.val / 64) := by decide +kernel

/-- Each column's head, 128 columns a head. -/
def head' : IVec S4096 32 :=
  select (andi (cmpi .ne (signi (iotaInDim S4096 32 0)) (broadcastInDim S4096 ![] bcast_S_S4096 (signi (constantI S_ 32 128#32))))
      (cmpi .ne (Host.remsi (iotaInDim S4096 32 0) (broadcastInDim S4096 ![] bcast_S_S4096 (constantI S_ 32 128#32))) (broadcastInDim S4096 ![] bcast_S_S4096 (constantI S_ 32 0#32))))
    (subi (Host.divsi (iotaInDim S4096 32 0) (broadcastInDim S4096 ![] bcast_S_S4096 (constantI S_ 32 128#32))) (broadcastInDim S4096 ![] bcast_S_S4096 (constantI S_ 32 1#32)))
    (Host.divsi (iotaInDim S4096 32 0) (broadcastInDim S4096 ![] bcast_S_S4096 (constantI S_ 32 128#32)))

theorem head'_at : ∀ k : Fin 4096, head' (ix1 k) = BitVec.ofNat 32 (k.val / 128) := by decide +kernel

theorem ofNat_eq (a b : ℕ) (ha : a < 128) (hb : b < 128) : (BitVec.ofNat 32 a = BitVec.ofNat 32 b) = (b = a) := by
  refine propext ⟨fun h => ?_, fun h => by rw [h]⟩
  have := congrArg BitVec.toNat h
  simp only [BitVec.toNat_ofNat] at this
  omega

theorem one_hot (a b : ℕ) (ha : a < 128) (hb : b < 128) :
    (FloatOps.uitofp (F := Ideal) FTy.bf16 (IntOp.cmpi CmpIPredicate.eq (BitVec.ofNat 32 a) (BitVec.ofNat 32 b)) : EReal) = if b = a then (1 : EReal) else 0 := by
  by_cases h : b = a
  · rw [if_pos h, h]
    have : IntOp.cmpi CmpIPredicate.eq (BitVec.ofNat 32 a) (BitVec.ofNat 32 a) = 1#1 := by simp [IntOp.cmpi]
    rw [this]
    show (((1#1 : BitVec 1).toNat : ℝ) : EReal) = 1
    simp
  · rw [if_neg h]
    have hn : ¬ (BitVec.ofNat 32 a = BitVec.ofNat 32 b) := by rw [ofNat_eq a b ha hb]; exact h
    have : IntOp.cmpi CmpIPredicate.eq (BitVec.ofNat 32 a) (BitVec.ofNat 32 b) = 0#1 := by
      show BitVec.ofBool (BitVec.ofNat 32 a == BitVec.ofNat 32 b) = 0#1
      rw [beq_false_of_ne hn]
      rfl
    rw [this]
    show (((0#1 : BitVec 1).toNat : ℝ) : EReal) = 0
    simp

theorem spread7 (c : Dev nD) (r : Fin 256) (k : Fin 2048) :
    ((V m c main_v11 : Vec Ideal S256x2048 .bf16) (ix2 r k) : EReal) = if r.val % 128 = k.val / 64 then (1 : EReal) else (0 : EReal) := by
  have e : (V m c main_v11 : Vec Ideal S256x2048 .bf16)
      = shapeCast S256x2048 (broadcastInDim S2x128x1x2048 ![0, 1, 2, 3] bcast_S1x128x1x2048_S2x128x1x2048_0_1_2_3
          (shapeCast S1x128x1x2048 (uitofp .bf16 (cmpi .eq (broadcastInDim S128x2048 ![0, 1] bcast_S1x2048_S128x2048_0_1 (broadcastInDim S1x2048 ![1] bcast_S2048_S1x2048_1 head))
            (broadcastInDim S128x2048 ![0, 1] bcast_S128x1_S128x2048_0_1 (broadcastInDim S128x1 ![0] bcast_S128_S128x1_0 (iotaInDim S128 32 0)))) : FVec Ideal S128x2048 .bf16) shapeCasts_S128x2048_S1x128x1x2048))
          shapeCasts_S2x128x1x2048_S256x2048 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    entry_read
    rfl
  rw [e]
  pointwise
  rw [head_at]
  exact one_hot _ _ (by omega) (Nat.mod_lt _ (by decide))

theorem spread8 (c : Dev nD) (r : Fin 384) (k : Fin 4096) :
    ((V m c main_v23 : Vec Ideal S384x4096 .bf16) (ix2 r k) : EReal) = if r.val % 128 = k.val / 128 then (1 : EReal) else (0 : EReal) := by
  have e : (V m c main_v23 : Vec Ideal S384x4096 .bf16)
      = shapeCast S384x4096 (broadcastInDim S3x128x1x4096 ![0, 1, 2, 3] bcast_S1x128x1x4096_S3x128x1x4096_0_1_2_3
          (shapeCast S1x128x1x4096 (uitofp .bf16 (cmpi .eq (broadcastInDim S128x4096 ![0, 1] bcast_S1x4096_S128x4096_0_1 (broadcastInDim S1x4096 ![1] bcast_S4096_S1x4096_1 head'))
            (broadcastInDim S128x4096 ![0, 1] bcast_S128x1_S128x4096_0_1 (broadcastInDim S128x1 ![0] bcast_S128_S128x1_0 (iotaInDim S128 32 0)))) : FVec Ideal S128x4096 .bf16) shapeCasts_S128x4096_S1x128x1x4096))
          shapeCasts_S3x128x1x4096_S384x4096 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    entry_read
    rfl
  rw [e]
  pointwise
  rw [head'_at]
  exact one_hot _ _ (by omega) (Nat.mod_lt _ (by decide))

theorem b4 (c : Dev nD) (t : Fin cfg0.N) (k : Fin 128) (hk : k.val < 32) :
    (iblk m c 4 t : Vec Ideal S1x128 .f32) (ix2 0 k) = (m ((c : Thread nD τ).loc main_arg2) : Vec Ideal S32 .f32) (ix1 ⟨k.val, hk⟩) := by
  rw [← bias m c k hk]
  blk_point [iblk, idx t]
theorem b5 (c : Dev nD) (t : Fin cfg0.N) (k : Fin 128) (hk : k.val < 32) :
    (iblk m c 5 t : Vec Ideal S1x128 .f32) (ix2 0 k) = (m ((c : Thread nD τ).loc main_arg3) : Vec Ideal S32 .f32) (ix1 ⟨k.val, hk⟩) := by
  rw [← decay m c k hk]
  blk_point [iblk, idx t]
theorem b6 (c : Dev nD) (t : Fin cfg0.N) (k : Fin 2048) :
    (iblk m c 6 t : Vec Ideal S1x2048 .f32) (ix2 0 k) = (m ((c : Thread nD τ).loc main_arg4) : Vec Ideal S32 .f32) (ix1 ⟨k.val / 64, by omega⟩) := by
  rw [← direct m c k]
  blk_point [iblk, idx t]
theorem b7 (c : Dev nD) (t : Fin cfg0.N) (r : Fin 256) (k : Fin 2048) :
    ((iblk m c 7 t : Vec Ideal S256x2048 .bf16) (ix2 r k) : EReal) = if r.val % 128 = k.val / 64 then (1 : EReal) else (0 : EReal) := by
  rw [← spread7 m c r k]
  blk_point [iblk, idx t]
theorem b8 (c : Dev nD) (t : Fin cfg0.N) (r : Fin 384) (k : Fin 4096) :
    ((iblk m c 8 t : Vec Ideal S384x4096 .bf16) (ix2 r k) : EReal) = if r.val % 128 = k.val / 128 then (1 : EReal) else (0 : EReal) := by
  rw [← spread8 m c r k]
  blk_point [iblk, idx t]

end Cert.KernelSsdIdeal.Val
-- ==== Proof.SsdRef.lean ====
/- The reference's scan at a coordinate. -/
module

public import proofs.«01_k».proof.Proof.Gen.ReferenceSsdIdeal.Run
public import proofs.«01_k».proof.Proof.SsdMath
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.ReferenceSsdIdeal.Val
open Cert.ReferenceSsdIdeal Cert.ReferenceSsdIdeal.Gen Cert.Ssd

/-- One value per head, for every row. -/
def heads (v : FVec Ideal S32 .f32) : FVec Ideal S32x16x32 .f32 :=
  broadcastInDim S32x16x32 ![0, 1, 2] bcast_S1x1x32_S32x16x32_0_1_2 (broadcastInDim S1x1x32 ![2] bcast_S32_S1x1x32_2 v)

theorem heads_at (v : FVec Ideal S32 .f32) (b : Fin 32) (i : Fin 16) (h : Fin 32) : heads v (ix3 b i h) = v (ix1 h) := by
  unfold heads
  pointwise

/-- The steps before the softplus. -/
def pre (p : FVec Ideal S512x6272 .f32) (v : FVec Ideal S32 .f32) : FVec Ideal S32x16x32 .f32 :=
  addf (shapeCast _ (extractStridedSlice S512x32 ![0, 6144] p slices_S512x6272_S512x32_0_6144) shapeCasts_S512x32_S32x16x32) (heads v)

theorem pre_at (p : FVec Ideal S512x6272 .f32) (v : FVec Ideal S32 .f32) (b : Fin 32) (i : Fin 16) (h : Fin 32) :
    pre p v (ix3 b i h) = p (ix2 ⟨16 * b.val + i.val, by omega⟩ ⟨6144 + h.val, by omega⟩) + v (ix1 h) := by
  refine (show pre p v (ix3 b i h) = shapeCast _ (extractStridedSlice S512x32 ![0, 6144] p slices_S512x6272_S512x32_0_6144) shapeCasts_S512x32_S32x16x32 (ix3 b i h)
    + heads v (ix3 b i h) from rfl).trans ?_
  rw [heads_at]
  congr 1
  pointwise
  simp only [Nat.mul_comm 16, Nat.mul_comm 64, Nat.mul_comm 128]

def zeros : FVec Ideal S32x16x32 .f32 := broadcastInDim S32x16x32 ![] bcast_S_S32x16x32 (constant S_ .f32 0x00000000#32)

theorem zeros_at (j : S32x16x32.Idx) : zeros j = 0 := by
  unfold zeros
  pointwise

/-- The softplus. -/
def soft (x : FVec Ideal S32x16x32 .f32) : FVec Ideal S32x16x32 .f32 :=
  select (cmpf .une (subf x zeros) (subf x zeros)) (addf x zeros) (addf (maximumf x zeros) (Host.log1p (Host.exp (Host.negf (Host.absf (subf x zeros))))))

theorem soft_at (x : FVec Ideal S32x16x32 .f32) (j : S32x16x32.Idx) : soft x j = sp (x j) := by
  have e : soft x j = if Ideal.cmp .une (x j - zeros j) (x j - zeros j) = 1#1 then x j + zeros j
      else max (x j) (zeros j) + Ideal.log1p (Ideal.exp (-(max (x j - zeros j) (-(x j - zeros j))))) := rfl
  rw [e, zeros_at, sub_zero, if_neg]
  · rfl
  · unfold Ideal.cmp
    simp

/-- The running sums along the rows. -/
def sums (x : FVec Ideal S32x16x32 .f32) : FVec Ideal S32x16x32 .f32 :=
  Host.reduceWindowAdd ![1, 16, 1] ![1, 1, 1] ![0, 15, 0] ![0, 0, 0] x (broadcastInDim S_ ![] bcast_S_S_ (constant S_ .f32 0x00000000#32)) reduceWindows_S32x16x32_S32x16x32_w1s1p0_0_w16s1p15_0_w1s1p0_0 h_S_

/-- The decays' steps. -/
def steps (d : FVec Ideal S32x16x32 .f32) (al : FVec Ideal S32 .f32) : FVec Ideal S32x16x32 .f32 :=
  mulf d (heads (Host.negf (Host.exp al)))

theorem steps_at (d : FVec Ideal S32x16x32 .f32) (al : FVec Ideal S32 .f32) (b : Fin 32) (i : Fin 16) (h : Fin 32) :
    steps d al (ix3 b i h) = d (ix3 b i h) * -Ideal.exp (al (ix1 h)) := by
  refine (show steps d al (ix3 b i h) = d (ix3 b i h) * heads (Host.negf (Host.exp al)) (ix3 b i h) from rfl).trans ?_
  rw [heads_at]
  rfl

/-- A value per row and head, for every channel of the head. -/
def chans (f : FVec Ideal S32x16x32 .f32) : FVec Ideal S32x16x32x64 .f32 :=
  broadcastInDim S32x16x32x64 ![0, 1, 2, 3] bcast_S32x16x32x1_S32x16x32x64_0_1_2_3 (broadcastInDim S32x16x32x1 ![0, 1, 2] bcast_S32x16x32_S32x16x32x1_0_1_2 f)

theorem chans_at (f : FVec Ideal S32x16x32 .f32) (b : Fin 32) (i : Fin 16) (h : Fin 32) (p : Fin 64) : chans f (ix4 b i h p) = f (ix3 b i h) := by
  unfold chans
  pointwise

/-- The inputs. -/
def xs (a : FVec Ideal S512x4096 .f32) : FVec Ideal S32x16x32x64 .f32 :=
  shapeCast _ (extractStridedSlice S512x2048 ![0, 0] a slices_S512x4096_S512x2048_0_0) shapeCasts_S512x2048_S32x16x32x64

theorem xs_at (a : FVec Ideal S512x4096 .f32) (b : Fin 32) (i : Fin 16) (h : Fin 32) (p : Fin 64) :
    xs a (ix4 b i h p) = a (ix2 ⟨16 * b.val + i.val, by omega⟩ ⟨64 * h.val + p.val, by omega⟩) := by
  unfold xs
  pointwise
  simp only [Nat.mul_comm 16, Nat.mul_comm 64, Nat.mul_comm 128]

/-- The keys, each group's for its four heads. -/
def bs (a : FVec Ideal S512x4096 .f32) : FVec Ideal S32x16x32x128 .f32 :=
  shapeCast _ (broadcastInDim S32x16x8x4x128 ![0, 1, 2, 4] bcast_S32x16x8x128_S32x16x8x4x128_0_1_2_4 (shapeCast _ (extractStridedSlice S512x1024 ![0, 2048] a slices_S512x4096_S512x1024_0_2048) shapeCasts_S512x1024_S32x16x8x128)) shapeCasts_S32x16x8x4x128_S32x16x32x128

theorem bs_at (a : FVec Ideal S512x4096 .f32) (b : Fin 32) (i : Fin 16) (h : Fin 32) (n : Fin 128) :
    bs a (ix4 b i h n) = a (ix2 ⟨16 * b.val + i.val, by omega⟩ ⟨2048 + (128 * (h.val / 4) + n.val), by omega⟩) := by
  unfold bs
  pointwise
  simp only [Nat.mul_comm 16, Nat.mul_comm 64, Nat.mul_comm 128]

/-- The queries, each group's for its four heads. -/
def cs (a : FVec Ideal S512x4096 .f32) : FVec Ideal S32x16x32x128 .f32 :=
  shapeCast _ (broadcastInDim S32x16x8x4x128 ![0, 1, 2, 4] bcast_S32x16x8x128_S32x16x8x4x128_0_1_2_4 (shapeCast _ (extractStridedSlice S512x1024 ![0, 3072] a slices_S512x4096_S512x1024_0_3072) shapeCasts_S512x1024_S32x16x8x128)) shapeCasts_S32x16x8x4x128_S32x16x32x128

theorem cs_at (a : FVec Ideal S512x4096 .f32) (b : Fin 32) (i : Fin 16) (h : Fin 32) (n : Fin 128) :
    cs a (ix4 b i h n) = a (ix2 ⟨16 * b.val + i.val, by omega⟩ ⟨3072 + (128 * (h.val / 4) + n.val), by omega⟩) := by
  unfold cs
  pointwise
  simp only [Nat.mul_comm 16, Nat.mul_comm 64, Nat.mul_comm 128]

/-- The incoming states, a head at a time. -/
def st (s : FVec Ideal S32x2048x128 .f32) : FVec Ideal S32x32x64x128 .f32 := shapeCast _ s shapeCasts_S32x2048x128_S32x32x64x128

theorem st_at (s : FVec Ideal S32x2048x128 .f32) (b h : Fin 32) (p : Fin 64) (n : Fin 128) :
    st s (ix4 b h p n) = s (ix3 b ⟨64 * h.val + p.val, by omega⟩ n) := by
  unfold st
  pointwise
  simp only [Nat.mul_comm 16, Nat.mul_comm 64, Nat.mul_comm 128]

/-- The earlier rows and the row itself. -/
def tril : IVec S32x16x16x32 1 :=
  broadcastInDim S32x16x16x32 ![1, 2, 3] bcast_S16x16x1_S32x16x16x32_1_2_3 (broadcastInDim S16x16x1 ![0, 1] bcast_S16x16_S16x16x1_0_1 (select (cmpi .sge (addi (iotaInDim S16x16 32 0) (broadcastInDim S16x16 ![] bcast_S_S16x16 (constantI S_ 32 0#32))) (iotaInDim S16x16 32 1)) (broadcastInDim S16x16 ![] bcast_S_S16x16 (constantI S_ 1 1#1)) (broadcastInDim S16x16 ![] bcast_S_S16x16 (constantI S_ 1 0#1))))

theorem tril16 : ∀ i j : Fin 16, (if Scalar.cmpi .sge ((BitVec.ofNat 32 i.val) + 0#32) (BitVec.ofNat 32 j.val) = 1#1 then 1#1 else 0#1) = if j ≤ i then 1#1 else 0#1 := by decide +kernel

theorem tril_at (b : Fin 32) (i j : Fin 16) (h : Fin 32) : tril (ix4 b i j h) = if j ≤ i then 1#1 else 0#1 := by
  rw [← tril16]
  rfl

/-- The decay between two rows. -/
def decay (s : FVec Ideal S32x16x32 .f32) : FVec Ideal S32x16x16x32 .f32 :=
  Host.exp (select tril (subf (broadcastInDim S32x16x16x32 ![0, 1, 2, 3] bcast_S32x16x1x32_S32x16x16x32_0_1_2_3 (broadcastInDim S32x16x1x32 ![0, 1, 3] bcast_S32x16x32_S32x16x1x32_0_1_3 s))
      (broadcastInDim S32x16x16x32 ![0, 1, 2, 3] bcast_S32x1x16x32_S32x16x16x32_0_1_2_3 (broadcastInDim S32x1x16x32 ![0, 2, 3] bcast_S32x16x32_S32x1x16x32_0_2_3 s)))
    (broadcastInDim S32x16x16x32 ![] bcast_S_S32x16x16x32 (id (constant S_ .f32 0xFF800000#32))))

theorem negInf : Ideal.ofBits .f32 0xFF800000#32 = ⊥ := by
  unfold Ideal.ofBits; rfl

theorem decay_at (s : FVec Ideal S32x16x32 .f32) (b : Fin 32) (i j : Fin 16) (h : Fin 32) :
    decay s (ix4 b i j h) = if j ≤ i then Ideal.exp (s (ix3 b i h) - s (ix3 b j h)) else 0 := by
  have e : decay s (ix4 b i j h) = Ideal.exp (if tril (ix4 b i j h) = 1#1 then
      (broadcastInDim S32x16x16x32 ![0, 1, 2, 3] bcast_S32x16x1x32_S32x16x16x32_0_1_2_3 (broadcastInDim S32x16x1x32 ![0, 1, 3] bcast_S32x16x32_S32x16x1x32_0_1_3 s)) (ix4 b i j h)
      - (broadcastInDim S32x16x16x32 ![0, 1, 2, 3] bcast_S32x1x16x32_S32x16x16x32_0_1_2_3 (broadcastInDim S32x1x16x32 ![0, 2, 3] bcast_S32x16x32_S32x1x16x32_0_2_3 s)) (ix4 b i j h)
      else Ideal.ofBits .f32 0xFF800000#32) := rfl
  rw [e, tril_at, negInf]
  by_cases hj : j ≤ i
  · rw [if_pos hj, if_pos hj, if_pos rfl]
    congr 1
    congr 1 <;> pointwise
  · rw [if_neg hj, if_neg hj, if_neg (by decide)]
    rfl

/-- The products of keys and queries. -/
def cb (B C : FVec Ideal S32x16x32x128 .f32) : FVec Ideal S32x16x16x32 .f32 :=
  transpose S32x16x16x32 [0, 3, 2, 1] (Host.dotGeneral dot_S32x16x32x128_S32x16x32x128_S32x32x16x16_3_3_1_1_02_02 none B C) transposes_S32x32x16x16_S32x16x16x32_0_3_2_1

theorem cb_at (B C : FVec Ideal S32x16x32x128 .f32) (b : Fin 32) (i j : Fin 16) (h : Fin 32) :
    cb B C (ix4 b i j h) = ∑ n : Fin 128, B (ix4 b j h n) * C (ix4 b i h n) := by
  unfold cb
  pointwise

/-- The rows' own part. -/
def diag (xd : FVec Ideal S32x16x32x64 .f32) (w : FVec Ideal S32x16x16x32 .f32) : FVec Ideal S32x16x32x64 .f32 :=
  transpose S32x16x32x64 [0, 3, 1, 2] (Host.dotGeneral dot_S32x16x32x64_S32x16x16x32_S32x32x64x16_1_2_3_1_02_03 none xd w) transposes_S32x32x64x16_S32x16x32x64_0_3_1_2

theorem diag_at (xd : FVec Ideal S32x16x32x64 .f32) (w : FVec Ideal S32x16x16x32 .f32) (b : Fin 32) (i : Fin 16) (h : Fin 32) (p : Fin 64) :
    diag xd w (ix4 b i h p) = ∑ j : Fin 16, xd (ix4 b j h p) * w (ix4 b i j h) := by
  unfold diag
  pointwise

/-- The incoming state's part. -/
def off (s : FVec Ideal S32x32x64x128 .f32) (C : FVec Ideal S32x16x32x128 .f32) : FVec Ideal S32x16x32x64 .f32 :=
  transpose S32x16x32x64 [0, 3, 1, 2] (Host.dotGeneral dot_S32x32x64x128_S32x16x32x128_S32x32x64x16_3_3_2_1_01_02 none s C) transposes_S32x32x64x16_S32x16x32x64_0_3_1_2

theorem off_at (s : FVec Ideal S32x32x64x128 .f32) (C : FVec Ideal S32x16x32x128 .f32) (b : Fin 32) (i : Fin 16) (h : Fin 32) (p : Fin 64) :
    off s C (ix4 b i h p) = ∑ n : Fin 128, s (ix4 b h p n) * C (ix4 b i h n) := by
  unfold off
  pointwise

/-- The skip weights. -/
def skip (d : FVec Ideal S32 .f32) : FVec Ideal S32x16x32x64 .f32 :=
  broadcastInDim S32x16x32x64 ![0, 1, 2, 3] bcast_S1x1x32x1_S32x16x32x64_0_1_2_3 (broadcastInDim S1x1x32x1 ![2, 3] bcast_S32x1_S1x1x32x1_2_3 (broadcastInDim S32x1 ![0] bcast_S32_S32x1_0 d))

theorem skip_at (d : FVec Ideal S32 .f32) (b : Fin 32) (i : Fin 16) (h : Fin 32) (p : Fin 64) : skip d (ix4 b i h p) = d (ix1 h) := by
  unfold skip
  pointwise

/-- The outputs, the steps and their sums given. -/
def outs (a : FVec Ideal S512x4096 .f32) (dt ac : FVec Ideal S32x16x32 .f32) (d : FVec Ideal S32 .f32) (s : FVec Ideal S32x2048x128 .f32) : FVec Ideal S512x2048 .f32 :=
  shapeCast _ (addf (addf (diag (mulf (xs a) (chans dt)) (mulf (cb (bs a) (cs a)) (decay ac))) (mulf (off (st s) (cs a)) (chans (Host.exp ac)))) (mulf (xs a) (skip d))) shapeCasts_S32x16x32x64_S512x2048

theorem flat_at (f : FVec Ideal S32x16x32x64 .f32) (r : Fin 512) (k : Fin 2048) :
    shapeCast S512x2048 f shapeCasts_S32x16x32x64_S512x2048 (ix2 r k) = f (ix4 ⟨r.val / 16, by omega⟩ ⟨r.val % 16, by omega⟩ ⟨k.val / 64, by omega⟩ ⟨k.val % 64, by omega⟩) := by
  pointwise

theorem outs_at (a : FVec Ideal S512x4096 .f32) (dt ac : FVec Ideal S32x16x32 .f32) (d : FVec Ideal S32 .f32) (s : FVec Ideal S32x2048x128 .f32)
    (r : Fin 512) (k : Fin 2048) (b : Fin 32) (i : Fin 16) (h : Fin 32) (hr : r.val = 16 * b.val + i.val) (hk : k.val / 64 = h.val) :
    outs a dt ac d s (ix2 r k) = yS (fun j => a (ix2 ⟨16 * b.val + j.val, by omega⟩ ⟨k.val, by omega⟩)) (fun j => dt (ix3 b j h)) (fun j => ac (ix3 b j h))
      (fun j n => a (ix2 ⟨16 * b.val + j.val, by omega⟩ ⟨2048 + (128 * (h.val / 4) + n.val), by omega⟩))
      (fun j n => a (ix2 ⟨16 * b.val + j.val, by omega⟩ ⟨3072 + (128 * (h.val / 4) + n.val), by omega⟩))
      (fun n => s (ix3 b k n)) (d (ix1 h)) i := by
  unfold outs
  rw [flat_at]
  have eb : (⟨r.val / 16, by omega⟩ : Fin 32) = b := Fin.ext (by dsimp only; omega)
  have ei : (⟨r.val % 16, by omega⟩ : Fin 16) = i := Fin.ext (by dsimp only; omega)
  have eh : (⟨k.val / 64, by omega⟩ : Fin 32) = h := Fin.ext hk
  rw [eb, ei, eh]
  refine (show _ = diag (mulf (xs a) (chans dt)) (mulf (cb (bs a) (cs a)) (decay ac)) (ix4 b i h ⟨k.val % 64, by omega⟩)
    + off (st s) (cs a) (ix4 b i h ⟨k.val % 64, by omega⟩) * chans (Host.exp ac) (ix4 b i h ⟨k.val % 64, by omega⟩)
    + xs a (ix4 b i h ⟨k.val % 64, by omega⟩) * skip d (ix4 b i h ⟨k.val % 64, by omega⟩) from rfl).trans ?_
  rw [diag_at, off_at, chans_at, skip_at]
  have ek : (⟨64 * h.val + k.val % 64, by omega⟩ : Fin 2048) = k := Fin.ext (by dsimp only; omega)
  have ek' : ∀ (hh : 64 * h.val + k.val % 64 < 4096) , (⟨64 * h.val + k.val % 64, hh⟩ : Fin 4096) = ⟨k.val, by omega⟩ := fun hh => Fin.ext (by dsimp only; omega)
  unfold yS
  simp only [xs_at, st_at, cs_at, ek, ek']
  congr 2
  refine Finset.sum_congr rfl fun j _ => ?_
  refine (show _ = (xs a (ix4 b j h ⟨k.val % 64, by omega⟩) * chans dt (ix4 b j h ⟨k.val % 64, by omega⟩))
    * (cb (bs a) (cs a) (ix4 b i j h) * decay ac (ix4 b i j h)) from rfl).trans ?_
  rw [chans_at, cb_at, decay_at, xs_at, ek']
  simp only [bs_at, cs_at]

/-- The last row's value for every row. -/
def lastRow (s : FVec Ideal S32x16x32 .f32) : FVec Ideal S32x16x32 .f32 :=
  broadcastInDim S32x16x32 ![0, 1, 2] bcast_S32x1x32_S32x16x32_0_1_2 (extractStridedSlice S32x1x32 ![0, 15, 0] s slices_S32x16x32_S32x1x32_0_15_0)

theorem lastRow_at (s : FVec Ideal S32x16x32 .f32) (b : Fin 32) (i : Fin 16) (h : Fin 32) : lastRow s (ix3 b i h) = s (ix3 b 15 h) := by
  unfold lastRow
  pointwise

/-- What each row adds to the state. -/
def added (xw : FVec Ideal S32x16x32x64 .f32) (B : FVec Ideal S32x16x32x128 .f32) : FVec Ideal S32x32x64x128 .f32 :=
  Host.dotGeneral dot_S32x16x32x64_S32x16x32x128_S32x32x64x128_1_1_3_3_02_02 none xw B

theorem added_at (xw : FVec Ideal S32x16x32x64 .f32) (B : FVec Ideal S32x16x32x128 .f32) (b h : Fin 32) (p : Fin 64) (n : Fin 128) :
    added xw B (ix4 b h p n) = ∑ j : Fin 16, xw (ix4 b j h p) * B (ix4 b j h n) := by
  unfold added
  pointwise

/-- The whole chunk's decay. -/
def total (s : FVec Ideal S32x16x32 .f32) : FVec Ideal S32x32x64x128 .f32 :=
  broadcastInDim S32x32x64x128 ![0, 1, 2, 3] bcast_S32x32x1x1_S32x32x64x128_0_1_2_3 (broadcastInDim S32x32x1x1 ![0, 1] bcast_S32x32_S32x32x1x1_0_1 (Host.exp (shapeCast _ (extractStridedSlice S32x1x32 ![0, 15, 0] s slices_S32x16x32_S32x1x32_0_15_0) shapeCasts_S32x1x32_S32x32)))

theorem total_at (s : FVec Ideal S32x16x32 .f32) (b h : Fin 32) (p : Fin 64) (n : Fin 128) : total s (ix4 b h p n) = Ideal.exp (s (ix3 b 15 h)) := by
  unfold total
  pointwise

/-- The outgoing states, the steps and their sums given. -/
def states (a : FVec Ideal S512x4096 .f32) (dt ac : FVec Ideal S32x16x32 .f32) (s : FVec Ideal S32x2048x128 .f32) : FVec Ideal S32x2048x128 .f32 :=
  shapeCast _ (addf (mulf (total ac) (st s)) (added (mulf (mulf (xs a) (chans dt)) (chans (Host.exp (subf (lastRow ac) ac)))) (bs a))) shapeCasts_S32x32x64x128_S32x2048x128

theorem flatS_at (f : FVec Ideal S32x32x64x128 .f32) (b : Fin 32) (k : Fin 2048) (n : Fin 128) :
    shapeCast S32x2048x128 f shapeCasts_S32x32x64x128_S32x2048x128 (ix3 b k n) = f (ix4 b ⟨k.val / 64, by omega⟩ ⟨k.val % 64, by omega⟩ n) := by
  pointwise

theorem states_at (a : FVec Ideal S512x4096 .f32) (dt ac : FVec Ideal S32x16x32 .f32) (s : FVec Ideal S32x2048x128 .f32)
    (b : Fin 32) (k : Fin 2048) (n : Fin 128) (h : Fin 32) (hk : k.val / 64 = h.val) :
    states a dt ac s (ix3 b k n) = sS (fun j => a (ix2 ⟨16 * b.val + j.val, by omega⟩ ⟨k.val, by omega⟩)) (fun j => dt (ix3 b j h)) (fun j => ac (ix3 b j h))
      (fun j => a (ix2 ⟨16 * b.val + j.val, by omega⟩ ⟨2048 + (128 * (h.val / 4) + n.val), by omega⟩)) (s (ix3 b k n)) := by
  unfold states
  rw [flatS_at]
  have eh : (⟨k.val / 64, by omega⟩ : Fin 32) = h := Fin.ext hk
  rw [eh]
  refine (show _ = total ac (ix4 b h ⟨k.val % 64, by omega⟩ n) * st s (ix4 b h ⟨k.val % 64, by omega⟩ n)
    + added (mulf (mulf (xs a) (chans dt)) (chans (Host.exp (subf (lastRow ac) ac)))) (bs a) (ix4 b h ⟨k.val % 64, by omega⟩ n) from rfl).trans ?_
  rw [total_at, st_at, added_at]
  have ek : (⟨64 * h.val + k.val % 64, by omega⟩ : Fin 2048) = k := Fin.ext (by dsimp only; omega)
  have ek' : ∀ (hh : 64 * h.val + k.val % 64 < 4096) , (⟨64 * h.val + k.val % 64, hh⟩ : Fin 4096) = ⟨k.val, by omega⟩ := fun hh => Fin.ext (by dsimp only; omega)
  rw [ek]
  unfold sS
  congr 1
  refine Finset.sum_congr rfl fun j _ => ?_
  refine (show _ = xs a (ix4 b j h ⟨k.val % 64, by omega⟩) * chans dt (ix4 b j h ⟨k.val % 64, by omega⟩)
    * chans (Host.exp (subf (lastRow ac) ac)) (ix4 b j h ⟨k.val % 64, by omega⟩) * bs a (ix4 b j h n) from rfl).trans ?_
  rw [chans_at, chans_at, bs_at, xs_at, ek']
  congr 2
  refine (show _ = Ideal.exp (lastRow ac (ix3 b j h) - ac (ix3 b j h)) from rfl).trans ?_
  rw [lastRow_at]

/-- The results, composed of the above. -/
theorem res_y (m : (ℓ : Loc nD τ sig) → Buf (Elt Ideal) ℓ) (c : Dev nD) :
    Cert.ReferenceSsdIdeal.Value.res_main_v68 m c = outs (m ((c : Thread nD τ).loc main_arg0))
      (soft (pre (m ((c : Thread nD τ).loc main_arg1)) (m ((c : Thread nD τ).loc main_arg2))))
      (sums (steps (soft (pre (m ((c : Thread nD τ).loc main_arg1)) (m ((c : Thread nD τ).loc main_arg2)))) (m ((c : Thread nD τ).loc main_arg3))))
      (m ((c : Thread nD τ).loc main_arg4)) (m ((c : Thread nD τ).loc main_arg5)) := rfl

theorem res_s (m : (ℓ : Loc nD τ sig) → Buf (Elt Ideal) ℓ) (c : Dev nD) :
    Cert.ReferenceSsdIdeal.Value.res_main_v69 m c = states (m ((c : Thread nD τ).loc main_arg0))
      (soft (pre (m ((c : Thread nD τ).loc main_arg1)) (m ((c : Thread nD τ).loc main_arg2))))
      (sums (steps (soft (pre (m ((c : Thread nD τ).loc main_arg1)) (m ((c : Thread nD τ).loc main_arg2)))) (m ((c : Thread nD τ).loc main_arg3))))
      (m ((c : Thread nD τ).loc main_arg5)) := rfl

end Cert.ReferenceSsdIdeal.Val
-- ==== Proof.SsdCum.lean ====
/- The reference's running sums at a coordinate. -/
module

public import proofs.«01_k».proof.Proof.SsdRef

@[expose] public section

set_option maxRecDepth 16384
noncomputable section
open Idealize.ShloMosaic Idealize.ShloMosaic.TcCoe Idealize.SL.Sem

namespace Cert.ReferenceSsdIdeal.Val
open Cert.ReferenceSsdIdeal Cert.ReferenceSsdIdeal.Gen Cert.Ssd

theorem foldl_sum {α : Type} (g : α → EReal) (l : List α) : ∀ r : EReal, l.foldl (fun r n => r + g n) r = r + (l.map g).sum := by
  induction l with
  | nil => intro r; simp
  | cons a l ih => intro r; rw [List.foldl_cons, ih, List.map_cons, List.sum_cons, add_assoc]

/-- One term of a window's sum: the element `i + n - 15` where it exists. -/
def term (f : Fin 16 → EReal) (i n : Fin 16) : EReal := if h : 15 ≤ i.val + n.val then f ⟨i.val + n.val - 15, by omega⟩ else 0

theorem term_sum (f : Fin 16 → EReal) (i : Fin 16) : ∑ n, term f i n = cum f i := by
  unfold cum
  refine Finset.sum_nbij' (i := fun n : Fin 16 => (n + i + 1 : Fin 16)) (j := fun j : Fin 16 => (j - i - 1 : Fin 16)) (fun _ _ => Finset.mem_univ _) (fun _ _ => Finset.mem_univ _)
    (fun n _ => by abel) (fun n _ => by abel) fun n _ => ?_
  unfold term
  have e : ((n + i + 1 : Fin 16)).val = (n.val + i.val + 1) % 16 := by
    rw [Fin.val_add, Fin.val_add]
    show ((n.val + i.val) % 16 + 1) % 16 = _
    omega
  by_cases h : 15 ≤ i.val + n.val
  · rw [dif_pos h, if_pos (by rw [Fin.le_def, e]; omega)]
    exact congrArg f (Fin.ext (by rw [e]; dsimp only; omega))
  · rw [dif_neg h, if_neg (by rw [Fin.le_def, e]; omega)]

theorem win_at (x : FVec Ideal S32x16x32 .f32) (b : Fin 32) (i : Fin 16) (h : Fin 32) (w : (⟨3, ![1, 16, 1]⟩ : Shape).Idx)
    {_d : Decidable (∀ a : Fin 3, (![0, 15, 0] : Fin 3 → ℕ) a ≤ ((ix3 b i h : S32x16x32.Idx) a).val * (![1, 1, 1] : Fin 3 → ℕ) a + (w a).val
        ∧ ((ix3 b i h : S32x16x32.Idx) a).val * (![1, 1, 1] : Fin 3 → ℕ) a + (w a).val - (![0, 15, 0] : Fin 3 → ℕ) a < S32x16x32.size a)} :
    (if hin : ∀ a : Fin 3, (![0, 15, 0] : Fin 3 → ℕ) a ≤ ((ix3 b i h : S32x16x32.Idx) a).val * (![1, 1, 1] : Fin 3 → ℕ) a + (w a).val
        ∧ ((ix3 b i h : S32x16x32.Idx) a).val * (![1, 1, 1] : Fin 3 → ℕ) a + (w a).val - (![0, 15, 0] : Fin 3 → ℕ) a < S32x16x32.size a
      then x (fun a => ⟨((ix3 b i h : S32x16x32.Idx) a).val * (![1, 1, 1] : Fin 3 → ℕ) a + (w a).val - (![0, 15, 0] : Fin 3 → ℕ) a, (hin a).2⟩) else (0 : EReal))
      = term (fun j => x (ix3 b j h)) i (w 1) := by
  have w0 : (w 0).val < 1 := (w 0).isLt
  have w1 : (w 1).val < 16 := (w 1).isLt
  have w2 : (w 2).val < 1 := (w 2).isLt
  unfold term
  by_cases h15 : 15 ≤ i.val + (w 1).val
  · rw [dif_pos h15, dif_pos]
    · refine congrArg x ?_
      funext a; apply Fin.ext
      match a with
      | ⟨0, _⟩ => show b.val * 1 + (w 0).val - 0 = b.val; omega
      | ⟨1, _⟩ => show i.val * 1 + (w 1).val - 15 = i.val + (w 1).val - 15; omega
      | ⟨2, _⟩ => show h.val * 1 + (w 2).val - 0 = h.val; omega
    · intro a
      match a with
      | ⟨0, _⟩ => show 0 ≤ b.val * 1 + (w 0).val ∧ b.val * 1 + (w 0).val - 0 < 32; omega
      | ⟨1, _⟩ => show 15 ≤ i.val * 1 + (w 1).val ∧ i.val * 1 + (w 1).val - 15 < 16; omega
      | ⟨2, _⟩ => show 0 ≤ h.val * 1 + (w 2).val ∧ h.val * 1 + (w 2).val - 0 < 32; omega
  · rw [dif_neg h15, dif_neg]
    intro hin
    have h1 : 15 ≤ i.val * 1 + (w 1).val := (hin 1).1
    omega

theorem sums_at (x : FVec Ideal S32x16x32 .f32) (b : Fin 32) (i : Fin 16) (h : Fin 32) :
    sums x (ix3 b i h) = cum (fun j => x (ix3 b j h)) i := by
  have e0 : (broadcastInDim S_ ![] bcast_S_S_ (constant S_ .f32 0x00000000#32) : FVec Ideal S_ .f32) (Shape.Idx.first h_S_) = 0 := by pointwise
  have e1 : sums x (ix3 b i h) = Ideal.hostReduceWindowAdd ![1, 16, 1] ![1, 1, 1] ![0, 15, 0] ![0, 0, 0] reduceWindows_S32x16x32_S32x16x32_w1s1p0_0_w16s1p15_0_w1s1p0_0 x
    ((broadcastInDim S_ ![] bcast_S_S_ (constant S_ .f32 0x00000000#32) : FVec Ideal S_ .f32) (Shape.Idx.first h_S_)) (ix3 b i h) := rfl
  rw [e1, e0, ← term_sum]
  unfold Ideal.hostReduceWindowAdd Host.reduceWindow
  rw [foldl_sum, zero_add, ← Fin.sum_univ_def]
  dsimp only
  let W : Shape := ⟨3, ![1, 16, 1]⟩
  let g : W.Idx → EReal := fun w => term (fun j => x (ix3 b j h)) i (w 1)
  have eg : ∀ n : Fin 16, term (fun j => x (ix3 b j h)) i n = g (ix3 0 n 0) := fun n => rfl
  have es : ∑ w : W.Idx, g w = ∑ n : Fin 16, term (fun j => x (ix3 b j h)) i n := by
    refine Finset.sum_nbij' (i := fun w : W.Idx => (w 1 : Fin 16)) (j := fun n : Fin 16 => (ix3 0 n 0 : W.Idx)) (fun _ _ => Finset.mem_univ _) (fun _ _ => Finset.mem_univ _)
      (fun w _ => ?_) (fun n _ => rfl) fun n _ => rfl
    funext a
    match a with
    | ⟨0, _⟩ => exact Subsingleton.elim (α := Fin 1) _ _
    | ⟨1, _⟩ => rfl
    | ⟨2, _⟩ => exact Subsingleton.elim (α := Fin 1) _ _
  rw [← es]
  rw [← Equiv.sum_comp W.rowMajor.symm g]
  exact Finset.sum_congr rfl fun n _ => win_at x b i h (W.rowMajor.symm n)

end Cert.ReferenceSsdIdeal.Val
-- ==== Proof.Ssd.lean ====
/- The scan: the kernel's rows and states are the reference's, where step sizes and decays are finite. -/
module

public import proofs.«01_k».proof.Proof.SsdLoads
public import proofs.«01_k».proof.Proof.SsdHost
public import proofs.«01_k».proof.Proof.SsdCum
public import proofs.«01_k».proof.Defs

@[expose] public section

set_option maxRecDepth 16384
noncomputable section
open Idealize.ShloMosaic Idealize.ShloMosaic.TcCoe Idealize.SL.Sem
open Idealize.ShloMosaic.Pipeline (Dat)

namespace Cert.KernelSsdIdeal.Val
open Cert.KernelSsdIdeal Cert.KernelSsdIdeal.Gen Cert.Ssd

/-- The reference's step sizes. -/
def DT (p : FVec Ideal S512x6272 .f32) (v : FVec Ideal S32 .f32) : FVec Ideal Cert.ReferenceSsdIdeal.S32x16x32 .f32 :=
  Cert.ReferenceSsdIdeal.Val.soft (Cert.ReferenceSsdIdeal.Val.pre p v)
/-- The reference's summed decays. -/
def AC (p : FVec Ideal S512x6272 .f32) (v al : FVec Ideal S32 .f32) : FVec Ideal Cert.ReferenceSsdIdeal.S32x16x32 .f32 :=
  Cert.ReferenceSsdIdeal.Val.sums (Cert.ReferenceSsdIdeal.Val.steps (DT p v) al)
/-- The reference's rows. -/
def REFY (a : FVec Ideal S512x4096 .f32) (p : FVec Ideal S512x6272 .f32) (v al d : FVec Ideal S32 .f32) (s : FVec Ideal S32x2048x128 .f32) : FVec Ideal S512x2048 .f32 :=
  Cert.ReferenceSsdIdeal.Val.outs a (DT p v) (AC p v al) d s
/-- The reference's states. -/
def REFS (a : FVec Ideal S512x4096 .f32) (p : FVec Ideal S512x6272 .f32) (v al : FVec Ideal S32 .f32) (s : FVec Ideal S32x2048x128 .f32) : FVec Ideal S32x2048x128 .f32 :=
  Cert.ReferenceSsdIdeal.Val.states a (DT p v) (AC p v al) s

/-- The step sizes before their softplus, and the decays' logarithms, are real numbers. -/
def Finite (p : FVec Ideal S512x6272 .f32) (v al : FVec Ideal S32 .f32) : Prop :=
  (∀ (i : Fin 512) (h : Fin 32), IsReal (p (ix2 i ⟨6144 + h.val, by omega⟩))) ∧ (∀ h : Fin 32, IsReal (v (ix1 h))) ∧ (∀ h : Fin 32, IsReal (al (ix1 h)))

theorem at2 {n k : ℕ} {α : Type} (f : (⟨2, ![n, k]⟩ : Shape).Idx → α) {a a' : Fin n} {b b' : Fin k} (h : a.val = a'.val) (h' : b.val = b'.val) :
    f (ix2 a b) = f (ix2 a' b') := by rw [Fin.ext h, Fin.ext h']

variable (m : (ℓ : Loc nD τ sig) → Buf (Elt Ideal) ℓ)

theorem steps_eq (c : Dev nD) (t : Fin cfg0.N) (h : Fin 128) (hh : h.val < 32) (j : Fin 16) :
    D (iblk m c 3 t) (iblk m c 4 t) h j = DT (m ((c : Thread nD τ).loc main_arg1)) (m ((c : Thread nD τ).loc main_arg2)) (ix3 ⟨t.val, lt32 t⟩ j ⟨h.val, hh⟩) := by
  unfold D DT
  rw [b3, b4 m c t h hh, Cert.ReferenceSsdIdeal.Val.soft_at, Cert.ReferenceSsdIdeal.Val.pre_at]

theorem sums_eq (c : Dev nD) (t : Fin cfg0.N) (h : Fin 128) (hh : h.val < 32) (j : Fin 16) :
    cum (S (iblk m c 3 t) (iblk m c 4 t) (iblk m c 5 t) h) j = AC (m ((c : Thread nD τ).loc main_arg1)) (m ((c : Thread nD τ).loc main_arg2)) (m ((c : Thread nD τ).loc main_arg3)) (ix3 ⟨t.val, lt32 t⟩ j ⟨h.val, hh⟩) := by
  unfold AC
  rw [Cert.ReferenceSsdIdeal.Val.sums_at]
  refine congrArg (fun f => cum f j) (funext fun i => ?_)
  rw [Cert.ReferenceSsdIdeal.Val.steps_at, ← steps_eq m c t h hh]
  unfold S
  rw [b5 m c t h hh]

section
variable (c : Dev nD) (t : Fin cfg0.N) (hf : Finite (m ((c : Thread nD τ).loc main_arg1)) (m ((c : Thread nD τ).loc main_arg2)) (m ((c : Thread nD τ).loc main_arg3)))
include hf

theorem real_D (h : Fin 128) (hh : h.val < 32) (j : Fin 16) : IsReal (D (iblk m c 3 t) (iblk m c 4 t) h j) := by
  unfold D
  refine real_sp (real_add ?_ ?_)
  · rw [b3]
    exact hf.1 ⟨16 * t.val + j.val, by have := lt32 t; omega⟩ ⟨h.val, hh⟩
  · rw [b4 m c t h hh]
    exact hf.2.1 ⟨h.val, hh⟩

theorem real_5 (h : Fin 128) (hh : h.val < 32) : IsReal ((iblk m c 5 t : Vec Ideal S1x128 .f32) (ix2 0 h)) := by
  rw [b5 m c t h hh]
  exact hf.2.2 ⟨h.val, hh⟩
end

/-- One state element, over the blocks and over the arrays. -/
theorem state_val (c : Dev nD) (t : Fin cfg0.N) (k : Fin 2048) (n : Fin 128) (h : Fin 128) (hh : h.val = k.val / 64) (q : Fin 1024) (hq : q.val = 128 * (k.val / 256) + n.val)
    (k' : Fin 2048) (hk : k'.val = k.val) (n' : Fin 128) (hn : n'.val = n.val) :
    sS (fun j => (iblk m c 0 t : Vec Ideal S16x2048 .f32) (ix2 j k)) (D (iblk m c 3 t) (iblk m c 4 t) h) (cum (S (iblk m c 3 t) (iblk m c 4 t) (iblk m c 5 t) h))
      (fun j => (iblk m c 1 t : Vec Ideal S16x1024 .f32) (ix2 j q)) ((iblk m c 9 t : Vec Ideal S1x2048x128 .f32) (ix3 0 k n))
      = REFS (m ((c : Thread nD τ).loc main_arg0)) (m ((c : Thread nD τ).loc main_arg1)) (m ((c : Thread nD τ).loc main_arg2)) (m ((c : Thread nD τ).loc main_arg3)) (m ((c : Thread nD τ).loc main_arg5)) (ix3 ⟨t.val, lt32 t⟩ k' n') := by
  obtain rfl : k' = k := Fin.ext hk
  obtain rfl : n' = n := Fin.ext hn
  have h32 : h.val < 32 := by omega
  unfold REFS
  rw [Cert.ReferenceSsdIdeal.Val.states_at _ _ _ _ _ _ _ ⟨h.val, h32⟩ hh.symm, b9]
  simp only [← steps_eq m c t h h32, ← sums_eq m c t h h32, b0, b1]
  congr 1
  funext j
  exact at2 (n := 512) (k := 4096) (m ((c : Thread nD τ).loc main_arg0)) rfl (by dsimp only; omega)

/-- One row element, over the blocks and over the arrays. -/
theorem row_val (c : Dev nD) (t : Fin cfg0.N) (i : Fin 16) (k : Fin 2048) (h : Fin 128) (hh : h.val = k.val / 64) (q : Fin 128 → Fin 1024) (hq : ∀ n, (q n).val = 128 * (k.val / 256) + n.val)
    (v : Fin 128 → EReal) (hv : ∀ n, v n = (iblk m c 9 t : Vec Ideal S1x2048x128 .f32) (ix3 0 k n)) (d : EReal) (hd : d = (iblk m c 6 t : Vec Ideal S1x2048 .f32) (ix2 0 k))
    (r' : Fin 512) (hr : r'.val = 16 * t.val + i.val) (k' : Fin 2048) (hk : k'.val = k.val) :
    yS (fun j => (iblk m c 0 t : Vec Ideal S16x2048 .f32) (ix2 j k)) (D (iblk m c 3 t) (iblk m c 4 t) h) (cum (S (iblk m c 3 t) (iblk m c 4 t) (iblk m c 5 t) h))
      (fun j n => (iblk m c 1 t : Vec Ideal S16x1024 .f32) (ix2 j (q n))) (fun j n => (iblk m c 2 t : Vec Ideal S16x1024 .f32) (ix2 j (q n))) v d i
      = REFY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r' k') := by
  obtain rfl : k' = k := Fin.ext hk
  have h32 : h.val < 32 := by omega
  obtain rfl : v = fun n => (iblk m c 9 t : Vec Ideal S1x2048x128 .f32) (ix3 0 k' n) := funext hv
  subst hd
  unfold REFY
  rw [Cert.ReferenceSsdIdeal.Val.outs_at _ _ _ _ _ _ _ ⟨t.val, lt32 t⟩ i ⟨h.val, h32⟩ hr hh.symm, b6]
  simp only [← steps_eq m c t h h32, ← sums_eq m c t h h32, b0, b1, b2, b9]
  have e6 : (⟨k'.val / 64, by omega⟩ : Fin 32) = ⟨h.val, h32⟩ := Fin.ext hh.symm
  rw [e6]
  congr 1
  · funext j n
    exact at2 (n := 512) (k := 4096) (m ((c : Thread nD τ).loc main_arg0)) rfl (by have := hq n; dsimp only; omega)
  · funext j n
    exact at2 (n := 512) (k := 4096) (m ((c : Thread nD τ).loc main_arg0)) rfl (by have := hq n; dsimp only; omega)

theorem turn0_at (v : Vec Ideal S1x128x256 .f32) (k : Fin 256) (n : Fin 128) : k0_pay10 v (ix3 0 k n) = v (ix3 0 n k) := by
  pointwise [k0_pay10]

theorem turn1_at (v : Vec Ideal S1x128x256 .f32) (k : Fin 256) (n : Fin 128) : k0_pay11 v (ix3 0 k n) = v (ix3 0 n k) := by
  pointwise [k0_pay11]

theorem turn2_at (v : Vec Ideal S1x128x256 .f32) (k : Fin 256) (n : Fin 128) : k0_pay12 v (ix3 0 k n) = v (ix3 0 n k) := by
  pointwise [k0_pay12]

theorem turn3_at (v : Vec Ideal S1x128x256 .f32) (k : Fin 256) (n : Fin 128) : k0_pay13 v (ix3 0 k n) = v (ix3 0 n k) := by
  pointwise [k0_pay13]

theorem turn4_at (v : Vec Ideal S1x128x256 .f32) (k : Fin 256) (n : Fin 128) : k0_pay1 (k0_pay14 v) (ix3 0 k n) = v (ix3 0 n k) := by
  pointwise [k0_pay1, k0_pay14]

theorem turn5_at (v : Vec Ideal S1x128x256 .f32) (k : Fin 256) (n : Fin 128) : k0_pay2 v (ix3 0 k n) = v (ix3 0 n k) := by
  pointwise [k0_pay2]

theorem turn6_at (v : Vec Ideal S1x128x256 .f32) (k : Fin 256) (n : Fin 128) : k0_pay3 v (ix3 0 k n) = v (ix3 0 n k) := by
  pointwise [k0_pay3]

theorem turn7_at (v : Vec Ideal S1x128x256 .f32) (k : Fin 256) (n : Fin 128) : k0_pay4 v (ix3 0 k n) = v (ix3 0 n k) := by
  pointwise [k0_pay4]

/-- The states' block after a step. -/
theorem states_val (c : Dev nD) (t : Fin cfg0.N) (hf : Finite (m ((c : Thread nD τ).loc main_arg1)) (m ((c : Thread nD τ).loc main_arg2)) (m ((c : Thread nD τ).loc main_arg3))) (y : S1x2048x128.Idx) :
    (outsAt0 m c t).2 y = REFS (m ((c : Thread nD τ).loc main_arg0)) (m ((c : Thread nD τ).loc main_arg1)) (m ((c : Thread nD τ).loc main_arg2)) (m ((c : Thread nD τ).loc main_arg3)) (m ((c : Thread nD τ).loc main_arg5)) (ix3 ⟨t.val, lt32 t⟩ (y 1) (y 2)) := by
  unfold outsAt0 out0_A_11 kernelRun0_A
  dsimp only
  rw [View.read_writes_junk_apply_eq_canon]
  canon_tiles x h
  · obtain ⟨i, k, n, rfl⟩ : ∃ (i : Fin 1) (k : Fin 256) (n : Fin 128), x = ix3 i k n := ⟨x 0, x 1, x 2, by funext a; fin_cases a <;> rfl⟩
    obtain rfl : i = 0 := Subsingleton.elim _ _
    refine (turn7_at _ k n).trans ?_
    refine (f7_at _ _ _ _ _ _ _ _ _ _ _ _ _ _ _ _ _ _ _ _ _ _ _ (b7 m c t) n k ⟨28 + k.val / 64, by omega⟩ rfl (fun j => real_D m c t hf _ (by dsimp only; omega) j) (real_5 m c t hf _ (by dsimp only; omega))).trans ?_
    exact state_val m c t _ _ _ (by dsimp only; omega) _ (by dsimp only; omega) _ (h1) _ h2
  · obtain ⟨i, k, n, rfl⟩ : ∃ (i : Fin 1) (k : Fin 256) (n : Fin 128), x = ix3 i k n := ⟨x 0, x 1, x 2, by funext a; fin_cases a <;> rfl⟩
    obtain rfl : i = 0 := Subsingleton.elim _ _
    refine (turn6_at _ k n).trans ?_
    refine (f6_at _ _ _ _ _ _ _ _ _ _ _ _ _ _ _ _ _ _ _ _ _ _ _ (b7 m c t) n k ⟨24 + k.val / 64, by omega⟩ rfl (fun j => real_D m c t hf _ (by dsimp only; omega) j) (real_5 m c t hf _ (by dsimp only; omega))).trans ?_
    exact state_val m c t _ _ _ (by dsimp only; omega) _ (by dsimp only; omega) _ (h1) _ h2
  · obtain ⟨i, k, n, rfl⟩ : ∃ (i : Fin 1) (k : Fin 256) (n : Fin 128), x = ix3 i k n := ⟨x 0, x 1, x 2, by funext a; fin_cases a <;> rfl⟩
    obtain rfl : i = 0 := Subsingleton.elim _ _
    refine (turn5_at _ k n).trans ?_
    refine (f5_at _ _ _ _ _ _ _ _ _ _ _ _ _ _ _ _ _ _ _ _ _ _ _ (b7 m c t) n k ⟨20 + k.val / 64, by omega⟩ rfl (fun j => real_D m c t hf _ (by dsimp only; omega) j) (real_5 m c t hf _ (by dsimp only; omega))).trans ?_
    exact state_val m c t _ _ _ (by dsimp only; omega) _ (by dsimp only; omega) _ (h1) _ h2
  · obtain ⟨i, k, n, rfl⟩ : ∃ (i : Fin 1) (k : Fin 256) (n : Fin 128), x = ix3 i k n := ⟨x 0, x 1, x 2, by funext a; fin_cases a <;> rfl⟩
    obtain rfl : i = 0 := Subsingleton.elim _ _
    refine (turn4_at _ k n).trans ?_
    refine (f4_at _ _ _ _ _ _ _ _ _ _ _ _ _ _ _ _ _ _ _ _ _ _ _ (b7 m c t) n k ⟨16 + k.val / 64, by omega⟩ rfl (fun j => real_D m c t hf _ (by dsimp only; omega) j) (real_5 m c t hf _ (by dsimp only; omega))).trans ?_
    exact state_val m c t _ _ _ (by dsimp only; omega) _ (by dsimp only; omega) _ (h1) _ h2
  · obtain ⟨i, k, n, rfl⟩ : ∃ (i : Fin 1) (k : Fin 256) (n : Fin 128), x = ix3 i k n := ⟨x 0, x 1, x 2, by funext a; fin_cases a <;> rfl⟩
    obtain rfl : i = 0 := Subsingleton.elim _ _
    refine (turn3_at _ k n).trans ?_
    refine (f3_at _ _ _ _ _ _ _ _ _ _ _ _ _ _ _ _ _ _ _ _ _ _ _ (b7 m c t) n k ⟨12 + k.val / 64, by omega⟩ rfl (fun j => real_D m c t hf _ (by dsimp only; omega) j) (real_5 m c t hf _ (by dsimp only; omega))).trans ?_
    exact state_val m c t _ _ _ (by dsimp only; omega) _ (by dsimp only; omega) _ (h1) _ h2
  · obtain ⟨i, k, n, rfl⟩ : ∃ (i : Fin 1) (k : Fin 256) (n : Fin 128), x = ix3 i k n := ⟨x 0, x 1, x 2, by funext a; fin_cases a <;> rfl⟩
    obtain rfl : i = 0 := Subsingleton.elim _ _
    refine (turn2_at _ k n).trans ?_
    refine (f2_at _ _ _ _ _ _ _ _ _ _ _ _ _ _ _ _ _ _ _ _ _ _ _ (b7 m c t) n k ⟨8 + k.val / 64, by omega⟩ rfl (fun j => real_D m c t hf _ (by dsimp only; omega) j) (real_5 m c t hf _ (by dsimp only; omega))).trans ?_
    exact state_val m c t _ _ _ (by dsimp only; omega) _ (by dsimp only; omega) _ (h1) _ h2
  · obtain ⟨i, k, n, rfl⟩ : ∃ (i : Fin 1) (k : Fin 256) (n : Fin 128), x = ix3 i k n := ⟨x 0, x 1, x 2, by funext a; fin_cases a <;> rfl⟩
    obtain rfl : i = 0 := Subsingleton.elim _ _
    refine (turn1_at _ k n).trans ?_
    refine (f1_at _ _ _ _ _ _ _ _ _ _ _ _ _ _ _ _ _ _ _ _ _ _ _ (b7 m c t) n k ⟨4 + k.val / 64, by omega⟩ rfl (fun j => real_D m c t hf _ (by dsimp only; omega) j) (real_5 m c t hf _ (by dsimp only; omega))).trans ?_
    exact state_val m c t _ _ _ (by dsimp only; omega) _ (by dsimp only; omega) _ (h1) _ h2
  · obtain ⟨i, k, n, rfl⟩ : ∃ (i : Fin 1) (k : Fin 256) (n : Fin 128), x = ix3 i k n := ⟨x 0, x 1, x 2, by funext a; fin_cases a <;> rfl⟩
    obtain rfl : i = 0 := Subsingleton.elim _ _
    refine (turn0_at _ k n).trans ?_
    refine (f0_at _ _ _ _ _ _ _ _ _ _ _ _ _ _ _ _ _ _ _ _ _ _ _ (b7 m c t) n k ⟨0 + k.val / 64, by omega⟩ rfl (fun j => real_D m c t hf _ (by dsimp only; omega) j) (real_5 m c t hf _ (by dsimp only; omega))).trans ?_
    exact state_val m c t _ _ _ (by dsimp only; omega) _ (by dsimp only; omega) _ (h1.trans (Nat.zero_add _).symm) _ h2

/-- The rows' block after a step. -/
theorem rows_val (c : Dev nD) (t : Fin cfg0.N) (hf : Finite (m ((c : Thread nD τ).loc main_arg1)) (m ((c : Thread nD τ).loc main_arg2)) (m ((c : Thread nD τ).loc main_arg3))) (y : S16x2048.Idx) :
    (outsAt0 m c t).1 y = REFY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨16 * t.val + (y 0).val, by have := lt32 t; have : (y 0).val < 16 := (y 0).isLt; omega⟩ (y 1)) := by
  unfold outsAt0 out0_A_10 kernelRun0_A
  dsimp only
  rw [View.read_writes_junk_apply_eq_canon]
  canon_tiles x h
  · obtain ⟨i, k, rfl⟩ : ∃ (i : Fin 16) (k : Fin 256), x = ix2 i k := ⟨x 0, x 1, by funext a; fin_cases a <;> rfl⟩
    refine (congrFun (y7_eq _ _ _ _ _ _ _ _ _) (ix2 i k)).trans ?_
    rw [r4_eq, r5_eq, r7_eq, r8_eq, r9_eq, r10_eq, r11_eq]
    refine (group_y 7 (by omega) _ _ _ _ _ _ _ _ (b7 m c t) (b8 m c t) _ _ i k ⟨28 + k.val / 64, by omega⟩ rfl (fun j => real_D m c t hf _ (by dsimp only; omega) j) (real_5 m c t hf _ (by dsimp only; omega))).trans ?_
    refine row_val m c t i _ _ (by dsimp only; omega) (fun n => ⟨896 + n.val, by omega⟩) (fun n => by dsimp only; omega) _ (fun n => l7_at _ _ _ _ _ _ _ _ _ _ _ _ _ _ _ _ _ _ _ _ _ _ _ n k) _ ?_ _ (by dsimp only; rw [h0]; rfl) _ (h1)
    simp only [View.readAt_eq_ld, Memref.IsWhole.read_unread]
    rw [View.ld_unit]
    pointwise
  · obtain ⟨i, k, rfl⟩ : ∃ (i : Fin 16) (k : Fin 256), x = ix2 i k := ⟨x 0, x 1, by funext a; fin_cases a <;> rfl⟩
    refine (congrFun (y6_eq _ _ _ _ _ _ _ _ _) (ix2 i k)).trans ?_
    rw [r4_eq, r5_eq, r7_eq, r8_eq, r9_eq, r10_eq, r11_eq]
    refine (group_y 6 (by omega) _ _ _ _ _ _ _ _ (b7 m c t) (b8 m c t) _ _ i k ⟨24 + k.val / 64, by omega⟩ rfl (fun j => real_D m c t hf _ (by dsimp only; omega) j) (real_5 m c t hf _ (by dsimp only; omega))).trans ?_
    refine row_val m c t i _ _ (by dsimp only; omega) (fun n => ⟨768 + n.val, by omega⟩) (fun n => by dsimp only; omega) _ (fun n => l6_at _ _ _ _ _ _ _ _ _ _ _ _ _ _ _ _ _ _ _ _ _ _ _ n k) _ ?_ _ (by dsimp only; rw [h0]; rfl) _ (h1)
    simp only [View.readAt_eq_ld, Memref.IsWhole.read_unread]
    rw [View.ld_unit]
    pointwise
  · obtain ⟨i, k, rfl⟩ : ∃ (i : Fin 16) (k : Fin 256), x = ix2 i k := ⟨x 0, x 1, by funext a; fin_cases a <;> rfl⟩
    refine (congrFun (y5_eq _ _ _ _ _ _ _ _ _) (ix2 i k)).trans ?_
    rw [r4_eq, r5_eq, r7_eq, r8_eq, r9_eq, r10_eq, r11_eq]
    refine (group_y 5 (by omega) _ _ _ _ _ _ _ _ (b7 m c t) (b8 m c t) _ _ i k ⟨20 + k.val / 64, by omega⟩ rfl (fun j => real_D m c t hf _ (by dsimp only; omega) j) (real_5 m c t hf _ (by dsimp only; omega))).trans ?_
    refine row_val m c t i _ _ (by dsimp only; omega) (fun n => ⟨640 + n.val, by omega⟩) (fun n => by dsimp only; omega) _ (fun n => l5_at _ _ _ _ _ _ _ _ _ _ _ _ _ _ _ _ _ _ _ _ _ _ _ n k) _ ?_ _ (by dsimp only; rw [h0]; rfl) _ (h1)
    simp only [View.readAt_eq_ld, Memref.IsWhole.read_unread]
    rw [View.ld_unit]
    pointwise
  · obtain ⟨i, k, rfl⟩ : ∃ (i : Fin 16) (k : Fin 256), x = ix2 i k := ⟨x 0, x 1, by funext a; fin_cases a <;> rfl⟩
    refine (congrFun (y4_eq _ _ _ _ _ _ _ _ _) (ix2 i k)).trans ?_
    rw [r4_eq, r5_eq, r7_eq, r8_eq, r9_eq, r10_eq, r11_eq]
    refine (group_y 4 (by omega) _ _ _ _ _ _ _ _ (b7 m c t) (b8 m c t) _ _ i k ⟨16 + k.val / 64, by omega⟩ rfl (fun j => real_D m c t hf _ (by dsimp only; omega) j) (real_5 m c t hf _ (by dsimp only; omega))).trans ?_
    refine row_val m c t i _ _ (by dsimp only; omega) (fun n => ⟨512 + n.val, by omega⟩) (fun n => by dsimp only; omega) _ (fun n => l4_at _ _ _ _ _ _ _ _ _ _ _ _ _ _ _ _ _ _ _ _ _ _ _ n k) _ ?_ _ (by dsimp only; rw [h0]; rfl) _ (h1)
    simp only [View.readAt_eq_ld, Memref.IsWhole.read_unread]
    rw [View.ld_unit]
    pointwise
  · obtain ⟨i, k, rfl⟩ : ∃ (i : Fin 16) (k : Fin 256), x = ix2 i k := ⟨x 0, x 1, by funext a; fin_cases a <;> rfl⟩
    refine (congrFun (y3_eq _ _ _ _ _ _ _ _ _) (ix2 i k)).trans ?_
    rw [r4_eq, r5_eq, r7_eq, r8_eq, r9_eq, r10_eq, r11_eq]
    refine (group_y 3 (by omega) _ _ _ _ _ _ _ _ (b7 m c t) (b8 m c t) _ _ i k ⟨12 + k.val / 64, by omega⟩ rfl (fun j => real_D m c t hf _ (by dsimp only; omega) j) (real_5 m c t hf _ (by dsimp only; omega))).trans ?_
    refine row_val m c t i _ _ (by dsimp only; omega) (fun n => ⟨384 + n.val, by omega⟩) (fun n => by dsimp only; omega) _ (fun n => l3_at _ _ _ _ _ _ _ _ _ _ _ _ _ _ _ _ _ _ _ _ _ _ _ n k) _ ?_ _ (by dsimp only; rw [h0]; rfl) _ (h1)
    simp only [View.readAt_eq_ld, Memref.IsWhole.read_unread]
    rw [View.ld_unit]
    pointwise
  · obtain ⟨i, k, rfl⟩ : ∃ (i : Fin 16) (k : Fin 256), x = ix2 i k := ⟨x 0, x 1, by funext a; fin_cases a <;> rfl⟩
    refine (congrFun (y2_eq _ _ _ _ _ _ _ _ _) (ix2 i k)).trans ?_
    rw [r4_eq, r5_eq, r7_eq, r8_eq, r9_eq, r10_eq, r11_eq]
    refine (group_y 2 (by omega) _ _ _ _ _ _ _ _ (b7 m c t) (b8 m c t) _ _ i k ⟨8 + k.val / 64, by omega⟩ rfl (fun j => real_D m c t hf _ (by dsimp only; omega) j) (real_5 m c t hf _ (by dsimp only; omega))).trans ?_
    refine row_val m c t i _ _ (by dsimp only; omega) (fun n => ⟨256 + n.val, by omega⟩) (fun n => by dsimp only; omega) _ (fun n => l2_at _ _ _ _ _ _ _ _ _ _ _ _ _ _ _ _ _ _ _ _ _ _ _ n k) _ ?_ _ (by dsimp only; rw [h0]; rfl) _ (h1)
    simp only [View.readAt_eq_ld, Memref.IsWhole.read_unread]
    rw [View.ld_unit]
    pointwise
  · obtain ⟨i, k, rfl⟩ : ∃ (i : Fin 16) (k : Fin 256), x = ix2 i k := ⟨x 0, x 1, by funext a; fin_cases a <;> rfl⟩
    refine (congrFun (y1_eq _ _ _ _ _ _ _ _ _) (ix2 i k)).trans ?_
    rw [r4_eq, r5_eq, r7_eq, r8_eq, r9_eq, r10_eq, r11_eq]
    refine (group_y 1 (by omega) _ _ _ _ _ _ _ _ (b7 m c t) (b8 m c t) _ _ i k ⟨4 + k.val / 64, by omega⟩ rfl (fun j => real_D m c t hf _ (by dsimp only; omega) j) (real_5 m c t hf _ (by dsimp only; omega))).trans ?_
    refine row_val m c t i _ _ (by dsimp only; omega) (fun n => ⟨128 + n.val, by omega⟩) (fun n => by dsimp only; omega) _ (fun n => l1_at _ _ _ _ _ _ _ _ _ _ _ _ _ _ _ _ _ _ _ _ _ _ _ n k) _ ?_ _ (by dsimp only; rw [h0]; rfl) _ (h1)
    simp only [View.readAt_eq_ld, Memref.IsWhole.read_unread]
    rw [View.ld_unit]
    pointwise
  · obtain ⟨i, k, rfl⟩ : ∃ (i : Fin 16) (k : Fin 256), x = ix2 i k := ⟨x 0, x 1, by funext a; fin_cases a <;> rfl⟩
    refine (congrFun (y0_eq _ _ _ _ _ _ _ _ _) (ix2 i k)).trans ?_
    rw [r4_eq, r5_eq, r7_eq, r8_eq, r9_eq]
    simp (disch := decide) only [View.ld_unit_lit', View.readAt_eq_ld, Memref.IsWhole.read_unread]
    refine (group_y 0 (by omega) _ _ _ _ _ _ _ _ (b7 m c t) (b8 m c t) _ _ i k ⟨0 + k.val / 64, by omega⟩ rfl (fun j => real_D m c t hf _ (by dsimp only; omega) j) (real_5 m c t hf _ (by dsimp only; omega))).trans ?_
    refine row_val m c t i _ _ (by dsimp only; omega) (fun n => ⟨0 + n.val, by omega⟩) (fun n => by dsimp only; omega) _ (fun n => l0_at _ _ _ _ _ n k) _ ?_ _ (by dsimp only; rw [h0]; rfl) _ (h1.trans (Nat.zero_add _).symm)
    rw [View.ld_unit]
    pointwise

/-- The kernel's rows. -/
theorem final10 (c : Dev nD) (hf : Finite (m ((c : Thread nD τ).loc main_arg1)) (m ((c : Thread nD τ).loc main_arg2)) (m ((c : Thread nD τ).loc main_arg3))) :
    (dats m 0 c).arrAt 10 (cfgs 0).N = REFY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp; rw [after0_10, rows_val m c t hf]
  have ht := lt32 t
  have hy : (y 0).val < 16 := (y 0).isLt
  generalize REFY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = f
  blk_point [idx t]

/-- The kernel's states. -/
theorem final11 (c : Dev nD) (hf : Finite (m ((c : Thread nD τ).loc main_arg1)) (m ((c : Thread nD τ).loc main_arg2)) (m ((c : Thread nD τ).loc main_arg3))) :
    (dats m 0 c).arrAt 11 (cfgs 0).N = REFS (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 11 _ (by decide +kernel) fun t _ y => ?_
  blk_simp; rw [after0_11, states_val m c t hf]
  have ht := lt32 t
  have hy : (y 0).val < 1 := (y 0).isLt
  generalize REFS (m ((c : Thread nD τ).loc main_arg0)) (m ((c : Thread nD τ).loc main_arg1)) (m ((c : Thread nD τ).loc main_arg2)) (m ((c : Thread nD τ).loc main_arg3)) (m ((c : Thread nD τ).loc main_arg5)) = f
  blk_point [idx t]

theorem posInf : Ideal.ofBits .f32 0x7F800000#32 = ⊤ := by
  unfold Ideal.ofBits; rfl

theorem finite_of_abs {x : EReal} (h : Ideal.cmp .olt (max x (-x)) ⊤ = 1#1) : IsReal x := by
  induction x using EReal.rec with
  | bot => exact absurd h (by simp [Ideal.cmp])
  | coe r => exact ⟨r, rfl⟩
  | top => exact absurd h (by simp [Ideal.cmp])

theorem slice_at [hP : Cert.Pre_finite_dt.Facts] (p : FVec Ideal S512x6272 .f32) (i : Fin 512) (h : Fin 32) :
    extractStridedSlice Cert.Pre_finite_dt.S512x32 ![0, 6144] p hP.slices_S512x6272_S512x32_0_6144 (ix2 i h) = p (ix2 i ⟨6144 + h.val, by omega⟩) := by
  pointwise

/-- The precondition's three conjuncts, element by element. -/
theorem finite_of [hP : Cert.Pre_finite_dt.Facts] (h : Cert.Pre_KernelSsdIdeal_finite_dt m) (c : Dev nD) :
    Finite (m ((c : Thread nD τ).loc main_arg1)) (m ((c : Thread nD τ).loc main_arg2)) (m ((c : Thread nD τ).loc main_arg3)) := by
  obtain ⟨h0, h1, h2⟩ := h c
  refine ⟨fun i k => finite_of_abs ?_, fun k => finite_of_abs ?_, fun k => finite_of_abs ?_⟩
  · have := congrFun h0 (ix2 i k)
    rw [← posInf, ← slice_at (m ((c : Thread nD τ).loc main_arg1))]
    exact this
  · have := congrFun h1 (ix1 k)
    rw [← posInf]
    exact this
  · have := congrFun h2 (ix1 k)
    rw [← posInf]
    exact this

/-- The reference's arrays. -/
theorem ref_rows (m : (ℓ : Loc Cert.ReferenceSsdIdeal.nD Cert.ReferenceSsdIdeal.τ Cert.ReferenceSsdIdeal.sig) → Buf (Elt Ideal) ℓ) (c : Dev Cert.ReferenceSsdIdeal.nD) :
    Cert.ReferenceSsdIdeal.Value.res_main_v68 m c
      = REFY (m (c.tc.loc Cert.ReferenceSsdIdeal.main_arg0)) (m (c.tc.loc Cert.ReferenceSsdIdeal.main_arg1)) (m (c.tc.loc Cert.ReferenceSsdIdeal.main_arg2))
          (m (c.tc.loc Cert.ReferenceSsdIdeal.main_arg3)) (m (c.tc.loc Cert.ReferenceSsdIdeal.main_arg4)) (m (c.tc.loc Cert.ReferenceSsdIdeal.main_arg5)) :=
  Cert.ReferenceSsdIdeal.Val.res_y m c
theorem ref_states (m : (ℓ : Loc Cert.ReferenceSsdIdeal.nD Cert.ReferenceSsdIdeal.τ Cert.ReferenceSsdIdeal.sig) → Buf (Elt Ideal) ℓ) (c : Dev Cert.ReferenceSsdIdeal.nD) :
    Cert.ReferenceSsdIdeal.Value.res_main_v69 m c
      = REFS (m (c.tc.loc Cert.ReferenceSsdIdeal.main_arg0)) (m (c.tc.loc Cert.ReferenceSsdIdeal.main_arg1)) (m (c.tc.loc Cert.ReferenceSsdIdeal.main_arg2))
          (m (c.tc.loc Cert.ReferenceSsdIdeal.main_arg3)) (m (c.tc.loc Cert.ReferenceSsdIdeal.main_arg5)) :=
  Cert.ReferenceSsdIdeal.Val.res_s m c

end Cert.KernelSsdIdeal.Val
-- ==== Proof.FinalS.lean ====
module

public import proofs.«01_k».proof.Proof.Gen.KernelFinalSIdeal.Frame
public import proofs.«01_k».proof.Proof.Gen.ReferenceFinalSIdeal.Read
public import Idealize.ShloMosaic.Lib.Pipeline.ValueKit
public import Idealize.ShloMosaic.Lib.Pointwise

@[expose] public section

set_option maxRecDepth 512
noncomputable section
open Idealize.ShloMosaic Idealize.ShloMosaic.TcCoe Idealize.SL.Sem
open Idealize.ShloMosaic.Pipeline (Dat)

namespace Cert.KernelFinalSIdeal.Val
open Cert.KernelFinalSIdeal Cert.KernelFinalSIdeal.Gen

variable (m : (ℓ : Loc nD τ sig) → Buf (Elt Ideal) ℓ)

/-- The rows normalised by their root mean square, times the gain. -/
abbrev REF (x0 : Vec Ideal S512x1024 .f32) (x1 : Vec Ideal S1024 .f32) : Vec Ideal S512x1024 .f32 :=
  Cert.ReferenceFinalSIdeal.Read.val_main_v12 (F := Ideal) x0 x1

theorem idx : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp; rw [after0_2]
  frame_out
  rw [REF, ← Cert.ReferenceFinalSIdeal.Read.val_main_v12_eq]
  pointwise [k0_pay1]
  blk_point [iblk, V, idx t]

end Cert.KernelFinalSIdeal.Val
-- ==== Proof.InS.lean ====
module

public import proofs.«01_k».proof.Proof.Gen.KernelInSIdeal.Frame
public import proofs.«01_k».proof.Proof.Gen.ReferenceInSIdeal.Read
public import Idealize.ShloMosaic.Lib.Pipeline.ValueKit
public import Idealize.ShloMosaic.Lib.Pointwise

@[expose] public section

set_option maxRecDepth 512
noncomputable section
open Idealize.ShloMosaic Idealize.ShloMosaic.TcCoe Idealize.SL.Sem
open Idealize.ShloMosaic.Pipeline (Dat)

namespace Cert.KernelInSIdeal.Val
open Cert.KernelInSIdeal Cert.KernelInSIdeal.Gen

variable (m : (ℓ : Loc nD τ sig) → Buf (Elt Ideal) ℓ)

/-- The input projection of the normalised rows, filled up with zero columns. -/
abbrev REF (x0 : Vec Ideal S512x1024 .f32) (x1 : Vec Ideal S1024 .f32) (x2 : Vec Ideal S1024x6176 .f32) : Vec Ideal S512x6272 .f32 :=
  Cert.ReferenceInSIdeal.Read.val_main_v14 (F := Ideal) x0 x1 x2

theorem idx : ∀ t : Fin cfg0.N, win0_0.index t = ![t.val / 7, 0] ∧ win0_1.index t = ![0, 0] ∧ win0_2.index t = ![0, t.val % 7] ∧ win0_3.index t = ![0, t.val % 7] ∧ win0_4.index t = ![t.val / 7, t.val % 7] :=
  (by decide +kernel : ∀ t : Fin grid0.N, _)

theorem rows_pred (n : ℕ) (h : n + 1 < cfg0.N) (h' : n < cfg0.N) (h7 : ¬ (n + 1) % 7 = 0) (c : Dev nD) :
    iblk m c 0 ⟨n, h'⟩ = iblk m c 0 ⟨n + 1, h⟩ := by
  funext y
  blk_ext [iblk, V, idx ⟨n + 1, h⟩, idx ⟨n, h'⟩]

theorem gain_pred (n : ℕ) (h : n + 1 < cfg0.N) (h' : n < cfg0.N) (c : Dev nD) :
    iblk m c 1 ⟨n, h'⟩ = iblk m c 1 ⟨n + 1, h⟩ := by
  funext y
  blk_ext [iblk, V, idx ⟨n + 1, h⟩, idx ⟨n, h'⟩]

/-- The scratch holds the normalised rows of the point's row block. -/
theorem scratch (c : Dev nD) : ∀ (n : ℕ) (h : n < cfg0.N),
    (outsAt0 m c n h).2 = k0_pay1 (F := Ideal) (iblk m c 0 ⟨n, h⟩) (iblk m c 1 ⟨n, h⟩) := by
  intro n
  induction n with
  | zero =>
    intro h
    rw [outsAt0_A m c ⟨0, h⟩ (by rfl)]
    frame_out
  | succ n ih =>
    intro h
    by_cases h7 : (n + 1) % 7 = 0
    · rw [outsAt0_A m c ⟨n + 1, h⟩ h7]
      frame_out
    · rw [outsAt0_B m c ⟨n + 1, h⟩ h7]
      have h' : n < cfg0.N := Nat.lt_of_succ_lt h
      have key : ∀ k (hk : k < cfg0.N), k = n → (outsAt0 m c k hk).2
          = k0_pay1 (F := Ideal) (iblk m c 0 ⟨n + 1, h⟩) (iblk m c 1 ⟨n + 1, h⟩) := by
        rintro k hk rfl
        rw [ih hk, rows_pred m k h hk h7 c, gain_pred m k h hk c]
      dsimp only [sout0_B_0]
      exact key _ _ (Nat.add_sub_cancel n 1)

/-- What the scratch held before a point that does not refill it. -/
theorem scratch_pred (c : Dev nD) (t : Fin cfg0.N) (h7 : ¬ t.val % 7 = 0) (h : t.val - 1 < cfg0.N) :
    (outsAt0 m c (t.val - 1) h).2 = k0_pay1 (F := Ideal) (iblk m c 0 t) (iblk m c 1 t) := by
  obtain ⟨n, hn⟩ := t
  cases n with
  | zero => exact absurd rfl h7
  | succ n =>
    have h' : n < cfg0.N := Nat.lt_of_succ_lt hn
    have key : ∀ k (hk : k < cfg0.N), k = n → (outsAt0 m c k hk).2
        = k0_pay1 (F := Ideal) (iblk m c 0 ⟨n + 1, hn⟩) (iblk m c 1 ⟨n + 1, hn⟩) := by
      rintro k hk rfl
      rw [scratch m c k hk, rows_pred m k hn hk h7 c, gain_pred m k hn hk c]
    exact key _ _ (Nat.add_sub_cancel n 1)

theorem zero_int : FloatOps.sitofp (F := Ideal) .f32 0#32 = (0 : EReal) := by
  show (((0#32 : BitVec 32).toInt : ℝ) : EReal) = 0
  simp

set_option maxHeartbeats 800000 in
/-- The bias handed to this call is zero. -/
theorem bias (c : Dev nD) (k : Fin 6272) : V m c main_v4 (ix2 0 k) = (0 : EReal) := by
  unfold V V0
  simp only [hostOps0, hostOps0_1, hostOps0_2, List.flatten_cons, List.flatten_nil, List.append_nil, List.cons_append, List.nil_append]
  entry_read
  pointwise

set_option maxHeartbeats 800000 in
/-- The weights handed to this call, filled up with zero columns. -/
theorem weight (c : Dev nD) (k : Fin 1024) (j : Fin 6272) : V m c main_v1 (ix2 k j)
    = if h : j.val < 6176 then m ((c : Thread nD τ).loc main_arg2) (ix2 k ⟨j.val, h⟩) else (0 : EReal) := by
  unfold V V0
  simp only [hostOps0, hostOps0_1, hostOps0_2, List.flatten_cons, List.flatten_nil, List.append_nil, List.cons_append, List.nil_append]
  entry_read
  simp only [StableHlo.TRef.toBuf, StableHlo.TRef.ofBuf, cast_eq]
  pointwise
  split
  · rfl
  · exact zero_int

set_option maxHeartbeats 800000 in
/-- The gain handed to this call is the argument, laid out as one row. -/
theorem gain (c : Dev nD) (k : Fin 1024) : V m c main_v3 (ix2 0 k) = m ((c : Thread nD τ).loc main_arg1) (ix1 k) := by
  unfold V V0
  simp only [hostOps0, hostOps0_1, hostOps0_2, List.flatten_cons, List.flatten_nil, List.append_nil, List.cons_append, List.nil_append]
  entry_read
  pointwise

/-- What a point leaves in the output's buffer. -/
theorem outs (c : Dev nD) (t : Fin cfg0.N) : (outsAt0 m c t.val t.isLt).1
    = k0_pay2 (F := Ideal) (k0_pay1 (F := Ideal) (iblk m c 0 t) (iblk m c 1 t)) (iblk m c 2 t) (iblk m c 3 t) := by
  by_cases h7 : t.val % 7 = 0
  · rw [outsAt0_A m c t h7]
    frame_out
  · rw [outsAt0_B m c t h7]
    frame_out
    refine congrArg (fun z => k0_pay2 (F := Ideal) z (iblk m c 2 t) (iblk m c 3 t)) ?_
    exact ((Memref.isWhole_whole cc0_scratch0).read_unread _).trans (scratch_pred m c t h7 _)

/-- The body at one element. -/
theorem pay_at (x0 : Vec Ideal S512x1024 .f32) (x1 : Vec Ideal S1x1024 .f32) (x2 : Vec Ideal S1024x896 .bf16) (x3 : Vec Ideal S1x896 .f32)
    (r : Fin 512) (j : Fin 896) : k0_pay2 (F := Ideal) (k0_pay1 (F := Ideal) x0 x1) x2 x3 (ix2 r j)
      = (∑ k : Fin 1024, x0 (ix2 r k) * Ideal.rsqrt (Ideal.div (∑ l : Fin 1024, x0 (ix2 r l) * x0 (ix2 r l))
          (Ideal.ofBits .f32 1149239296#32) + Ideal.ofBits .f32 897988541#32) * x1 (ix2 0 k) * x2 (ix2 k j)) + x3 (ix2 0 j) := by
  pointwise [k0_pay2, k0_pay1]

/-- The reference at one element. -/
theorem ref_at (x0 : Vec Ideal S512x1024 .f32) (x1 : Vec Ideal S1024 .f32) (x2 : Vec Ideal S1024x6176 .f32)
    (r : Fin 512) (j : Fin 6272) : REF x0 x1 x2 (ix2 r j)
      = if h : j.val < 6176 then ∑ k : Fin 1024, x0 (ix2 r k) * Ideal.rsqrt (Ideal.div (∑ l : Fin 1024, x0 (ix2 r l) * x0 (ix2 r l))
          (Ideal.ofBits .f32 1149239296#32) + Ideal.ofBits .f32 897988541#32) * x1 (ix1 k) * x2 (ix2 k ⟨j.val, h⟩) else (0 : EReal) := by
  rw [REF, ← Cert.ReferenceInSIdeal.Read.val_main_v14_eq]
  pointwise
  split
  · rfl
  · exact zero_int

theorem row_lt (t r : ℕ) (ht : t < 7) (hr : r < 512) : t / 7 * 512 + r < 512 := by omega

theorem col_lt (t j : ℕ) (hj : j < 896) : t % 7 * 896 + j < 6272 := by omega

theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp; rw [after0_4, outs]
  have ht : t.val < 7 := t.isLt
  obtain ⟨r, j, rfl⟩ : ∃ (r : Fin 512) (j : Fin 896), y = ix2 r j := ⟨y 0, y 1, by funext a; match a with | ⟨0, _⟩ => rfl | ⟨1, _⟩ => rfl⟩
  have hr : t.val / 7 * 512 + r.val < 512 := row_lt _ _ ht r.isLt
  have hj : t.val % 7 * 896 + j.val < 6272 := col_lt _ _ j.isLt
  have he : ((View.whole main_v5).slice (win0_4.rect t)).emb (ix2 r j)
      = ix2 (⟨t.val / 7 * 512 + r.val, hr⟩ : Fin 512) (⟨t.val % 7 * 896 + j.val, hj⟩ : Fin 6272) := by
    blk_ext [idx t]
  have hw : ∀ k : Fin 1024, iblk m c 2 t (ix2 k j) = V m c main_v1 (ix2 k (⟨t.val % 7 * 896 + j.val, hj⟩ : Fin 6272)) := by
    intro k; blk_ext [iblk, idx t]
  have hb : iblk m c 3 t (ix2 0 j) = V m c main_v4 (ix2 0 (⟨t.val % 7 * 896 + j.val, hj⟩ : Fin 6272)) := by
    blk_ext [iblk, idx t]
  rw [he]
  refine (pay_at _ _ _ _ r j).trans (Eq.trans ?_ (ref_at _ _ _ _ _).symm)
  refine (congrArg₂ (fun a b : EReal => a + b) (Finset.sum_congr rfl fun k _ => congrArg (fun a : EReal => _ * a) ((hw k).trans (weight m c k _)))
    (hb.trans (bias m c _))).trans ?_
  refine (add_zero _).trans ?_
  by_cases h : t.val % 7 * 896 + j.val < 6176
  · simp only [dif_pos h]
    have hg : ∀ k : Fin 1024, iblk m c 1 t (ix2 0 k) = V m c main_v3 (ix2 0 k) := by
      intro k; blk_ext [iblk, idx t]
    refine Finset.sum_congr rfl fun k _ => congrArg (fun a : EReal => a * _) ?_
    refine (congrArg (fun a : EReal => _ * a) ((hg k).trans (gain m c k))).trans ?_
    blk_point [iblk, V, idx t]
  · simp only [dif_neg h, mul_zero, Finset.sum_const_zero]

/-- The last three frames' columns that the convolution reads. -/
abbrev REFT (x0 : Vec Ideal S512x1024 .f32) (x1 : Vec Ideal S1024 .f32) (x2 : Vec Ideal S1024x6176 .f32) : Vec Ideal S32x3x4096 .f32 :=
  Cert.ReferenceInSIdeal.Read.val_main_v17 (F := Ideal) x0 x1 x2

/-- The lines after the region read the array it ended with. -/
theorem exit (c : Dev nD) : Pipeline.withArrays spec0 c (V0 m c) (fun w => (dats m 0 c).arrAt w (cfgs 0).N) (Proc.devRef .tc main_v5)
    = REF (m ((c : Thread nD τ).loc main_arg0)) (m ((c : Thread nD τ).loc main_arg1)) (m ((c : Thread nD τ).loc main_arg2)) :=
  (Pipeline.withArrays_arr spec0 winFacts0.arr_inj c (V0 m c) (fun w => (dats m 0 c).arrAt w (cfgs 0).N) 4).trans (final m c)

theorem tail (c : Dev nD) : Pipeline.afterTail₀ cfgs (dats m) 0 (V0 m) [hostOps1] c main_v7
    = REFT (m ((c : Thread nD τ).loc main_arg0)) (m ((c : Thread nD τ).loc main_arg1)) (m ((c : Thread nD τ).loc main_arg2)) := by
  have e := exit m c
  unfold Pipeline.afterTail₀
  generalize Pipeline.withArrays (cfgs 0).spec c (V0 m c) (fun w => (dats m 0 c).arrAt w (cfgs 0).N) = W at *
  simp only [hostOps1, List.flatten_cons, List.flatten_nil, List.append_nil]
  after_results
  rw [e]
  unfold REFT Cert.ReferenceInSIdeal.Read.val_main_v17 Cert.ReferenceInSIdeal.Read.val_main_v16 Cert.ReferenceInSIdeal.Read.val_main_v15
  unfold REF Cert.ReferenceInSIdeal.Read.val_main_v14
  generalize Cert.ReferenceInSIdeal.Read.val_main_v13 (F := Ideal) (m ((c : Thread nD τ).loc main_arg0)) (m ((c : Thread nD τ).loc main_arg1)) (m ((c : Thread nD τ).loc main_arg2)) = R
  clear e
  funext i
  dsimp only
  pointwise
  have h0 : (i 0).val < 32 := (i 0).isLt
  have h1 : (i 1).val < 3 := (i 1).isLt
  have h2 : (i 2).val < 4096 := (i 2).isLt
  exact dif_pos ⟨by omega, by omega⟩

end Cert.KernelInSIdeal.Val
-- ==== Proof.KvS.lean ====
module

public import proofs.«01_k».proof.Proof.Gen.KernelKvSIdeal.Frame
public import proofs.«01_k».proof.Proof.Gen.ReferenceKvSIdeal.Read
public import Idealize.ShloMosaic.Lib.Pipeline.ValueKit
public import Idealize.ShloMosaic.Lib.Pointwise

@[expose] public section

set_option maxRecDepth 512
noncomputable section
open Idealize.ShloMosaic Idealize.ShloMosaic.TcCoe Idealize.SL.Sem
open Idealize.ShloMosaic.Pipeline (Dat)

namespace Cert.KernelKvSIdeal.Val
open Cert.KernelKvSIdeal Cert.KernelKvSIdeal.Gen

variable (m : (ℓ : Loc nD τ sig) → Buf (Elt Ideal) ℓ)

/-- The key and value projection of the normalised rows. -/
abbrev REF (x0 : Vec Ideal S512x1024 .f32) (x1 : Vec Ideal S1024 .f32) (x2 : Vec Ideal S1024x512 .f32) (x3 : Vec Ideal S512 .f32) : Vec Ideal S512x512 .f32 :=
  Cert.ReferenceKvSIdeal.Read.val_main_v16 (F := Ideal) x0 x1 x2 x3

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- The gain handed to this call is the argument, laid out as one row. -/
theorem gain (c : Dev nD) (k : Fin 1024) : V m c main_v1 (ix2 0 k) = m ((c : Thread nD τ).loc main_arg1) (ix1 k) := by
  unfold V V0
  simp only [hostOps0, List.flatten_cons, List.flatten_nil, List.append_nil]
  entry_read
  pointwise

/-- The bias likewise. -/
theorem bias (c : Dev nD) (k : Fin 512) : V m c main_v2 (ix2 0 k) = m ((c : Thread nD τ).loc main_arg3) (ix1 k) := by
  unfold V V0
  simp only [hostOps0, List.flatten_cons, List.flatten_nil, List.append_nil]
  entry_read
  pointwise

theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]
  unfold outsAt0
  frame_out
  unfold REF Cert.ReferenceKvSIdeal.Read.val_main_v16 Cert.ReferenceKvSIdeal.Read.val_main_v15 Cert.ReferenceKvSIdeal.Read.val_main_v14 Cert.ReferenceKvSIdeal.Read.val_main_v13 Cert.ReferenceKvSIdeal.Read.val_main_v12 Cert.ReferenceKvSIdeal.Read.val_main_v11 Cert.ReferenceKvSIdeal.Read.val_main_v10 Cert.ReferenceKvSIdeal.Read.val_main_v9 Cert.ReferenceKvSIdeal.Read.val_main_v8 Cert.ReferenceKvSIdeal.Read.val_main_v7 Cert.ReferenceKvSIdeal.Read.val_main_v6 Cert.ReferenceKvSIdeal.Read.val_main_v5 Cert.ReferenceKvSIdeal.Read.val_main_cst_1 Cert.ReferenceKvSIdeal.Read.val_main_v4 Cert.ReferenceKvSIdeal.Read.val_main_v3 Cert.ReferenceKvSIdeal.Read.val_main_cst_0 Cert.ReferenceKvSIdeal.Read.val_main_v2 Cert.ReferenceKvSIdeal.Read.val_main_v1 Cert.ReferenceKvSIdeal.Read.val_main_cst Cert.ReferenceKvSIdeal.Read.val_main_v0
  pointwise [k0_pay1]
  blk_point [iblk, V, idx t]
  · refine (congrArg (V m c main_v1) ?_).trans (gain m c _)
    blk_ext [idx t]
  · refine (congrArg (V m c main_v2) (?_ : _ = ix2 0 (y 1))).trans ((bias m c (y 1)).trans (congrArg (m ((c : Thread nD τ).loc main_arg3)) ?_)) <;> blk_ext [idx t]

/-- The keys of the cache and of the new frames, the last 128 of them; the values likewise. -/
abbrev REFK (x0 : Vec Ideal S512x1024 .f32) (x1 : Vec Ideal S1024 .f32) (x2 : Vec Ideal S1024x512 .f32) (x3 : Vec Ideal S512 .f32) (x4 : Vec Ideal S32x128x4x64 .f32) : Vec Ideal S32x128x4x64 .f32 :=
  Cert.ReferenceKvSIdeal.Read.val_main_v22 (F := Ideal) x0 x1 x2 x3 x4

abbrev REFV (x0 : Vec Ideal S512x1024 .f32) (x1 : Vec Ideal S1024 .f32) (x2 : Vec Ideal S1024x512 .f32) (x3 : Vec Ideal S512 .f32) (x4 : Vec Ideal S32x128x4x64 .f32) : Vec Ideal S32x128x4x64 .f32 :=
  Cert.ReferenceKvSIdeal.Read.val_main_v24 (F := Ideal) x0 x1 x2 x3 x4

/-- The lines after the region read the array it ended with. -/
theorem exit (c : Dev nD) : Pipeline.withArrays spec0 c (V0 m c) (fun w => (dats m 0 c).arrAt w (cfgs 0).N) (Proc.devRef .tc main_v3)
    = REF (m ((c : Thread nD τ).loc main_arg0)) (m ((c : Thread nD τ).loc main_arg1)) (m ((c : Thread nD τ).loc main_arg2)) (m ((c : Thread nD τ).loc main_arg3)) :=
  (Pipeline.withArrays_arr spec0 winFacts0.arr_inj c (V0 m c) (fun w => (dats m 0 c).arrAt w (cfgs 0).N) 4).trans (final m c)

set_option maxRecDepth 65536 in
theorem tail_k (c : Dev nD) : Pipeline.afterTail₀ cfgs (dats m) 0 (V0 m) [hostOps1] c main_v12
    = REFK (m ((c : Thread nD τ).loc main_arg0)) (m ((c : Thread nD τ).loc main_arg1)) (m ((c : Thread nD τ).loc main_arg2)) (m ((c : Thread nD τ).loc main_arg3)) (m ((c : Thread nD τ).loc main_arg4)) := by
  have e := exit m c
  have a : Pipeline.withArrays spec0 c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  generalize Pipeline.withArrays (cfgs 0).spec c (V0 m c) (fun w => (dats m 0 c).arrAt w (cfgs 0).N) = W at *
  simp only [hostOps1, List.flatten_cons, List.flatten_nil, List.append_nil]
  after_results
  rw [e, a]
  unfold REFK Cert.ReferenceKvSIdeal.Read.val_main_v22 Cert.ReferenceKvSIdeal.Read.val_main_v21 Cert.ReferenceKvSIdeal.Read.val_main_v18 Cert.ReferenceKvSIdeal.Read.val_main_v17
  unfold REF
  generalize Cert.ReferenceKvSIdeal.Read.val_main_v16 (F := Ideal) (m ((c : Thread nD τ).loc main_arg0)) (m ((c : Thread nD τ).loc main_arg1)) (m ((c : Thread nD τ).loc main_arg2)) (m ((c : Thread nD τ).loc main_arg3)) = R
  generalize m ((c : Thread nD τ).loc main_arg4) = X
  clear e a
  funext i
  dsimp only
  pointwise
  have h3 : (i 3).val < 64 := (i 3).isLt
  refine dite_congr rfl (fun h => congrArg X (funext fun a => ?_)) (fun h => rfl)
  match a with
  | ⟨0, _⟩ => rfl
  | ⟨1, _⟩ => rfl
  | ⟨2, _⟩ => exact Fin.ext (by show ((i 2).val * 64 + (i 3).val) / 64 = (i 2).val; omega)
  | ⟨3, _⟩ => exact Fin.ext (by show ((i 2).val * 64 + (i 3).val) % 64 = (i 3).val; omega)

set_option maxRecDepth 65536 in
theorem tail_v (c : Dev nD) : Pipeline.afterTail₀ cfgs (dats m) 0 (V0 m) [hostOps1] c main_v14
    = REFV (m ((c : Thread nD τ).loc main_arg0)) (m ((c : Thread nD τ).loc main_arg1)) (m ((c : Thread nD τ).loc main_arg2)) (m ((c : Thread nD τ).loc main_arg3)) (m ((c : Thread nD τ).loc main_arg5)) := by
  have e := exit m c
  have a : Pipeline.withArrays spec0 c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  unfold Pipeline.afterTail₀
  generalize Pipeline.withArrays (cfgs 0).spec c (V0 m c) (fun w => (dats m 0 c).arrAt w (cfgs 0).N) = W at *
  simp only [hostOps1, List.flatten_cons, List.flatten_nil, List.append_nil]
  after_results
  rw [e, a]
  unfold REFV Cert.ReferenceKvSIdeal.Read.val_main_v24 Cert.ReferenceKvSIdeal.Read.val_main_v23 Cert.ReferenceKvSIdeal.Read.val_main_v20 Cert.ReferenceKvSIdeal.Read.val_main_v19
  unfold REF
  generalize Cert.ReferenceKvSIdeal.Read.val_main_v16 (F := Ideal) (m ((c : Thread nD τ).loc main_arg0)) (m ((c : Thread nD τ).loc main_arg1)) (m ((c : Thread nD τ).loc main_arg2)) (m ((c : Thread nD τ).loc main_arg3)) = R
  generalize m ((c : Thread nD τ).loc main_arg5) = X
  clear e a
  funext i
  dsimp only
  pointwise
  have h3 : (i 3).val < 64 := (i 3).isLt
  refine dite_congr rfl (fun h => congrArg X (funext fun a => ?_)) (fun h => rfl)
  match a with
  | ⟨0, _⟩ => rfl
  | ⟨1, _⟩ => rfl
  | ⟨2, _⟩ => exact Fin.ext (by show ((i 2).val * 64 + (i 3).val) / 64 = (i 2).val; omega)
  | ⟨3, _⟩ => exact Fin.ext (by show ((i 2).val * 64 + (i 3).val) % 64 = (i 3).val; omega)

end Cert.KernelKvSIdeal.Val
-- ==== Proof.lean ====
/- The claims of the chosen version's calls, one theorem each: the frames of every program, that idealizing the kernel
   rewrote nothing, and that kernel and reference have equal results as extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Attention
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import proofs.«01_k».proof.Proof.In
public import proofs.«01_k».proof.Proof.Gen.KernelPq
public import proofs.«01_k».proof.Proof.Gen.KernelPq.Skeleton
public import proofs.«01_k».proof.Proof.Gen.KernelPq.Launch
public import proofs.«01_k».proof.Proof.Gen.KernelPq.Points
public import proofs.«01_k».proof.Proof.Gen.KernelPq.Frame
public import proofs.«01_k».proof.Proof.Gen.KernelPqIdeal
public import proofs.«01_k».proof.Proof.Gen.KernelPqIdeal.Skeleton
public import proofs.«01_k».proof.Proof.Gen.KernelPqIdeal.Launch
public import proofs.«01_k».proof.Proof.Gen.KernelPqIdeal.Points
public import proofs.«01_k».proof.Proof.Gen.KernelPqIdeal.Frame
public import proofs.«01_k».proof.Proof.Gen.KernelPqIdeal.Value
public import proofs.«01_k».proof.Proof.Gen.ReferencePqIdeal
public import proofs.«01_k».proof.Proof.Gen.ReferencePqIdeal.Run
public import proofs.«01_k».proof.Proof.Gen.ReferencePqIdeal.Read
public import proofs.«01_k».proof.Proof.Pq
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.KernelQIdeal.Value
public import proofs.«01_k».proof.Proof.Gen.ReferenceQIdeal
public import proofs.«01_k».proof.Proof.Gen.ReferenceQIdeal.Run
public import proofs.«01_k».proof.Proof.Gen.ReferenceQIdeal.Read
public import proofs.«01_k».proof.Proof.Q
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Kv
public import proofs.«01_k».proof.Proof.Gen.KernelGated
public import proofs.«01_k».proof.Proof.Gen.KernelGated.Skeleton
public import proofs.«01_k».proof.Proof.Gen.KernelGated.Launch
public import proofs.«01_k».proof.Proof.Gen.KernelGated.Points
public import proofs.«01_k».proof.Proof.Gen.KernelGated.Frame
public import proofs.«01_k».proof.Proof.Gen.KernelGatedIdeal
public import proofs.«01_k».proof.Proof.Gen.KernelGatedIdeal.Skeleton
public import proofs.«01_k».proof.Proof.Gen.KernelGatedIdeal.Launch
public import proofs.«01_k».proof.Proof.Gen.KernelGatedIdeal.Points
public import proofs.«01_k».proof.Proof.Gen.KernelGatedIdeal.Frame
public import proofs.«01_k».proof.Proof.Gen.KernelGatedIdeal.Value
public import proofs.«01_k».proof.Proof.Gen.ReferenceGatedIdeal
public import proofs.«01_k».proof.Proof.Gen.ReferenceGatedIdeal.Run
public import proofs.«01_k».proof.Proof.Gen.ReferenceGatedIdeal.Read
public import proofs.«01_k».proof.Proof.Gated
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.Gen.ReferenceOIdeal.Read
public import proofs.«01_k».proof.Proof.O
public import proofs.«01_k».proof.Proof.Gen.KernelFinal
public import proofs.«01_k».proof.Proof.Gen.KernelFinal.Skeleton
public import proofs.«01_k».proof.Proof.Gen.KernelFinal.Launch
public import proofs.«01_k».proof.Proof.Gen.KernelFinal.Points
public import proofs.«01_k».proof.Proof.Gen.KernelFinal.Frame
public import proofs.«01_k».proof.Proof.Gen.KernelFinalIdeal
public import proofs.«01_k».proof.Proof.Gen.KernelFinalIdeal.Skeleton
public import proofs.«01_k».proof.Proof.Gen.KernelFinalIdeal.Launch
public import proofs.«01_k».proof.Proof.Gen.KernelFinalIdeal.Points
public import proofs.«01_k».proof.Proof.Gen.KernelFinalIdeal.Frame
public import proofs.«01_k».proof.Proof.Gen.KernelFinalIdeal.Value
public import proofs.«01_k».proof.Proof.Gen.ReferenceFinalIdeal
public import proofs.«01_k».proof.Proof.Gen.ReferenceFinalIdeal.Run
public import proofs.«01_k».proof.Proof.Gen.ReferenceFinalIdeal.Read
public import proofs.«01_k».proof.Proof.Final
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Gen.ReferenceConvIdeal.Read
public import proofs.«01_k».proof.Proof.Conv
public import proofs.«01_k».proof.Proof.Gen.KernelSsd
public import proofs.«01_k».proof.Proof.Gen.KernelSsd.Skeleton
public import proofs.«01_k».proof.Proof.Gen.KernelSsd.Launch
public import proofs.«01_k».proof.Proof.Gen.KernelSsd.Points
public import proofs.«01_k».proof.Proof.Gen.KernelSsd.Frame
public import proofs.«01_k».proof.Proof.Gen.KernelSsdIdeal
public import proofs.«01_k».proof.Proof.Gen.KernelSsdIdeal.Skeleton
public import proofs.«01_k».proof.Proof.Gen.KernelSsdIdeal.Launch
public import proofs.«01_k».proof.Proof.Gen.KernelSsdIdeal.Points
public import proofs.«01_k».proof.Proof.Gen.KernelSsdIdeal.Frame
public import proofs.«01_k».proof.Proof.Gen.KernelSsdIdeal.Value
public import proofs.«01_k».proof.Proof.Gen.ReferenceSsdIdeal
public import proofs.«01_k».proof.Proof.Gen.ReferenceSsdIdeal.Run
public import proofs.«01_k».proof.Proof.Ssd
public import proofs.«01_k».proof.Proof.Gen.KernelFinalS
public import proofs.«01_k».proof.Proof.Gen.KernelFinalS.Skeleton
public import proofs.«01_k».proof.Proof.Gen.KernelFinalS.Launch
public import proofs.«01_k».proof.Proof.Gen.KernelFinalS.Points
public import proofs.«01_k».proof.Proof.Gen.KernelFinalS.Frame
public import proofs.«01_k».proof.Proof.Gen.KernelFinalSIdeal
public import proofs.«01_k».proof.Proof.Gen.KernelFinalSIdeal.Skeleton
public import proofs.«01_k».proof.Proof.Gen.KernelFinalSIdeal.Launch
public import proofs.«01_k».proof.Proof.Gen.KernelFinalSIdeal.Points
public import proofs.«01_k».proof.Proof.Gen.KernelFinalSIdeal.Frame
public import proofs.«01_k».proof.Proof.Gen.KernelFinalSIdeal.Value
public import proofs.«01_k».proof.Proof.Gen.ReferenceFinalSIdeal
public import proofs.«01_k».proof.Proof.Gen.ReferenceFinalSIdeal.Run
public import proofs.«01_k».proof.Proof.Gen.ReferenceFinalSIdeal.Read
public import proofs.«01_k».proof.Proof.FinalS
public import proofs.«01_k».proof.Proof.Gen.KernelInS
public import proofs.«01_k».proof.Proof.Gen.KernelInS.Skeleton
public import proofs.«01_k».proof.Proof.Gen.KernelInS.Launch
public import proofs.«01_k».proof.Proof.Gen.KernelInS.Points
public import proofs.«01_k».proof.Proof.Gen.KernelInS.Frame
public import proofs.«01_k».proof.Proof.Gen.KernelInSIdeal
public import proofs.«01_k».proof.Proof.Gen.KernelInSIdeal.Skeleton
public import proofs.«01_k».proof.Proof.Gen.KernelInSIdeal.Launch
public import proofs.«01_k».proof.Proof.Gen.KernelInSIdeal.Points
public import proofs.«01_k».proof.Proof.Gen.KernelInSIdeal.Frame
public import proofs.«01_k».proof.Proof.Gen.ReferenceInSIdeal
public import proofs.«01_k».proof.Proof.Gen.ReferenceInSIdeal.Run
public import proofs.«01_k».proof.Proof.Gen.ReferenceInSIdeal.Read
public import proofs.«01_k».proof.Proof.InS
public import proofs.«01_k».proof.Proof.Gen.KernelKvS
public import proofs.«01_k».proof.Proof.Gen.KernelKvS.Skeleton
public import proofs.«01_k».proof.Proof.Gen.KernelKvS.Launch
public import proofs.«01_k».proof.Proof.Gen.KernelKvS.Points
public import proofs.«01_k».proof.Proof.Gen.KernelKvS.Frame
public import proofs.«01_k».proof.Proof.Gen.KernelKvSIdeal
public import proofs.«01_k».proof.Proof.Gen.KernelKvSIdeal.Skeleton
public import proofs.«01_k».proof.Proof.Gen.KernelKvSIdeal.Launch
public import proofs.«01_k».proof.Proof.Gen.KernelKvSIdeal.Points
public import proofs.«01_k».proof.Proof.Gen.KernelKvSIdeal.Frame
public import proofs.«01_k».proof.Proof.Gen.ReferenceKvSIdeal
public import proofs.«01_k».proof.Proof.Gen.ReferenceKvSIdeal.Run
public import proofs.«01_k».proof.Proof.Gen.ReferenceKvSIdeal.Read
public import proofs.«01_k».proof.Proof.KvS
public import proofs.«01_k».proof.Proof.Gen.Pre_finite
public import proofs.«01_k».proof.Proof.Gen.Pre_finite_dt
public import Idealize.ShloMosaic.Lib.Claim

@[expose] public section

set_option maxRecDepth 16384

namespace Cert.Proof

open Idealize.ShloMosaic Idealize.ShloMosaic.TcCoe Idealize.SL.Sem

theorem frame_Kernel : Cert.quiescent_Kernel := fun m ρ _ => Cert.Kernel.Gen.frame m ρ

theorem frame_KernelIdeal : Cert.quiescent_KernelIdeal := fun m ρ _ => Cert.KernelIdeal.Gen.frame m ρ

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_Attention : Cert.preserves_Kernel_KernelIdeal := trivial

theorem frame_KernelIdeal_finite [Cert.Pre_finite.Facts] : Cert.quiescent_KernelIdeal_pre_finite := fun m ρ _ => Cert.KernelIdeal.Gen.frame m ρ

theorem frame_ReferenceIdeal_finite [Cert.Pre_finite.Facts] : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_Attention [Cert.Pre_finite.Facts] : Cert.algebraic_KernelIdeal_ReferenceIdeal_pre_finite := by
  intro m g m' g' hp hm
  refine ⟨fun c => Cert.KernelIdeal.Val.REF (m (c.tc.loc Cert.KernelIdeal.main_arg0)) (m (c.tc.loc Cert.KernelIdeal.main_arg1)) (m (c.tc.loc Cert.KernelIdeal.main_arg2)), ?_, ?_⟩
  · run_from Cert.KernelIdeal.Gen.run_main m g
    · exact Cert.KernelIdeal.Val.final m c (Cert.KernelIdeal.Val.finite_of m hp c)
    · exact Cert.KernelIdeal.Gen.V_main_arg2 m c
  · refine (θ_run Cert.ReferenceIdeal.defs _ _).mono (fun r h c => ⟨(h c).1.trans ?_, (h c).2⟩) (Cert.ReferenceIdeal.Value.run (F := Ideal) m' g')
    obtain ⟨e0, e1, e2⟩ := hm c
    rw [Cert.KernelIdeal.Val.ref_value, e0, e1, e2]

theorem frame_KernelIn : Cert.quiescent_KernelIn := fun m ρ _ => Cert.KernelIn.Gen.frame m ρ

theorem frame_KernelInIdeal : Cert.quiescent_KernelInIdeal := fun m ρ _ => Cert.KernelInIdeal.Gen.frame m ρ

theorem frame_ReferenceInIdeal : Cert.quiescent_ReferenceInIdeal := fun m ρ _ =>
  (θ_run Cert.ReferenceInIdeal.defs _ _).mono (fun r h => ⟨fun c => (h c).2.2, sem_eq_zero_of_no_sems (by decide) r.2⟩)
    (Cert.ReferenceInIdeal.Value.run (F := Ideal) m ρ)

theorem preserves_In : Cert.preserves_KernelIn_KernelInIdeal := trivial

theorem algebraic_In : Cert.algebraic_KernelInIdeal_ReferenceInIdeal := by
  intro m g m' g' hp hm
  refine ⟨fun c => Cert.KernelInIdeal.Val.REF (m (c.tc.loc Cert.KernelInIdeal.main_arg0)) (m (c.tc.loc Cert.KernelInIdeal.main_arg1)) (m (c.tc.loc Cert.KernelInIdeal.main_arg2)),
    fun c => Cert.KernelInIdeal.Val.REFT (m (c.tc.loc Cert.KernelInIdeal.main_arg0)) (m (c.tc.loc Cert.KernelInIdeal.main_arg1)) (m (c.tc.loc Cert.KernelInIdeal.main_arg2)), ?_, ?_⟩
  · exact θ_run_mono (θ_run_and (Cert.KernelInIdeal.Gen.run_main m g) (Cert.KernelInIdeal.Gen.frame m g)) fun r h c =>
      ⟨((h.1 c).1 4).trans (Cert.KernelInIdeal.Val.final m c),
        ((h.1 c).2 Cert.KernelInIdeal.main_v7 (Pipeline.mem_restRefs_of Cert.KernelInIdeal.main_v7 (by decide) (by decide))).trans (Cert.KernelInIdeal.Val.tail m c), h.2.1 c⟩
  · refine (θ_run Cert.ReferenceInIdeal.defs _ _).mono (fun r h c => ⟨(h c).1.trans ?_, (h c).2.1.trans ?_, (h c).2.2⟩) (Cert.ReferenceInIdeal.Value.run (F := Ideal) m' g')
    · obtain ⟨e0, e1, e2⟩ := hm c
      rw [Cert.ReferenceInIdeal.Read.val_main_v14_eq, e0, e1, e2]
    · obtain ⟨e0, e1, e2⟩ := hm c
      rw [Cert.ReferenceInIdeal.Read.val_main_v17_eq, e0, e1, e2]

theorem frame_KernelPq : Cert.quiescent_KernelPq := fun m ρ _ => Cert.KernelPq.Gen.frame m ρ

theorem frame_KernelPqIdeal : Cert.quiescent_KernelPqIdeal := fun m ρ _ => Cert.KernelPqIdeal.Gen.frame m ρ

theorem frame_ReferencePqIdeal : Cert.quiescent_ReferencePqIdeal := fun m ρ _ =>
  (θ_run Cert.ReferencePqIdeal.defs _ _).mono (fun r h => ⟨fun c => (h c).2, sem_eq_zero_of_no_sems (by decide) r.2⟩)
    (Cert.ReferencePqIdeal.Value.run (F := Ideal) m ρ)

theorem preserves_Pq : Cert.preserves_KernelPq_KernelPqIdeal := trivial

theorem algebraic_Pq : Cert.algebraic_KernelPqIdeal_ReferencePqIdeal := by
  pair_intro
  · run_from Cert.KernelPqIdeal.Gen.run_main m g
  · run_from Cert.ReferencePqIdeal.Value.run m' g'
    exact (Cert.KernelPqIdeal.Val.final m c).symm

theorem frame_KernelQ : Cert.quiescent_KernelQ := fun m ρ _ => Cert.KernelQ.Gen.frame m ρ

theorem frame_KernelQIdeal : Cert.quiescent_KernelQIdeal := fun m ρ _ => Cert.KernelQIdeal.Gen.frame m ρ

theorem frame_ReferenceQIdeal : Cert.quiescent_ReferenceQIdeal := fun m ρ _ =>
  (θ_run Cert.ReferenceQIdeal.defs _ _).mono (fun r h => ⟨fun c => (h c).2, sem_eq_zero_of_no_sems (by decide) r.2⟩)
    (Cert.ReferenceQIdeal.Value.run (F := Ideal) m ρ)

theorem preserves_Q : Cert.preserves_KernelQ_KernelQIdeal := trivial

theorem algebraic_Q : Cert.algebraic_KernelQIdeal_ReferenceQIdeal := by
  pair_intro
  · run_from Cert.KernelQIdeal.Gen.run_main m g
  · run_from Cert.ReferenceQIdeal.Value.run m' g'
    exact (Cert.KernelQIdeal.Val.final m c).symm

theorem frame_KernelKv : Cert.quiescent_KernelKv := fun m ρ _ => Cert.KernelKv.Gen.frame m ρ

theorem frame_KernelKvIdeal : Cert.quiescent_KernelKvIdeal := fun m ρ _ => Cert.KernelKvIdeal.Gen.frame m ρ

theorem frame_ReferenceKvIdeal : Cert.quiescent_ReferenceKvIdeal := fun m ρ _ =>
  (θ_run Cert.ReferenceKvIdeal.defs _ _).mono (fun r h => ⟨fun c => (h c).2.2.2, sem_eq_zero_of_no_sems (by decide) r.2⟩)
    (Cert.ReferenceKvIdeal.Value.run (F := Ideal) m ρ)

theorem preserves_Kv : Cert.preserves_KernelKv_KernelKvIdeal := trivial

theorem algebraic_Kv : Cert.algebraic_KernelKvIdeal_ReferenceKvIdeal := by
  intro m g m' g' hp hm
  refine ⟨fun c => Cert.KernelKvIdeal.Val.REF (m (c.tc.loc Cert.KernelKvIdeal.main_arg0)) (m (c.tc.loc Cert.KernelKvIdeal.main_arg1)) (m (c.tc.loc Cert.KernelKvIdeal.main_arg2)) (m (c.tc.loc Cert.KernelKvIdeal.main_arg3)),
    fun c => Cert.KernelKvIdeal.Val.REFK (m (c.tc.loc Cert.KernelKvIdeal.main_arg0)) (m (c.tc.loc Cert.KernelKvIdeal.main_arg1)) (m (c.tc.loc Cert.KernelKvIdeal.main_arg2)) (m (c.tc.loc Cert.KernelKvIdeal.main_arg3)),
    fun c => Cert.KernelKvIdeal.Val.REFV (m (c.tc.loc Cert.KernelKvIdeal.main_arg0)) (m (c.tc.loc Cert.KernelKvIdeal.main_arg1)) (m (c.tc.loc Cert.KernelKvIdeal.main_arg2)) (m (c.tc.loc Cert.KernelKvIdeal.main_arg3)), ?_, ?_⟩
  · exact θ_run_mono (θ_run_and (Cert.KernelKvIdeal.Gen.run_main m g) (Cert.KernelKvIdeal.Gen.frame m g)) fun r h c =>
      ⟨((h.1 c).1 4).trans (Cert.KernelKvIdeal.Val.final m c),
        ((h.1 c).2 Cert.KernelKvIdeal.main_v7 (Pipeline.mem_restRefs_of Cert.KernelKvIdeal.main_v7 (by decide) (by decide))).trans (Cert.KernelKvIdeal.Val.tail_k m c),
        ((h.1 c).2 Cert.KernelKvIdeal.main_v8 (Pipeline.mem_restRefs_of Cert.KernelKvIdeal.main_v8 (by decide) (by decide))).trans (Cert.KernelKvIdeal.Val.tail_v m c), h.2.1 c⟩
  · refine (θ_run Cert.ReferenceKvIdeal.defs _ _).mono (fun r h c => ⟨(h c).1.trans ?_, (h c).2.1.trans ?_, (h c).2.2.1.trans ?_, (h c).2.2.2⟩) (Cert.ReferenceKvIdeal.Value.run (F := Ideal) m' g')
    · obtain ⟨e0, e1, e2, e3⟩ := hm c
      rw [Cert.ReferenceKvIdeal.Read.val_main_v16_eq, e0, e1, e2, e3]
    · obtain ⟨e0, e1, e2, e3⟩ := hm c
      rw [Cert.ReferenceKvIdeal.Read.val_main_v21_eq, e0, e1, e2, e3]
    · obtain ⟨e0, e1, e2, e3⟩ := hm c
      rw [Cert.ReferenceKvIdeal.Read.val_main_v22_eq, e0, e1, e2, e3]

theorem frame_KernelGated : Cert.quiescent_KernelGated := fun m ρ _ => Cert.KernelGated.Gen.frame m ρ

theorem frame_KernelGatedIdeal : Cert.quiescent_KernelGatedIdeal := fun m ρ _ => Cert.KernelGatedIdeal.Gen.frame m ρ

theorem frame_ReferenceGatedIdeal : Cert.quiescent_ReferenceGatedIdeal := fun m ρ _ =>
  (θ_run Cert.ReferenceGatedIdeal.defs _ _).mono (fun r h => ⟨fun c => (h c).2, sem_eq_zero_of_no_sems (by decide) r.2⟩)
    (Cert.ReferenceGatedIdeal.Value.run (F := Ideal) m ρ)

theorem preserves_Gated : Cert.preserves_KernelGated_KernelGatedIdeal := trivial

theorem algebraic_Gated : Cert.algebraic_KernelGatedIdeal_ReferenceGatedIdeal := by
  pair_intro
  · run_from Cert.KernelGatedIdeal.Gen.run_main m g
  · run_from Cert.ReferenceGatedIdeal.Value.run m' g'
    exact (Cert.KernelGatedIdeal.Val.final m c).symm

theorem frame_KernelO : Cert.quiescent_KernelO := fun m ρ _ => Cert.KernelO.Gen.frame m ρ

theorem frame_KernelOIdeal : Cert.quiescent_KernelOIdeal := fun m ρ _ => Cert.KernelOIdeal.Gen.frame m ρ

theorem frame_ReferenceOIdeal : Cert.quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run (F := Ideal) m ρ)

theorem preserves_O : Cert.preserves_KernelO_KernelOIdeal := trivial

theorem algebraic_O : Cert.algebraic_KernelOIdeal_ReferenceOIdeal := by
  pair_intro
  · run_from Cert.KernelOIdeal.Gen.run_main m g
  · run_from Cert.ReferenceOIdeal.Value.run m' g'
    exact (Cert.KernelOIdeal.Val.final m c).symm

theorem frame_KernelFinal : Cert.quiescent_KernelFinal := fun m ρ _ => Cert.KernelFinal.Gen.frame m ρ

theorem frame_KernelFinalIdeal : Cert.quiescent_KernelFinalIdeal := fun m ρ _ => Cert.KernelFinalIdeal.Gen.frame m ρ

theorem frame_ReferenceFinalIdeal : Cert.quiescent_ReferenceFinalIdeal := fun m ρ _ =>
  (θ_run Cert.ReferenceFinalIdeal.defs _ _).mono (fun r h => ⟨fun c => (h c).2, sem_eq_zero_of_no_sems (by decide) r.2⟩)
    (Cert.ReferenceFinalIdeal.Value.run (F := Ideal) m ρ)

theorem preserves_Final : Cert.preserves_KernelFinal_KernelFinalIdeal := trivial

theorem algebraic_Final : Cert.algebraic_KernelFinalIdeal_ReferenceFinalIdeal := by
  pair_intro
  · run_from Cert.KernelFinalIdeal.Gen.run_main m g
  · run_from Cert.ReferenceFinalIdeal.Value.run m' g'
    exact (Cert.KernelFinalIdeal.Val.final m c).symm

theorem frame_KernelConv : Cert.quiescent_KernelConv := fun m ρ _ => Cert.KernelConv.Gen.frame m ρ

theorem frame_KernelConvIdeal : Cert.quiescent_KernelConvIdeal := fun m ρ _ => Cert.KernelConvIdeal.Gen.frame m ρ

theorem frame_ReferenceConvIdeal : Cert.quiescent_ReferenceConvIdeal := fun m ρ _ =>
  (θ_run Cert.ReferenceConvIdeal.defs _ _).mono (fun r h => ⟨fun c => (h c).2, sem_eq_zero_of_no_sems (by decide) r.2⟩)
    (Cert.ReferenceConvIdeal.Value.run (F := Ideal) m ρ)

theorem preserves_Conv : Cert.preserves_KernelConv_KernelConvIdeal := trivial

theorem algebraic_Conv : Cert.algebraic_KernelConvIdeal_ReferenceConvIdeal := by
  intro m g m' g' hp hm
  refine ⟨fun c => Cert.KernelConvIdeal.Val.REF (m (c.tc.loc Cert.KernelConvIdeal.main_arg0)) (m (c.tc.loc Cert.KernelConvIdeal.main_arg1)) (m (c.tc.loc Cert.KernelConvIdeal.main_arg2)) (m (c.tc.loc Cert.KernelConvIdeal.main_arg3)), ?_, ?_⟩
  · run_from Cert.KernelConvIdeal.Gen.run_main m g
    · exact Cert.KernelConvIdeal.Val.final m c
    · exact Cert.KernelConvIdeal.Gen.V_main_arg1 m c
    · exact Cert.KernelConvIdeal.Gen.V_main_arg3 m c
  · refine (θ_run Cert.ReferenceConvIdeal.defs _ _).mono (fun r h c => ⟨(h c).1.trans ?_, (h c).2⟩) (Cert.ReferenceConvIdeal.Value.run (F := Ideal) m' g')
    obtain ⟨e0, e1, e2, e3⟩ := hm c
    rw [Cert.ReferenceConvIdeal.Read.val_main_v34_eq, e0, e1, e2, e3]

theorem frame_KernelSsd : Cert.quiescent_KernelSsd := fun m ρ _ => Cert.KernelSsd.Gen.frame m ρ

theorem frame_KernelSsdIdeal : Cert.quiescent_KernelSsdIdeal := fun m ρ _ => Cert.KernelSsdIdeal.Gen.frame m ρ

theorem frame_ReferenceSsdIdeal : Cert.quiescent_ReferenceSsdIdeal := fun m ρ _ =>
  (θ_run Cert.ReferenceSsdIdeal.defs _ _).mono (fun r h => ⟨fun c => (h c).2.2, sem_eq_zero_of_no_sems (by decide) r.2⟩)
    (Cert.ReferenceSsdIdeal.Value.run (F := Ideal) m ρ)

theorem preserves_Ssd : Cert.preserves_KernelSsd_KernelSsdIdeal := trivial

theorem frame_KernelSsdIdeal_finite_dt [Cert.Pre_finite_dt.Facts] : Cert.quiescent_KernelSsdIdeal_pre_finite_dt := fun m ρ _ => Cert.KernelSsdIdeal.Gen.frame m ρ

theorem frame_ReferenceSsdIdeal_finite_dt [Cert.Pre_finite_dt.Facts] : Cert.quiescent_ReferenceSsdIdeal_pre_finite_dt := fun m ρ _ =>
  (θ_run Cert.ReferenceSsdIdeal.defs _ _).mono (fun r h => ⟨fun c => (h c).2.2, sem_eq_zero_of_no_sems (by decide) r.2⟩)
    (Cert.ReferenceSsdIdeal.Value.run (F := Ideal) m ρ)

theorem algebraic_Ssd [Cert.Pre_finite_dt.Facts] : Cert.algebraic_KernelSsdIdeal_ReferenceSsdIdeal_pre_finite_dt := by
  intro m g m' g' hp hm
  refine ⟨fun c => Cert.KernelSsdIdeal.Val.REFY (m (c.tc.loc Cert.KernelSsdIdeal.main_arg0)) (m (c.tc.loc Cert.KernelSsdIdeal.main_arg1)) (m (c.tc.loc Cert.KernelSsdIdeal.main_arg2)) (m (c.tc.loc Cert.KernelSsdIdeal.main_arg3)) (m (c.tc.loc Cert.KernelSsdIdeal.main_arg4)) (m (c.tc.loc Cert.KernelSsdIdeal.main_arg5)),
    fun c => Cert.KernelSsdIdeal.Val.REFS (m (c.tc.loc Cert.KernelSsdIdeal.main_arg0)) (m (c.tc.loc Cert.KernelSsdIdeal.main_arg1)) (m (c.tc.loc Cert.KernelSsdIdeal.main_arg2)) (m (c.tc.loc Cert.KernelSsdIdeal.main_arg3)) (m (c.tc.loc Cert.KernelSsdIdeal.main_arg5)), ?_, ?_⟩
  · exact θ_run_mono (θ_run_and (Cert.KernelSsdIdeal.Gen.run_main m g) (Cert.KernelSsdIdeal.Gen.frame m g)) fun r h c =>
      ⟨((h.1 c).1 10).trans (Cert.KernelSsdIdeal.Val.final10 m c (Cert.KernelSsdIdeal.Val.finite_of m hp c)),
        ((h.1 c).1 11).trans (Cert.KernelSsdIdeal.Val.final11 m c (Cert.KernelSsdIdeal.Val.finite_of m hp c)), h.2.1 c⟩
  · refine (θ_run Cert.ReferenceSsdIdeal.defs _ _).mono (fun r h c => ⟨(h c).1.trans ?_, (h c).2.1.trans ?_, (h c).2.2⟩) (Cert.ReferenceSsdIdeal.Value.run (F := Ideal) m' g')
    · obtain ⟨e0, e1, e2, e3, e4, e5⟩ := hm c
      rw [Cert.KernelSsdIdeal.Val.ref_rows, e0, e1, e2, e3, e4, e5]
    · obtain ⟨e0, e1, e2, e3, e4, e5⟩ := hm c
      rw [Cert.KernelSsdIdeal.Val.ref_states, e0, e1, e2, e3, e5]

theorem frame_KernelFinalS : Cert.quiescent_KernelFinalS := fun m ρ _ => Cert.KernelFinalS.Gen.frame m ρ

theorem frame_KernelFinalSIdeal : Cert.quiescent_KernelFinalSIdeal := fun m ρ _ => Cert.KernelFinalSIdeal.Gen.frame m ρ

theorem frame_ReferenceFinalSIdeal : Cert.quiescent_ReferenceFinalSIdeal := fun m ρ _ =>
  (θ_run Cert.ReferenceFinalSIdeal.defs _ _).mono (fun r h => ⟨fun c => (h c).2, sem_eq_zero_of_no_sems (by decide) r.2⟩)
    (Cert.ReferenceFinalSIdeal.Value.run (F := Ideal) m ρ)

theorem preserves_FinalS : Cert.preserves_KernelFinalS_KernelFinalSIdeal := trivial

theorem algebraic_FinalS : Cert.algebraic_KernelFinalSIdeal_ReferenceFinalSIdeal := by
  pair_intro
  · run_from Cert.KernelFinalSIdeal.Gen.run_main m g
  · run_from Cert.ReferenceFinalSIdeal.Value.run m' g'
    exact (Cert.KernelFinalSIdeal.Val.final m c).symm

theorem frame_KernelInS : Cert.quiescent_KernelInS := fun m ρ _ => Cert.KernelInS.Gen.frame m ρ

theorem frame_KernelInSIdeal : Cert.quiescent_KernelInSIdeal := fun m ρ _ => Cert.KernelInSIdeal.Gen.frame m ρ

theorem frame_ReferenceInSIdeal : Cert.quiescent_ReferenceInSIdeal := fun m ρ _ =>
  (θ_run Cert.ReferenceInSIdeal.defs _ _).mono (fun r h => ⟨fun c => (h c).2.2, sem_eq_zero_of_no_sems (by decide) r.2⟩)
    (Cert.ReferenceInSIdeal.Value.run (F := Ideal) m ρ)

theorem preserves_InS : Cert.preserves_KernelInS_KernelInSIdeal := trivial

theorem algebraic_InS : Cert.algebraic_KernelInSIdeal_ReferenceInSIdeal := by
  intro m g m' g' hp hm
  refine ⟨fun c => Cert.KernelInSIdeal.Val.REF (m (c.tc.loc Cert.KernelInSIdeal.main_arg0)) (m (c.tc.loc Cert.KernelInSIdeal.main_arg1)) (m (c.tc.loc Cert.KernelInSIdeal.main_arg2)),
    fun c => Cert.KernelInSIdeal.Val.REFT (m (c.tc.loc Cert.KernelInSIdeal.main_arg0)) (m (c.tc.loc Cert.KernelInSIdeal.main_arg1)) (m (c.tc.loc Cert.KernelInSIdeal.main_arg2)), ?_, ?_⟩
  · exact θ_run_mono (θ_run_and (Cert.KernelInSIdeal.Gen.run_main m g) (Cert.KernelInSIdeal.Gen.frame m g)) fun r h c =>
      ⟨((h.1 c).1 4).trans (Cert.KernelInSIdeal.Val.final m c),
        ((h.1 c).2 Cert.KernelInSIdeal.main_v7 (Pipeline.mem_restRefs_of Cert.KernelInSIdeal.main_v7 (by decide) (by decide))).trans (Cert.KernelInSIdeal.Val.tail m c), h.2.1 c⟩
  · refine (θ_run Cert.ReferenceInSIdeal.defs _ _).mono (fun r h c => ⟨(h c).1.trans ?_, (h c).2.1.trans ?_, (h c).2.2⟩) (Cert.ReferenceInSIdeal.Value.run (F := Ideal) m' g')
    · obtain ⟨e0, e1, e2⟩ := hm c
      rw [Cert.ReferenceInSIdeal.Read.val_main_v14_eq, e0, e1, e2]
    · obtain ⟨e0, e1, e2⟩ := hm c
      rw [Cert.ReferenceInSIdeal.Read.val_main_v17_eq, e0, e1, e2]

theorem frame_KernelKvS : Cert.quiescent_KernelKvS := fun m ρ _ => Cert.KernelKvS.Gen.frame m ρ

theorem frame_KernelKvSIdeal : Cert.quiescent_KernelKvSIdeal := fun m ρ _ => Cert.KernelKvSIdeal.Gen.frame m ρ

theorem frame_ReferenceKvSIdeal : Cert.quiescent_ReferenceKvSIdeal := fun m ρ _ =>
  (θ_run Cert.ReferenceKvSIdeal.defs _ _).mono (fun r h => ⟨fun c => (h c).2.2, sem_eq_zero_of_no_sems (by decide) r.2⟩)
    (Cert.ReferenceKvSIdeal.Value.run (F := Ideal) m ρ)

theorem preserves_KvS : Cert.preserves_KernelKvS_KernelKvSIdeal := trivial

theorem algebraic_KvS : Cert.algebraic_KernelKvSIdeal_ReferenceKvSIdeal := by
  intro m g m' g' hp hm
  refine ⟨fun c => Cert.KernelKvSIdeal.Val.REFK (m (c.tc.loc Cert.KernelKvSIdeal.main_arg0)) (m (c.tc.loc Cert.KernelKvSIdeal.main_arg1)) (m (c.tc.loc Cert.KernelKvSIdeal.main_arg2)) (m (c.tc.loc Cert.KernelKvSIdeal.main_arg3)) (m (c.tc.loc Cert.KernelKvSIdeal.main_arg4)),
    fun c => Cert.KernelKvSIdeal.Val.REFV (m (c.tc.loc Cert.KernelKvSIdeal.main_arg0)) (m (c.tc.loc Cert.KernelKvSIdeal.main_arg1)) (m (c.tc.loc Cert.KernelKvSIdeal.main_arg2)) (m (c.tc.loc Cert.KernelKvSIdeal.main_arg3)) (m (c.tc.loc Cert.KernelKvSIdeal.main_arg5)), ?_, ?_⟩
  · exact θ_run_mono (θ_run_and (Cert.KernelKvSIdeal.Gen.run_main m g) (Cert.KernelKvSIdeal.Gen.frame m g)) fun r h c =>
      ⟨((h.1 c).2 Cert.KernelKvSIdeal.main_v12 (Pipeline.mem_restRefs_of Cert.KernelKvSIdeal.main_v12 (by decide) (by decide))).trans (Cert.KernelKvSIdeal.Val.tail_k m c),
        ((h.1 c).2 Cert.KernelKvSIdeal.main_v14 (Pipeline.mem_restRefs_of Cert.KernelKvSIdeal.main_v14 (by decide) (by decide))).trans (Cert.KernelKvSIdeal.Val.tail_v m c), h.2.1 c⟩
  · refine (θ_run Cert.ReferenceKvSIdeal.defs _ _).mono (fun r h c => ⟨(h c).1.trans ?_, (h c).2.1.trans ?_, (h c).2.2⟩) (Cert.ReferenceKvSIdeal.Value.run (F := Ideal) m' g')
    · obtain ⟨e0, e1, e2, e3, e4, e5⟩ := hm c
      rw [Cert.ReferenceKvSIdeal.Read.val_main_v22_eq, e0, e1, e2, e3, e4]
    · obtain ⟨e0, e1, e2, e3, e4, e5⟩ := hm c
      rw [Cert.ReferenceKvSIdeal.Read.val_main_v24_eq, e0, e1, e2, e3, e5]

theorem claim : Cert.Claim :=
  ⟨Cert.Kernel.Gen.facts, Cert.KernelIdeal.Gen.facts, Cert.ReferenceIdeal.Gen.facts, Cert.KernelIn.Gen.facts, Cert.KernelInIdeal.Gen.facts, Cert.ReferenceInIdeal.Gen.facts, Cert.KernelPq.Gen.facts, Cert.KernelPqIdeal.Gen.facts, Cert.ReferencePqIdeal.Gen.facts, Cert.KernelQ.Gen.facts, Cert.KernelQIdeal.Gen.facts, Cert.ReferenceQIdeal.Gen.facts, Cert.KernelKv.Gen.facts, Cert.KernelKvIdeal.Gen.facts, Cert.ReferenceKvIdeal.Gen.facts, Cert.KernelGated.Gen.facts, Cert.KernelGatedIdeal.Gen.facts, Cert.ReferenceGatedIdeal.Gen.facts, Cert.KernelO.Gen.facts, Cert.KernelOIdeal.Gen.facts, Cert.ReferenceOIdeal.Gen.facts, Cert.KernelFinal.Gen.facts, Cert.KernelFinalIdeal.Gen.facts, Cert.ReferenceFinalIdeal.Gen.facts, Cert.KernelConv.Gen.facts, Cert.KernelConvIdeal.Gen.facts, Cert.ReferenceConvIdeal.Gen.facts, Cert.KernelSsd.Gen.facts, Cert.KernelSsdIdeal.Gen.facts, Cert.ReferenceSsdIdeal.Gen.facts, Cert.KernelFinalS.Gen.facts, Cert.KernelFinalSIdeal.Gen.facts, Cert.ReferenceFinalSIdeal.Gen.facts, Cert.KernelInS.Gen.facts, Cert.KernelInSIdeal.Gen.facts, Cert.ReferenceInSIdeal.Gen.facts, Cert.KernelKvS.Gen.facts, Cert.KernelKvSIdeal.Gen.facts, Cert.ReferenceKvSIdeal.Gen.facts, Cert.Pre_finite.Gen.facts, Cert.Pre_finite_dt.Gen.facts,
    frame_Kernel, frame_KernelIdeal, frame_KernelIdeal_finite, frame_ReferenceIdeal, frame_ReferenceIdeal_finite, frame_KernelIn, frame_KernelInIdeal, frame_ReferenceInIdeal, frame_KernelPq, frame_KernelPqIdeal, frame_ReferencePqIdeal, frame_KernelQ, frame_KernelQIdeal, frame_ReferenceQIdeal, frame_KernelKv, frame_KernelKvIdeal, frame_ReferenceKvIdeal, frame_KernelGated, frame_KernelGatedIdeal, frame_ReferenceGatedIdeal, frame_KernelO, frame_KernelOIdeal, frame_ReferenceOIdeal, frame_KernelFinal, frame_KernelFinalIdeal, frame_ReferenceFinalIdeal, frame_KernelConv, frame_KernelConvIdeal, frame_ReferenceConvIdeal, frame_KernelSsd, frame_KernelSsdIdeal, frame_KernelSsdIdeal_finite_dt, frame_ReferenceSsdIdeal, frame_ReferenceSsdIdeal_finite_dt, frame_KernelFinalS, frame_KernelFinalSIdeal, frame_ReferenceFinalSIdeal, frame_KernelInS, frame_KernelInSIdeal, frame_ReferenceInSIdeal, frame_KernelKvS, frame_KernelKvSIdeal, frame_ReferenceKvSIdeal,
    preserves_Attention, algebraic_Attention, preserves_In, algebraic_In, preserves_Pq, algebraic_Pq, preserves_Q, algebraic_Q, preserves_Kv, algebraic_Kv, preserves_Gated, algebraic_Gated, preserves_O, algebraic_O, preserves_Final, algebraic_Final, preserves_Conv, algebraic_Conv, preserves_Ssd, algebraic_Ssd, preserves_FinalS, algebraic_FinalS, preserves_InS, algebraic_InS, preserves_KvS, algebraic_KvS⟩

end Cert.Proof

end
